-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_sample [hPre_finite_sample : Cert.Pre_finite_sample.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_sample [hPre_finite_sample : Cert.Pre_finite_sample.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_sample [hKernel5Ideal : Cert.Kernel5Ideal.Facts] [hPre_finite_sample : Cert.Pre_finite_sample.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_sample m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_sample [hReference5Ideal : Cert.Reference5Ideal.Facts] [hPre_finite_sample : Cert.Pre_finite_sample.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_sample m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)) (v5 : (c : Dev Cert.Kernel2Ideal.nD) → Buf (Elt Ideal) ((c.tc : Thread Cert.Kernel2Ideal.nD Cert.Kernel2Ideal.τ).loc Cert.Kernel2Ideal.main_v3_5)) (v6 : (c : Dev Cert.Kernel2Ideal.nD) → Buf (Elt Ideal) ((c.tc : Thread Cert.Kernel2Ideal.nD Cert.Kernel2Ideal.τ).loc Cert.Kernel2Ideal.main_v3_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_v3_5) = v5 c
          ∧ r.2.mem ((c.tc : Thread Cert.Kernel2Ideal.nD Cert.Kernel2Ideal.τ).loc Cert.Kernel2Ideal.main_v3_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v30) = v3 c
          ∧ r.2.mem ((c.tc : Thread Cert.Reference2Ideal.nD Cert.Reference2Ideal.τ).loc Cert.Reference2Ideal.main_v31) = v4 c
          ∧ r.2.mem ((c.tc : Thread Cert.Reference2Ideal.nD Cert.Reference2Ideal.τ).loc Cert.Reference2Ideal.main_v32) = v5 c
          ∧ r.2.mem ((c.tc : Thread Cert.Reference2Ideal.nD Cert.Reference2Ideal.τ).loc Cert.Reference2Ideal.main_v34) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)) (v4 : (c : Dev Cert.Kernel4Ideal.nD) → Buf (Elt Ideal) ((c.tc : Thread Cert.Kernel4Ideal.nD Cert.Kernel4Ideal.τ).loc Cert.Kernel4Ideal.main_v3_4)) (v5 : (c : Dev Cert.Kernel4Ideal.nD) → Buf (Elt Ideal) ((c.tc : Thread Cert.Kernel4Ideal.nD Cert.Kernel4Ideal.τ).loc Cert.Kernel4Ideal.main_v3_5)) (v6 : (c : Dev Cert.Kernel4Ideal.nD) → Buf (Elt Ideal) ((c.tc : Thread Cert.Kernel4Ideal.nD Cert.Kernel4Ideal.τ).loc Cert.Kernel4Ideal.main_v3_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_v3_4) = v4 c
          ∧ r.2.mem ((c.tc : Thread Cert.Kernel4Ideal.nD Cert.Kernel4Ideal.τ).loc Cert.Kernel4Ideal.main_v3_5) = v5 c
          ∧ r.2.mem ((c.tc : Thread Cert.Kernel4Ideal.nD Cert.Kernel4Ideal.τ).loc Cert.Kernel4Ideal.main_v3_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_v27) = v3 c
          ∧ r.2.mem ((c.tc : Thread Cert.Reference4Ideal.nD Cert.Reference4Ideal.τ).loc Cert.Reference4Ideal.main_v28) = v4 c
          ∧ r.2.mem ((c.tc : Thread Cert.Reference4Ideal.nD Cert.Reference4Ideal.τ).loc Cert.Reference4Ideal.main_v29) = v5 c
          ∧ r.2.mem ((c.tc : Thread Cert.Reference4Ideal.nD Cert.Reference4Ideal.τ).loc Cert.Reference4Ideal.main_v31) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_sample [hKernel5Ideal : Cert.Kernel5Ideal.Facts] [hReference5Ideal : Cert.Reference5Ideal.Facts] [hPre_finite_sample : Cert.Pre_finite_sample.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_sample m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v33)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v33) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)) (v2 : (c : Dev Cert.Kernel6Ideal.nD) → Buf (Elt Ideal) ((c.tc : Thread Cert.Kernel6Ideal.nD Cert.Kernel6Ideal.τ).loc Cert.Kernel6Ideal.main_v15_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_v15_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v53) = v0 c
          ∧ r.2.mem ((c.tc : Thread Cert.Reference6Ideal.nD Cert.Reference6Ideal.τ).loc Cert.Reference6Ideal.main_v55) = v1 c
          ∧ r.2.mem ((c.tc : Thread Cert.Reference6Ideal.nD Cert.Reference6Ideal.τ).loc Cert.Reference6Ideal.main_v52) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v23_0)) (v1 : (c : Dev Cert.Kernel7Ideal.nD) → Buf (Elt Ideal) ((c.tc : Thread Cert.Kernel7Ideal.nD Cert.Kernel7Ideal.τ).loc Cert.Kernel7Ideal.main_v23_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v23_0) = v0 c
          ∧ r.2.mem ((c.tc : Thread Cert.Kernel7Ideal.nD Cert.Kernel7Ideal.τ).loc Cert.Kernel7Ideal.main_v23_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_v28) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite_sample : Cert.Pre_finite_sample.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_sample (hKernel5Ideal := hKernel5Ideal) (hPre_finite_sample := hPre_finite_sample)
    ∧ quiescent_Reference5Ideal (hReference5Ideal := hReference5Ideal)
    ∧ quiescent_Reference5Ideal_pre_finite_sample (hReference5Ideal := hReference5Ideal) (hPre_finite_sample := hPre_finite_sample)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_sample (hKernel5Ideal := hKernel5Ideal) (hReference5Ideal := hReference5Ideal) (hPre_finite_sample := hPre_finite_sample)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8x4096x512 : Shape := ⟨3, ![8, 4096, 512]⟩
abbrev S8x4096x8x64 : Shape := ⟨4, ![8, 4096, 8, 64]⟩
abbrev S8x257 : Shape := ⟨2, ![8, 257]⟩
abbrev S_ : Shape := ⟨0, ![]⟩

class Facts : Prop where
  bcast_S_S8x4096x512 : S_.BroadcastsInDim S8x4096x512 (![] : Fin 0 → Fin S8x4096x512.rank)
  bcast_S_S8x4096x8x64 : S_.BroadcastsInDim S8x4096x8x64 (![] : Fin 0 → Fin S8x4096x8x64.rank)
  bcast_S_S8x257 : S_.BroadcastsInDim S8x257 (![] : Fin 0 → Fin S8x257.rank)

variable [Facts]

def fn {F : FTy → Type} [FloatOps F] (main_arg0 : FVec F S8x4096x512 .f32) (main_arg1 : FVec F S8x4096x8x64 .f32) (main_arg2 : FVec F S8x4096x8x64 .f32) (main_arg3 : FVec F S8x257 .f32) : IVec S8x4096x512 1 × IVec S8x4096x8x64 1 × IVec S8x257 1 :=
  let main_cst : FVec F S_ .f32 := constant S_ .f32 0xFF800000#32
  let main_v0 : FVec F S8x4096x512 .f32 := broadcastInDim S8x4096x512 ![] bcast_S_S8x4096x512 main_cst
  let main_v1 : IVec S8x4096x512 1 := cmpf .ogt main_arg0 main_v0
  let main_cst_0 : FVec F S_ .f32 := constant S_ .f32 0x7F800000#32
  let main_v2 : FVec F S8x4096x512 .f32 := broadcastInDim S8x4096x512 ![] bcast_S_S8x4096x512 main_cst_0
  let main_v3 : IVec S8x4096x512 1 := cmpf .olt main_arg0 main_v2
  let main_v4 : IVec S8x4096x512 1 := andi main_v1 main_v3
  let main_cst_1 : FVec F S_ .f32 := constant S_ .f32 0xFF800000#32
  let main_v5 : FVec F S8x4096x8x64 .f32 := broadcastInDim S8x4096x8x64 ![] bcast_S_S8x4096x8x64 main_cst_1
  let main_v6 : IVec S8x4096x8x64 1 := cmpf .ogt main_arg1 main_v5
  let main_cst_2 : FVec F S_ .f32 := constant S_ .f32 0x7F800000#32
  let main_v7 : FVec F S8x4096x8x64 .f32 := broadcastInDim S8x4096x8x64 ![] bcast_S_S8x4096x8x64 main_cst_2
  let main_v8 : IVec S8x4096x8x64 1 := cmpf .olt main_arg1 main_v7
  let main_v9 : IVec S8x4096x8x64 1 := andi main_v6 main_v8
  let main_cst_3 : FVec F S_ .f32 := constant S_ .f32 0xFF800000#32
  let main_v10 : FVec F S8x257 .f32 := broadcastInDim S8x257 ![] bcast_S_S8x257 main_cst_3
  let main_v11 : IVec S8x257 1 := cmpf .ogt main_arg3 main_v10
  let main_cst_4 : FVec F S_ .f32 := constant S_ .f32 0x7F800000#32
  let main_v12 : FVec F S8x257 .f32 := broadcastInDim S8x257 ![] bcast_S_S8x257 main_cst_4
  let main_v13 : IVec S8x257 1 := cmpf .olt main_arg3 main_v12
  let main_v14 : IVec S8x257 1 := andi main_v11 main_v13
  (main_v4, main_v9, main_v14)
-- ==== Pre_finite_sample.lean ====
abbrev S8x32x512 : Shape := ⟨3, ![8, 32, 512]⟩
abbrev S8x32x8x64 : Shape := ⟨4, ![8, 32, 8, 64]⟩
abbrev S8x512x8x64 : Shape := ⟨4, ![8, 512, 8, 64]⟩
abbrev S8x257 : Shape := ⟨2, ![8, 257]⟩
abbrev S_ : Shape := ⟨0, ![]⟩

class Facts : Prop where
  bcast_S_S8x32x512 : S_.BroadcastsInDim S8x32x512 (![] : Fin 0 → Fin S8x32x512.rank)
  bcast_S_S8x32x8x64 : S_.BroadcastsInDim S8x32x8x64 (![] : Fin 0 → Fin S8x32x8x64.rank)
  bcast_S_S8x512x8x64 : S_.BroadcastsInDim S8x512x8x64 (![] : Fin 0 → Fin S8x512x8x64.rank)
  bcast_S_S8x257 : S_.BroadcastsInDim S8x257 (![] : Fin 0 → Fin S8x257.rank)

variable [Facts]

def fn_part1 {F : FTy → Type} [FloatOps F] (main_arg5 : FVec F S8x257 .f32) (main_v4 : IVec S8x32x512 1) (main_v9 : IVec S8x32x8x64 1) (main_v14 : IVec S8x512x8x64 1) (main_v16 : IVec S8x257 1) : IVec S8x32x512 1 × IVec S8x32x8x64 1 × IVec S8x512x8x64 1 × IVec S8x257 1 :=
  let main_cst_6 : FVec F S_ .f32 := constant S_ .f32 0x7F800000#32
  let main_v17 : FVec F S8x257 .f32 := broadcastInDim S8x257 ![] bcast_S_S8x257 main_cst_6
  let main_v18 : IVec S8x257 1 := cmpf .olt main_arg5 main_v17
  let main_v19 : IVec S8x257 1 := andi main_v16 main_v18
  (main_v4, main_v9, main_v14, main_v19)

def fn {F : FTy → Type} [FloatOps F] (main_arg0 : FVec F S8x32x512 .f32) (main_arg1 : FVec F S8x32x8x64 .f32) (main_arg2 : FVec F S8x32x8x64 .f32) (main_arg3 : FVec F S8x512x8x64 .f32) (main_arg4 : FVec F S8x512x8x64 .f32) (main_arg5 : FVec F S8x257 .f32) : IVec S8x32x512 1 × IVec S8x32x8x64 1 × IVec S8x512x8x64 1 × IVec S8x257 1 :=
  let main_cst : FVec F S_ .f32 := constant S_ .f32 0xFF800000#32
  let main_v0 : FVec F S8x32x512 .f32 := broadcastInDim S8x32x512 ![] bcast_S_S8x32x512 main_cst
  let main_v1 : IVec S8x32x512 1 := cmpf .ogt main_arg0 main_v0
  let main_cst_0 : FVec F S_ .f32 := constant S_ .f32 0x7F800000#32
  let main_v2 : FVec F S8x32x512 .f32 := broadcastInDim S8x32x512 ![] bcast_S_S8x32x512 main_cst_0
  let main_v3 : IVec S8x32x512 1 := cmpf .olt main_arg0 main_v2
  let main_v4 : IVec S8x32x512 1 := andi main_v1 main_v3
  let main_cst_1 : FVec F S_ .f32 := constant S_ .f32 0xFF800000#32
  let main_v5 : FVec F S8x32x8x64 .f32 := broadcastInDim S8x32x8x64 ![] bcast_S_S8x32x8x64 main_cst_1
  let main_v6 : IVec S8x32x8x64 1 := cmpf .ogt main_arg1 main_v5
  let main_cst_2 : FVec F S_ .f32 := constant S_ .f32 0x7F800000#32
  let main_v7 : FVec F S8x32x8x64 .f32 := broadcastInDim S8x32x8x64 ![] bcast_S_S8x32x8x64 main_cst_2
  let main_v8 : IVec S8x32x8x64 1 := cmpf .olt main_arg1 main_v7
  let main_v9 : IVec S8x32x8x64 1 := andi main_v6 main_v8
  let main_cst_3 : FVec F S_ .f32 := constant S_ .f32 0xFF800000#32
  let main_v10 : FVec F S8x512x8x64 .f32 := broadcastInDim S8x512x8x64 ![] bcast_S_S8x512x8x64 main_cst_3
  let main_v11 : IVec S8x512x8x64 1 := cmpf .ogt main_arg3 main_v10
  let main_cst_4 : FVec F S_ .f32 := constant S_ .f32 0x7F800000#32
  let main_v12 : FVec F S8x512x8x64 .f32 := broadcastInDim S8x512x8x64 ![] bcast_S_S8x512x8x64 main_cst_4
  let main_v13 : IVec S8x512x8x64 1 := cmpf .olt main_arg3 main_v12
  let main_v14 : IVec S8x512x8x64 1 := andi main_v11 main_v13
  let main_cst_5 : FVec F S_ .f32 := constant S_ .f32 0xFF800000#32
  let main_v15 : FVec F S8x257 .f32 := broadcastInDim S8x257 ![] bcast_S_S8x257 main_cst_5
  let main_v16 : IVec S8x257 1 := cmpf .ogt main_arg5 main_v15
  fn_part1 (F := F) main_arg5 main_v4 main_v9 main_v14 main_v16
-- ==== Kernel.lean ====
abbrev S8x4096x512 : Shape := ⟨3, ![8, 4096, 512]⟩
abbrev S8x4096x8x64 : Shape := ⟨4, ![8, 4096, 8, 64]⟩
abbrev S8x257 : Shape := ⟨2, ![8, 257]⟩
abbrev S_ : Shape := ⟨0, ![]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S1024 : Shape := ⟨1, ![1024]⟩
abbrev S1024x1 : Shape := ⟨2, ![1024, 1]⟩
abbrev S8x1024 : Shape := ⟨2, ![8, 1024]⟩
abbrev S8x1x1024 : Shape := ⟨3, ![8, 1, 1024]⟩
abbrev S8x256x1024 : Shape := ⟨3, ![8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S1x256x512 : Shape := ⟨3, ![1, 256, 512]⟩
abbrev S256x512 : Shape := ⟨2, ![256, 512]⟩
abbrev S768x512 : Shape := ⟨2, ![768, 512]⟩
abbrev S256x64 : Shape := ⟨2, ![256, 64]⟩
abbrev S768x64 : Shape := ⟨2, ![768, 64]⟩
abbrev S1024x768 : Shape := ⟨2, ![1024, 768]⟩

abbrev nBuf : Space → Nat
  | .hbm => 109
  | .vmem => 17
  | .smem => 0
  | _ => 0

abbrev bufTy : (tb : Table) → Fin (tcTables nBuf tb) → BufTy
  | .hbm, ⟨0, _⟩ => ⟨S8x4096x512, .f32⟩
  | .hbm, ⟨1, _⟩ => ⟨S8x4096x8x64, .f32⟩
  | .hbm, ⟨2, _⟩ => ⟨S8x4096x8x64, .f32⟩
  | .hbm, ⟨3, _⟩ => ⟨S8x257, .f32⟩
  | .hbm, ⟨4, _⟩ => ⟨S_, .f32⟩
  | .hbm, ⟨5, _⟩ => ⟨S8x4096x512, .f32⟩
  | .hbm, ⟨6, _⟩ => ⟨S8x4096x512, .f32⟩
  | .hbm, ⟨7, _⟩ => ⟨S8x4096x512, .bf16⟩
  | .hbm, ⟨8, _⟩ => ⟨S8x4096x512, .f32⟩
  | .hbm, ⟨9, _⟩ => ⟨S8x4096x512, .bf16⟩
  | .hbm, ⟨10, _⟩ => ⟨S8x4096x512, .f32⟩
  | .hbm, ⟨11, _⟩ => ⟨S8x4096x512, .bf16⟩
  | .hbm, ⟨12, _⟩ => ⟨S256, .i32⟩
  | .hbm, ⟨13, _⟩ => ⟨S256x1, .i32⟩
  | .hbm, ⟨14, _⟩ => ⟨S768, .i32⟩
  | .hbm, ⟨15, _⟩ => ⟨S1x768, .i32⟩
  | .hbm, ⟨16, _⟩ => ⟨S_, .i32⟩
  | .hbm, ⟨17, _⟩ => ⟨S_, .i32⟩
  | .hbm, ⟨18, _⟩ => ⟨S256x1, .i32⟩
  | .hbm, ⟨19, _⟩ => ⟨S256x1, .i32⟩
  | .hbm, ⟨20, _⟩ => ⟨S256x1, .i32⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x1, .i32⟩
  | .hbm, ⟨25, _⟩ => ⟨S256x1, .i32⟩
  | .hbm, ⟨26, _⟩ => ⟨S_, .i32⟩
  | .hbm, ⟨27, _⟩ => ⟨S256x1, .i32⟩
  | .hbm, ⟨28, _⟩ => ⟨S256x1, .i1⟩
  | .hbm, ⟨29, _⟩ => ⟨S256x1, .i1⟩
  | .hbm, ⟨30, _⟩ => ⟨S_, .i32⟩
  | .hbm, ⟨31, _⟩ => ⟨S256x1, .i32⟩
  | .hbm, ⟨32, _⟩ => ⟨S256x1, .i32⟩
  | .hbm, ⟨33, _⟩ => ⟨S256x1, .i32⟩
  | .hbm, ⟨34, _⟩ => ⟨S_, .i32⟩
  | .hbm, ⟨35, _⟩ => ⟨S256x1, .i32⟩
  | .hbm, ⟨36, _⟩ => ⟨S256x1, .i32⟩
  | .hbm, ⟨37, _⟩ => ⟨S_, .i32⟩
  | .hbm, ⟨38, _⟩ => ⟨S_, .i32⟩
  | .hbm, ⟨39, _⟩ => ⟨S1x768, .i32⟩
  | .hbm, ⟨40, _⟩ => ⟨S1x768, .i32⟩
  | .hbm, ⟨41, _⟩ => ⟨S1x768, .i32⟩
  | .hbm, ⟨42, _⟩ => ⟨S_, .i32⟩
  | .hbm, ⟨43, _⟩ => ⟨S1x768, .i32⟩
  | .hbm, ⟨44, _⟩ => ⟨S1x768, .i1⟩
  | .hbm, ⟨45, _⟩ => ⟨S1x768, .i32⟩
  | .hbm, ⟨46, _⟩ => ⟨S1x768, .i32⟩
  | .hbm, ⟨47, _⟩ => ⟨S_, .i32⟩
  | .hbm, ⟨48, _⟩ => ⟨S1x768, .i32⟩
  | .hbm, ⟨49, _⟩ => ⟨S1x768, .i1⟩
  | .hbm, ⟨50, _⟩ => ⟨S1x768, .i1⟩
  | .hbm, ⟨51, _⟩ => ⟨S_, .i32⟩
  | .hbm, ⟨52, _⟩ => ⟨S1x768, .i32⟩
  | .hbm, ⟨53, _⟩ => ⟨S1x768, .i32⟩
  | .hbm, ⟨54, _⟩ => ⟨S1x768, .i32⟩
  | .hbm, ⟨55, _⟩ => ⟨S256x768, .i32⟩
  | .hbm, ⟨56, _⟩ => ⟨S256x768, .i32⟩
  | .hbm, ⟨57, _⟩ => ⟨S256x768, .i32⟩
  | .hbm, ⟨58, _⟩ => ⟨S_, .i32⟩
  | .hbm, ⟨59, _⟩ => ⟨S256x768, .i32⟩
  | .hbm, ⟨60, _⟩ => ⟨S256x768, .i1⟩
  | .hbm, ⟨61, _⟩ => ⟨S_, .i32⟩
  | .hbm, ⟨62, _⟩ => ⟨S256x768, .i32⟩
  | .hbm, ⟨63, _⟩ => ⟨S256x768, .i1⟩
  | .hbm, ⟨64, _⟩ => ⟨S256x768, .i1⟩
  | .hbm, ⟨65, _⟩ => ⟨S1x256x768, .i1⟩
  | .hbm, ⟨66, _⟩ => ⟨S1024, .i32⟩
  | .hbm, ⟨67, _⟩ => ⟨S_, .i32⟩
  | .hbm, ⟨68, _⟩ => ⟨S1024, .i32⟩
  | .hbm, ⟨69, _⟩ => ⟨S1024, .i1⟩
  | .hbm, ⟨70, _⟩ => ⟨S_, .i32⟩
  | .hbm, ⟨71, _⟩ => ⟨S1024, .i32⟩
  | .hbm, ⟨72, _⟩ => ⟨S1024, .i32⟩
  | .hbm, ⟨73, _⟩ => ⟨S1024, .i32⟩
  | .hbm, ⟨74, _⟩ => ⟨S_, .i32⟩
  | .hbm, ⟨75, _⟩ => ⟨S1024, .i32⟩
  | .hbm, ⟨76, _⟩ => ⟨S1024, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S1024, .i32⟩
  | .hbm, ⟨81, _⟩ => ⟨S1024, .i32⟩
  | .hbm, ⟨82, _⟩ => ⟨S_, .i32⟩
  | .hbm, ⟨83, _⟩ => ⟨S1024, .i32⟩
  | .hbm, ⟨84, _⟩ => ⟨S1024, .i32⟩
  | .hbm, ⟨85, _⟩ => ⟨S_, .i32⟩
  | .hbm, ⟨86, _⟩ => ⟨S1024, .i32⟩
  | .hbm, ⟨87, _⟩ => ⟨S1024, .i32⟩
  | .hbm, ⟨88, _⟩ => ⟨S_, .i32⟩
  | .hbm, ⟨89, _⟩ => ⟨S1024, .i32⟩
  | .hbm, ⟨90, _⟩ => ⟨S1024, .i1⟩
  | .hbm, ⟨91, _⟩ => ⟨S_, .i32⟩
  | .hbm, ⟨92, _⟩ => ⟨S1024, .i32⟩
  | .hbm, ⟨93, _⟩ => ⟨S1024, .i32⟩
  | .hbm, ⟨94, _⟩ => ⟨S1024, .i32⟩
  | .hbm, ⟨95, _⟩ => ⟨S1024x1, .i32⟩
  | .hbm, ⟨96, _⟩ => ⟨S8x1024, .f32⟩
  | .hbm, ⟨97, _⟩ => ⟨S8x1x1024, .f32⟩
  | .hbm, ⟨98, _⟩ => ⟨S8x256x1024, .f32⟩
  | .hbm, ⟨99, _⟩ => ⟨S8x262144, .f32⟩
  | .hbm, ⟨100, _⟩ => ⟨S8x261888, .f32⟩
  | .hbm, ⟨101, _⟩ => ⟨S8x256x1023, .f32⟩
  | .hbm, ⟨102, _⟩ => ⟨S8x256x768, .f32⟩
  | .hbm, ⟨103, _⟩ => ⟨S_, .f32⟩
  | .hbm, ⟨104, _⟩ => ⟨S_, .f32⟩
  | .hbm, ⟨105, _⟩ => ⟨S8x256x768, .i1⟩
  | .hbm, ⟨106, _⟩ => ⟨S8x256x768, .f32⟩
  | .hbm, ⟨107, _⟩ => ⟨S8x256x768, .f32⟩
  | .hbm, ⟨108, _⟩ => ⟨S8x4096x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S8x256x768, .f32⟩
  | .local _ .vmem, ⟨15, _⟩ => ⟨S1x256x512, .bf16⟩
  | .local _ .vmem, ⟨16, _⟩ => ⟨S1x256x512, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v11 : Ref sig .tc := ⟨.hbm, 33, rfl⟩
abbrev main_c_0 : Ref sig .tc := ⟨.hbm, 34, rfl⟩
abbrev main_v12 : Ref sig .tc := ⟨.hbm, 35, rfl⟩
abbrev main_v13 : Ref sig .tc := ⟨.hbm, 36, rfl⟩
abbrev main_c_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_v18 : Ref sig .tc := ⟨.hbm, 59, rfl⟩
abbrev main_v19 : Ref sig .tc := ⟨.hbm, 60, rfl⟩
abbrev main_c_3 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_c_4 : Ref sig .tc := ⟨.hbm, 67, rfl⟩
abbrev main_v25 : Ref sig .tc := ⟨.hbm, 68, rfl⟩
abbrev main_v26 : Ref sig .tc := ⟨.hbm, 69, rfl⟩
abbrev main_c_5 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_c_6 : Ref sig .tc := ⟨.hbm, 74, rfl⟩
abbrev main_v30 : Ref sig .tc := ⟨.hbm, 75, rfl⟩
abbrev main_v31 : Ref sig .tc := ⟨.hbm, 76, rfl⟩
abbrev main_c_7 : Ref sig .tc := ⟨.hbm, 77, rfl⟩
abbrev main_c_8 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v32 : Ref sig .tc := ⟨.hbm, 84, rfl⟩
abbrev main_c_9 : Ref sig .tc := ⟨.hbm, 85, rfl⟩
abbrev main_v33 : Ref sig .tc := ⟨.hbm, 86, rfl⟩
abbrev main_v34 : Ref sig .tc := ⟨.hbm, 87, rfl⟩
abbrev main_c_10 : Ref sig .tc := ⟨.hbm, 88, rfl⟩
abbrev main_v35 : Ref sig .tc := ⟨.hbm, 89, rfl⟩
abbrev main_v36 : Ref sig .tc := ⟨.hbm, 90, rfl⟩
abbrev main_c_11 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_cst_12 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v48 : Ref sig .tc := ⟨.hbm, 107, rfl⟩
abbrev main_v49 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x4096x512 : Shape := ⟨3, ![8, 4096, 512]⟩
abbrev S8x4096x8x64 : Shape := ⟨4, ![8, 4096, 8, 64]⟩
abbrev S8x257 : Shape := ⟨2, ![8, 257]⟩
abbrev S8x64x64x8x64 : Shape := ⟨5, ![8, 64, 64, 8, 64]⟩
abbrev S_ : Shape := ⟨0, ![]⟩
abbrev S8x72x64x8x64 : Shape := ⟨5, ![8, 72, 64, 8, 64]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S8x64x9x64x8x64 : Shape := ⟨6, ![8, 64, 9, 64, 8, 64]⟩
abbrev S8x64x576x8x64 : Shape := ⟨5, ![8, 64, 576, 8, 64]⟩
abbrev S64x9x64 : Shape := ⟨3, ![64, 9, 64]⟩
abbrev S64x576 : Shape := ⟨2, ![64, 576]⟩
abbrev S576 : Shape := ⟨1, ![576]⟩
abbrev S1x576 : Shape := ⟨2, ![1, 576]⟩
abbrev S64x576x1 : Shape := ⟨3, ![64, 576, 1]⟩
abbrev S8x64x576 : Shape := ⟨3, ![8, 64, 576]⟩
abbrev S8x64x8x64x576 : Shape := ⟨5, ![8, 64, 8, 64, 576]⟩
abbrev S1x1x8x64x576 : Shape := ⟨5, ![1, 1, 8, 64, 576]⟩
abbrev S1x64x1x1x576 : Shape := ⟨5, ![1, 64, 1, 1, 576]⟩
abbrev S8x64x8x64 : Shape := ⟨4, ![8, 64, 8, 64]⟩
abbrev S8x64x8x64x1 : Shape := ⟨5, ![8, 64, 8, 64, 1]⟩
abbrev S8x64x8x64x64 : Shape := ⟨5, ![8, 64, 8, 64, 64]⟩

abbrev nBuf : Space → Nat
  | .hbm => 106
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x8x64, .f32⟩
  | .hbm, ⟨2, _⟩ => ⟨S8x4096x8x64, .f32⟩
  | .hbm, ⟨3, _⟩ => ⟨S8x257, .f32⟩
  | .hbm, ⟨4, _⟩ => ⟨S8x64x64x8x64, .f32⟩
  | .hbm, ⟨5, _⟩ => ⟨S8x64x64x8x64, .f32⟩
  | .hbm, ⟨6, _⟩ => ⟨S8x64x64x8x64, .f32⟩
  | .hbm, ⟨7, _⟩ => ⟨S_, .i32⟩
  | .hbm, ⟨8, _⟩ => ⟨S_, .f32⟩
  | .hbm, ⟨9, _⟩ => ⟨S8x72x64x8x64, .f32⟩
  | .hbm, ⟨10, _⟩ => ⟨S_, .i32⟩
  | .hbm, ⟨11, _⟩ => ⟨S_, .f32⟩
  | .hbm, ⟨12, _⟩ => ⟨S8x72x64x8x64, .f32⟩
  | .hbm, ⟨13, _⟩ => ⟨S64, .i32⟩
  | .hbm, ⟨14, _⟩ => ⟨S64x1, .i32⟩
  | .hbm, ⟨15, _⟩ => ⟨S9, .i32⟩
  | .hbm, ⟨16, _⟩ => ⟨S1x9, .i32⟩
  | .hbm, ⟨17, _⟩ => ⟨S64x9, .i32⟩
  | .hbm, ⟨18, _⟩ => ⟨S64x9, .i32⟩
  | .hbm, ⟨19, _⟩ => ⟨S64x9, .i32⟩
  | .hbm, ⟨20, _⟩ => ⟨S_, .i32⟩
  | .hbm, ⟨21, _⟩ => ⟨S64x9, .i32⟩
  | .hbm, ⟨22, _⟩ => ⟨S64x9, .i1⟩
  | .hbm, ⟨23, _⟩ => ⟨S_, .i32⟩
  | .hbm, ⟨24, _⟩ => ⟨S64x9, .i32⟩
  | .hbm, ⟨25, _⟩ => ⟨S64x9, .i32⟩
  | .hbm, ⟨26, _⟩ => ⟨S64x9, .i32⟩
  | .hbm, ⟨27, _⟩ => ⟨S64x9x1, .i32⟩
  | .hbm, ⟨28, _⟩ => ⟨S8x64x9x64x8x64, .f32⟩
  | .hbm, ⟨29, _⟩ => ⟨S8x64x576x8x64, .f32⟩
  | .hbm, ⟨30, _⟩ => ⟨S_, .i32⟩
  | .hbm, ⟨31, _⟩ => ⟨S64x9, .i32⟩
  | .hbm, ⟨32, _⟩ => ⟨S64x9, .i1⟩
  | .hbm, ⟨33, _⟩ => ⟨S_, .i32⟩
  | .hbm, ⟨34, _⟩ => ⟨S64x9, .i32⟩
  | .hbm, ⟨35, _⟩ => ⟨S64x9, .i32⟩
  | .hbm, ⟨36, _⟩ => ⟨S64x9, .i32⟩
  | .hbm, ⟨37, _⟩ => ⟨S64x9x1, .i32⟩
  | .hbm, ⟨38, _⟩ => ⟨S8x64x9x64x8x64, .f32⟩
  | .hbm, ⟨39, _⟩ => ⟨S8x64x576x8x64, .f32⟩
  | .hbm, ⟨40, _⟩ => ⟨S_, .i32⟩
  | .hbm, ⟨41, _⟩ => ⟨S64x9, .i32⟩
  | .hbm, ⟨42, _⟩ => ⟨S64x9, .i1⟩
  | .hbm, ⟨43, _⟩ => ⟨S64x9x64, .i1⟩
  | .hbm, ⟨44, _⟩ => ⟨S64x576, .i1⟩
  | .hbm, ⟨45, _⟩ => ⟨S576, .i32⟩
  | .hbm, ⟨46, _⟩ => ⟨S_, .i32⟩
  | .hbm, ⟨47, _⟩ => ⟨S576, .i32⟩
  | .hbm, ⟨48, _⟩ => ⟨S576, .i32⟩
  | .hbm, ⟨49, _⟩ => ⟨S1x576, .i32⟩
  | .hbm, ⟨50, _⟩ => ⟨S64, .i32⟩
  | .hbm, ⟨51, _⟩ => ⟨S64x1, .i32⟩
  | .hbm, ⟨52, _⟩ => ⟨S64x576, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S64x576, .i32⟩
  | .hbm, ⟨59, _⟩ => ⟨S64x576, .i32⟩
  | .hbm, ⟨60, _⟩ => ⟨S_, .i32⟩
  | .hbm, ⟨61, _⟩ => ⟨S64x576, .i32⟩
  | .hbm, ⟨62, _⟩ => ⟨S64x576, .i32⟩
  | .hbm, ⟨63, _⟩ => ⟨S_, .i32⟩
  | .hbm, ⟨64, _⟩ => ⟨S64x576, .i32⟩
  | .hbm, ⟨65, _⟩ => ⟨S64x576, .i32⟩
  | .hbm, ⟨66, _⟩ => ⟨S_, .i32⟩
  | .hbm, ⟨67, _⟩ => ⟨S64x576, .i32⟩
  | .hbm, ⟨68, _⟩ => ⟨S64x576, .i1⟩
  | .hbm, ⟨69, _⟩ => ⟨S_, .i32⟩
  | .hbm, ⟨70, _⟩ => ⟨S64x576, .i32⟩
  | .hbm, ⟨71, _⟩ => ⟨S64x576, .i32⟩
  | .hbm, ⟨72, _⟩ => ⟨S64x576, .i32⟩
  | .hbm, ⟨73, _⟩ => ⟨S64x576x1, .i32⟩
  | .hbm, ⟨74, _⟩ => ⟨S8x64x576, .f32⟩
  | .hbm, ⟨75, _⟩ => ⟨S8x64x8x64x576, .f32⟩
  | .hbm, ⟨76, _⟩ => ⟨S_, .f32⟩
  | .hbm, ⟨77, _⟩ => ⟨S8x64x8x64x576, .f32⟩
  | .hbm, ⟨78, _⟩ => ⟨S8x64x8x64x576, .f32⟩
  | .hbm, ⟨79, _⟩ => ⟨S1x1x8x64x576, .f32⟩
  | .hbm, ⟨80, _⟩ => ⟨S8x64x8x64x576, .f32⟩
  | .hbm, ⟨81, _⟩ => ⟨S8x64x8x64x576, .f32⟩
  | .hbm, ⟨82, _⟩ => ⟨S1x64x1x1x576, .i1⟩
  | .hbm, ⟨83, _⟩ => ⟨S_, .f32⟩
  | .hbm, ⟨84, _⟩ => ⟨S_, .f32⟩
  | .hbm, ⟨85, _⟩ => ⟨S8x64x8x64x576, .i1⟩
  | .hbm, ⟨86, _⟩ => ⟨S8x64x8x64x576, .f32⟩
  | .hbm, ⟨87, _⟩ => ⟨S8x64x8x64x576, .f32⟩
  | .hbm, ⟨88, _⟩ => ⟨S_, .f32⟩
  | .hbm, ⟨89, _⟩ => ⟨S8x64x8x64, .f32⟩
  | .hbm, ⟨90, _⟩ => ⟨S_, .f32⟩
  | .hbm, ⟨91, _⟩ => ⟨S8x64x8x64, .f32⟩
  | .hbm, ⟨92, _⟩ => ⟨S8x64x8x64, .f32⟩
  | .hbm, ⟨93, _⟩ => ⟨S8x64x8x64x1, .f32⟩
  | .hbm, ⟨94, _⟩ => ⟨S8x64x8x64x576, .f32⟩
  | .hbm, ⟨95, _⟩ => ⟨S8x64x8x64x576, .f32⟩
  | .hbm, ⟨96, _⟩ => ⟨S8x64x8x64x576, .f32⟩
  | .hbm, ⟨97, _⟩ => ⟨S_, .f32⟩
  | .hbm, ⟨98, _⟩ => ⟨S8x64x8x64, .f32⟩
  | .hbm, ⟨99, _⟩ => ⟨S8x64x8x64x1, .f32⟩
  | .hbm, ⟨100, _⟩ => ⟨S8x64x8x64x576, .f32⟩
  | .hbm, ⟨101, _⟩ => ⟨S8x64x8x64x576, .f32⟩
  | .hbm, ⟨102, _⟩ => ⟨S8x64x8x64x64, .f32⟩
  | .hbm, ⟨103, _⟩ => ⟨S8x64x64x8x64, .f32⟩
  | .hbm, ⟨104, _⟩ => ⟨S8x4096x512, .f32⟩
  | .hbm, ⟨105, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_c_8 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_15 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x4096 : Shape := ⟨2, ![1024, 4096]⟩
abbrev S32768x1024 : Shape := ⟨2, ![32768, 1024]⟩
abbrev S1x1024 : Shape := ⟨2, ![1, 1024]⟩
abbrev S32768x512 : Shape := ⟨2, ![32768, 512]⟩
abbrev S4096x512 : Shape := ⟨2, ![4096, 512]⟩
abbrev S32768x2048 : Shape := ⟨2, ![32768, 2048]⟩
abbrev S512x1024 : Shape := ⟨2, ![512, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩

abbrev nBuf : Space → Nat
  | .hbm => 13
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S32768x1024, .f32⟩
  | .hbm, ⟨4, _⟩ => ⟨S1x1024, .f32⟩
  | .hbm, ⟨5, _⟩ => ⟨S1024x4096, .bf16⟩
  | .hbm, ⟨6, _⟩ => ⟨S32768x512, .bf16⟩
  | .hbm, ⟨7, _⟩ => ⟨S32768x512, .bf16⟩
  | .hbm, ⟨8, _⟩ => ⟨S32768x512, .bf16⟩
  | .hbm, ⟨9, _⟩ => ⟨S32768x512, .bf16⟩
  | .hbm, ⟨10, _⟩ => ⟨S4096x512, .f32⟩
  | .hbm, ⟨11, _⟩ => ⟨S4096x512, .f32⟩
  | .hbm, ⟨12, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x2048, .bf16⟩
  | .local _ .vmem, ⟨17, _⟩ => ⟨S512x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8x4096x1024 : Shape := ⟨3, ![8, 4096, 1024]⟩
abbrev S1024 : Shape := ⟨1, ![1024]⟩
abbrev S1024x4096 : Shape := ⟨2, ![1024, 4096]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S8x4096x512 : Shape := ⟨3, ![8, 4096, 512]⟩
abbrev S8x4096x2048 : Shape := ⟨3, ![8, 4096, 2048]⟩
abbrev S8x512x512 : Shape := ⟨3, ![8, 512, 512]⟩
abbrev S32768x512 : Shape := ⟨2, ![32768, 512]⟩
abbrev S4096x512 : Shape := ⟨2, ![4096, 512]⟩
abbrev S32768x2048 : Shape := ⟨2, ![32768, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x4096, .f32⟩
  | .hbm, ⟨20, _⟩ => ⟨S8x4096x512, .f32⟩
  | .hbm, ⟨21, _⟩ => ⟨S8x4096x512, .f32⟩
  | .hbm, ⟨22, _⟩ => ⟨S8x4096x512, .f32⟩
  | .hbm, ⟨23, _⟩ => ⟨S8x4096x512, .f32⟩
  | .hbm, ⟨24, _⟩ => ⟨S8x4096x2048, .f32⟩
  | .hbm, ⟨25, _⟩ => ⟨S8x512x512, .f32⟩
  | .hbm, ⟨26, _⟩ => ⟨S8x512x512, .f32⟩
  | .hbm, ⟨27, _⟩ => ⟨S32768x512, .f32⟩
  | .hbm, ⟨28, _⟩ => ⟨S32768x512, .bf16⟩
  | .hbm, ⟨29, _⟩ => ⟨S_, .f32⟩
  | .hbm, ⟨30, _⟩ => ⟨S8x4096x512, .f32⟩
  | .hbm, ⟨31, _⟩ => ⟨S8x4096x512, .f32⟩
  | .hbm, ⟨32, _⟩ => ⟨S32768x512, .f32⟩
  | .hbm, ⟨33, _⟩ => ⟨S32768x512, .bf16⟩
  | .hbm, ⟨34, _⟩ => ⟨S32768x512, .f32⟩
  | .hbm, ⟨35, _⟩ => ⟨S32768x512, .bf16⟩
  | .hbm, ⟨36, _⟩ => ⟨S32768x512, .f32⟩
  | .hbm, ⟨37, _⟩ => ⟨S32768x512, .bf16⟩
  | .hbm, ⟨38, _⟩ => ⟨S4096x512, .f32⟩
  | .hbm, ⟨39, _⟩ => ⟨S4096x512, .f32⟩
  | .hbm, ⟨40, _⟩ => ⟨S32768x2048, .f32⟩
  | .hbm, ⟨41, _⟩ => ⟨S32768x2048, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S8x4096x2048 : Shape := ⟨3, ![8, 4096, 2048]⟩
abbrev S512 : Shape := ⟨1, ![512]⟩
abbrev S512x2048 : Shape := ⟨2, ![512, 2048]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S32768x1024 : Shape := ⟨2, ![32768, 1024]⟩
abbrev S32768x512 : Shape := ⟨2, ![32768, 512]⟩
abbrev S32768x2048 : Shape := ⟨2, ![32768, 2048]⟩
abbrev S1x512 : Shape := ⟨2, ![1, 512]⟩
abbrev S1x1024 : Shape := ⟨2, ![1, 1024]⟩
abbrev S16x128x128 : Shape := ⟨3, ![16, 128, 128]⟩
abbrev S256x2048x128 : Shape := ⟨3, ![256, 2048, 128]⟩
abbrev S512x512 : Shape := ⟨2, ![512, 512]⟩
abbrev S4x2048x128 : Shape := ⟨3, ![4, 2048, 128]⟩
abbrev S512x1 : Shape := ⟨2, ![512, 1]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩

abbrev nBuf : Space → Nat
  | .hbm => 32
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S8x4096x2048, .f32⟩
  | .hbm, ⟨5, _⟩ => ⟨S512, .f32⟩
  | .hbm, ⟨6, _⟩ => ⟨S512x2048, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S8x2x128x128, .f32⟩
  | .hbm, ⟨12, _⟩ => ⟨S32768x1024, .f32⟩
  | .hbm, ⟨13, _⟩ => ⟨S32768x512, .f32⟩
  | .hbm, ⟨14, _⟩ => ⟨S32768x512, .bf16⟩
  | .hbm, ⟨15, _⟩ => ⟨S32768x512, .f32⟩
  | .hbm, ⟨16, _⟩ => ⟨S32768x512, .bf16⟩
  | .hbm, ⟨17, _⟩ => ⟨S32768x512, .f32⟩
  | .hbm, ⟨18, _⟩ => ⟨S32768x512, .bf16⟩
  | .hbm, ⟨19, _⟩ => ⟨S32768x2048, .f32⟩
  | .hbm, ⟨20, _⟩ => ⟨S32768x2048, .bf16⟩
  | .hbm, ⟨21, _⟩ => ⟨S1x512, .f32⟩
  | .hbm, ⟨22, _⟩ => ⟨S512x2048, .bf16⟩
  | .hbm, ⟨23, _⟩ => ⟨S512x1024, .bf16⟩
  | .hbm, ⟨24, _⟩ => ⟨S1024x1024, .bf16⟩
  | .hbm, ⟨25, _⟩ => ⟨S1x1024, .f32⟩
  | .hbm, ⟨26, _⟩ => ⟨S1024x2048, .bf16⟩
  | .hbm, ⟨27, _⟩ => ⟨S16x128x128, .f32⟩
  | .hbm, ⟨28, _⟩ => ⟨S16x128x128, .bf16⟩
  | .hbm, ⟨29, _⟩ => ⟨S32768x1024, .f32⟩
  | .hbm, ⟨30, _⟩ => ⟨S32768x1024, .bf16⟩
  | .hbm, ⟨31, _⟩ => ⟨S256x2048x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S1x512, .f32⟩
  | .local _ .vmem, ⟨11, _⟩ => ⟨S512x2048, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x2048, .bf16⟩
  | .local _ .vmem, ⟨16, _⟩ => ⟨S16x128x128, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S4x2048x128, .f32⟩
  | .local _ .vmem, ⟨22, _⟩ => ⟨S4x2048x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8x4096x1024 : Shape := ⟨3, ![8, 4096, 1024]⟩
abbrev S8x4096x512 : Shape := ⟨3, ![8, 4096, 512]⟩
abbrev S8x4096x2048 : Shape := ⟨3, ![8, 4096, 2048]⟩
abbrev S512 : Shape := ⟨1, ![512]⟩
abbrev S512x2048 : Shape := ⟨2, ![512, 2048]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S1x1x512 : Shape := ⟨3, ![1, 1, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x8x2x128 : Shape := ⟨4, ![32768, 8, 2, 128]⟩
abbrev S8x2x128x32768 : Shape := ⟨4, ![8, 2, 128, 32768]⟩
abbrev S256x128x2048 : Shape := ⟨3, ![256, 128, 2048]⟩
abbrev S256x2048x128 : Shape := ⟨3, ![256, 2048, 128]⟩
abbrev S32768x1024 : Shape := ⟨2, ![32768, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S8x4096x2048, .f32⟩
  | .hbm, ⟨5, _⟩ => ⟨S512, .f32⟩
  | .hbm, ⟨6, _⟩ => ⟨S512x2048, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S8x2x128x128, .f32⟩
  | .hbm, ⟨12, _⟩ => ⟨S8x4096x1024, .f32⟩
  | .hbm, ⟨13, _⟩ => ⟨S8x4096x1024, .f32⟩
  | .hbm, ⟨14, _⟩ => ⟨S1x1x512, .f32⟩
  | .hbm, ⟨15, _⟩ => ⟨S8x4096x512, .f32⟩
  | .hbm, ⟨16, _⟩ => ⟨S8x4096x512, .f32⟩
  | .hbm, ⟨17, _⟩ => ⟨S8x4096x512, .f32⟩
  | .hbm, ⟨18, _⟩ => ⟨S8x4096x2048, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S8x4096x1, .f32⟩
  | .hbm, ⟨63, _⟩ => ⟨S8x4096x1024, .f32⟩
  | .hbm, ⟨64, _⟩ => ⟨S8x4096x1024, .f32⟩
  | .hbm, ⟨65, _⟩ => ⟨S1x1x1024, .f32⟩
  | .hbm, ⟨66, _⟩ => ⟨S8x4096x1024, .f32⟩
  | .hbm, ⟨67, _⟩ => ⟨S8x4096x1024, .f32⟩
  | .hbm, ⟨68, _⟩ => ⟨S8x4096x2048, .f32⟩
  | .hbm, ⟨69, _⟩ => ⟨S32768x8x2x128, .f32⟩
  | .hbm, ⟨70, _⟩ => ⟨S8x2x128x32768, .f32⟩
  | .hbm, ⟨71, _⟩ => ⟨S32768x8x2x128, .f32⟩
  | .hbm, ⟨72, _⟩ => ⟨S256x128x2048, .f32⟩
  | .hbm, ⟨73, _⟩ => ⟨S256x2048x128, .f32⟩
  | .hbm, ⟨74, _⟩ => ⟨S32768x1024, .f32⟩
  | .hbm, ⟨75, _⟩ => ⟨S32768x1024, .f32⟩
  | .hbm, ⟨76, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel4.lean ====
abbrev S8x32x1024 : Shape := ⟨3, ![8, 32, 1024]⟩
abbrev S1024 : Shape := ⟨1, ![1024]⟩
abbrev S1024x4096 : Shape := ⟨2, ![1024, 4096]⟩
abbrev S256x1024 : Shape := ⟨2, ![256, 1024]⟩
abbrev S1x1024 : Shape := ⟨2, ![1, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1024x512 : Shape := ⟨2, ![1024, 512]⟩
abbrev S1024x1024 : Shape := ⟨2, ![1024, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8x32x1024, .f32⟩
  | .hbm, ⟨1, _⟩ => ⟨S1024, .f32⟩
  | .hbm, ⟨2, _⟩ => ⟨S1024x4096, .f32⟩
  | .hbm, ⟨3, _⟩ => ⟨S256x1024, .f32⟩
  | .hbm, ⟨4, _⟩ => ⟨S1x1024, .f32⟩
  | .hbm, ⟨5, _⟩ => ⟨S1024x4096, .bf16⟩
  | .hbm, ⟨6, _⟩ => ⟨S256x512, .f32⟩
  | .hbm, ⟨7, _⟩ => ⟨S256x512, .bf16⟩
  | .hbm, ⟨8, _⟩ => ⟨S256x512, .bf16⟩
  | .hbm, ⟨9, _⟩ => ⟨S256x512, .bf16⟩
  | .hbm, ⟨10, _⟩ => ⟨S256x512, .f32⟩
  | .hbm, ⟨11, _⟩ => ⟨S256x512, .f32⟩
  | .hbm, ⟨12, _⟩ => ⟨S256x2048, .bf16⟩
  | .local _ .vmem, ⟨0, _⟩ => ⟨S256x1024, .f32⟩
  | .local _ .vmem, ⟨1, _⟩ => ⟨S1x1024, .f32⟩
  | .local _ .vmem, ⟨2, _⟩ => ⟨S1024x4096, .bf16⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .f32⟩
  | .local _ .vmem, ⟨8, _⟩ => ⟨S256x512, .f32⟩
  | .local _ .vmem, ⟨9, _⟩ => ⟨S256x2048, .bf16⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_8 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference4Ideal.lean ====
abbrev S8x32x1024 : Shape := ⟨3, ![8, 32, 1024]⟩
abbrev S1024 : Shape := ⟨1, ![1024]⟩
abbrev S1024x4096 : Shape := ⟨2, ![1024, 4096]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S8x32x4096 : Shape := ⟨3, ![8, 32, 4096]⟩
abbrev S8x32x512 : Shape := ⟨3, ![8, 32, 512]⟩
abbrev S8x32x2048 : Shape := ⟨3, ![8, 32, 2048]⟩
abbrev S256x512 : Shape := ⟨2, ![256, 512]⟩
abbrev S256x2048 : Shape := ⟨2, ![256, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S1024, .f32⟩
  | .hbm, ⟨2, _⟩ => ⟨S1024x4096, .f32⟩
  | .hbm, ⟨3, _⟩ => ⟨S8x32x1024, .f32⟩
  | .hbm, ⟨4, _⟩ => ⟨S_, .f32⟩
  | .hbm, ⟨5, _⟩ => ⟨S8x32, .f32⟩
  | .hbm, ⟨6, _⟩ => ⟨S8x32x1, .f32⟩
  | .hbm, ⟨7, _⟩ => ⟨S_, .f32⟩
  | .hbm, ⟨8, _⟩ => ⟨S8x32x1, .f32⟩
  | .hbm, ⟨9, _⟩ => ⟨S8x32x1, .f32⟩
  | .hbm, ⟨10, _⟩ => ⟨S_, .f32⟩
  | .hbm, ⟨11, _⟩ => ⟨S8x32x1, .f32⟩
  | .hbm, ⟨12, _⟩ => ⟨S8x32x1, .f32⟩
  | .hbm, ⟨13, _⟩ => ⟨S8x32x1, .f32⟩
  | .hbm, ⟨14, _⟩ => ⟨S8x32x1024, .f32⟩
  | .hbm, ⟨15, _⟩ => ⟨S8x32x1024, .f32⟩
  | .hbm, ⟨16, _⟩ => ⟨S1x1x1024, .f32⟩
  | .hbm, ⟨17, _⟩ => ⟨S8x32x1024, .f32⟩
  | .hbm, ⟨18, _⟩ => ⟨S8x32x1024, .f32⟩
  | .hbm, ⟨19, _⟩ => ⟨S8x32x4096, .f32⟩
  | .hbm, ⟨20, _⟩ => ⟨S8x32x512, .f32⟩
  | .hbm, ⟨21, _⟩ => ⟨S8x32x512, .f32⟩
  | .hbm, ⟨22, _⟩ => ⟨S8x32x512, .f32⟩
  | .hbm, ⟨23, _⟩ => ⟨S8x32x512, .f32⟩
  | .hbm, ⟨24, _⟩ => ⟨S8x32x2048, .f32⟩
  | .hbm, ⟨25, _⟩ => ⟨S256x512, .f32⟩
  | .hbm, ⟨26, _⟩ => ⟨S_, .f32⟩
  | .hbm, ⟨27, _⟩ => ⟨S8x32x512, .f32⟩
  | .hbm, ⟨28, _⟩ => ⟨S8x32x512, .f32⟩
  | .hbm, ⟨29, _⟩ => ⟨S256x512, .f32⟩
  | .hbm, ⟨30, _⟩ => ⟨S256x512, .bf16⟩
  | .hbm, ⟨31, _⟩ => ⟨S256x512, .f32⟩
  | .hbm, ⟨32, _⟩ => ⟨S256x512, .bf16⟩
  | .hbm, ⟨33, _⟩ => ⟨S256x512, .f32⟩
  | .hbm, ⟨34, _⟩ => ⟨S256x512, .bf16⟩
  | .hbm, ⟨35, _⟩ => ⟨S256x512, .f32⟩
  | .hbm, ⟨36, _⟩ => ⟨S256x512, .f32⟩
  | .hbm, ⟨37, _⟩ => ⟨S256x2048, .f32⟩
  | .hbm, ⟨38, _⟩ => ⟨S256x2048, .bf16⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel5.lean ====
abbrev S8x32x512 : Shape := ⟨3, ![8, 32, 512]⟩
abbrev S8x32x8x64 : Shape := ⟨4, ![8, 32, 8, 64]⟩
abbrev S8x512x8x64 : Shape := ⟨4, ![8, 512, 8, 64]⟩
abbrev S8x257 : Shape := ⟨2, ![8, 257]⟩
abbrev S_ : Shape := ⟨0, ![]⟩
abbrev S8x512x512 : Shape := ⟨3, ![8, 512, 512]⟩
abbrev S8x544x512 : Shape := ⟨3, ![8, 544, 512]⟩
abbrev S576 : Shape := ⟨1, ![576]⟩
abbrev S576x1 : Shape := ⟨2, ![576, 1]⟩
abbrev S8x576 : Shape := ⟨2, ![8, 576]⟩
abbrev S8x1x576 : Shape := ⟨3, ![8, 1, 576]⟩
abbrev S8x32x576 : Shape := ⟨3, ![8, 32, 576]⟩
abbrev S8x18432 : Shape := ⟨2, ![8, 18432]⟩
abbrev S8x18400 : Shape := ⟨2, ![8, 18400]⟩
abbrev S8x32x575 : Shape := ⟨3, ![8, 32, 575]⟩
abbrev S8x32x544 : Shape := ⟨3, ![8, 32, 544]⟩
abbrev S1x32x512 : Shape := ⟨3, ![1, 32, 512]⟩
abbrev S1x544x512 : Shape := ⟨3, ![1, 544, 512]⟩
abbrev S32x512 : Shape := ⟨2, ![32, 512]⟩
abbrev S544x512 : Shape := ⟨2, ![544, 512]⟩
abbrev S32x64 : Shape := ⟨2, ![32, 64]⟩
abbrev S544x64 : Shape := ⟨2, ![544, 64]⟩
abbrev S32x544 : Shape := ⟨2, ![32, 544]⟩
abbrev S1x32x544 : Shape := ⟨3, ![1, 32, 544]⟩
abbrev S128x544 : Shape := ⟨2, ![128, 544]⟩
abbrev S128 : Shape := ⟨1, ![128]⟩
abbrev S128x1 : Shape := ⟨2, ![128, 1]⟩
abbrev S32x1 : Shape := ⟨2, ![32, 1]⟩

abbrev nBuf : Space → Nat
  | .hbm => 54
  | .vmem => 9
  | .smem => 0
  | _ => 0

abbrev bufTy : (tb : Table) → Fin (tcTables nBuf tb) → BufTy
  | .hbm, ⟨0, _⟩ => ⟨S8x32x512, .f32⟩
  | .hbm, ⟨1, _⟩ => ⟨S8x32x8x64, .f32⟩
  | .hbm, ⟨2, _⟩ => ⟨S8x32x8x64, .f32⟩
  | .hbm, ⟨3, _⟩ => ⟨S8x512x8x64, .f32⟩
  | .hbm, ⟨4, _⟩ => ⟨S8x512x8x64, .f32⟩
  | .hbm, ⟨5, _⟩ => ⟨S8x257, .f32⟩
  | .hbm, ⟨6, _⟩ => ⟨S_, .f32⟩
  | .hbm, ⟨7, _⟩ => ⟨S8x32x512, .f32⟩
  | .hbm, ⟨8, _⟩ => ⟨S8x32x512, .f32⟩
  | .hbm, ⟨9, _⟩ => ⟨S8x32x512, .bf16⟩
  | .hbm, ⟨10, _⟩ => ⟨S8x512x512, .f32⟩
  | .hbm, ⟨11, _⟩ => ⟨S8x32x512, .f32⟩
  | .hbm, ⟨12, _⟩ => ⟨S8x544x512, .f32⟩
  | .hbm, ⟨13, _⟩ => ⟨S8x512x512, .f32⟩
  | .hbm, ⟨14, _⟩ => ⟨S8x32x512, .f32⟩
  | .hbm, ⟨15, _⟩ => ⟨S8x544x512, .f32⟩
  | .hbm, ⟨16, _⟩ => ⟨S576, .i32⟩
  | .hbm, ⟨17, _⟩ => ⟨S_, .i32⟩
  | .hbm, ⟨18, _⟩ => ⟨S576, .i32⟩
  | .hbm, ⟨19, _⟩ => ⟨S576, .i1⟩
  | .hbm, ⟨20, _⟩ => ⟨S_, .i32⟩
  | .hbm, ⟨21, _⟩ => ⟨S576, .i32⟩
  | .hbm, ⟨22, _⟩ => ⟨S576, .i32⟩
  | .hbm, ⟨23, _⟩ => ⟨S576, .i32⟩
  | .hbm, ⟨24, _⟩ => ⟨S_, .i32⟩
  | .hbm, ⟨25, _⟩ => ⟨S576, .i32⟩
  | .hbm, ⟨26, _⟩ => ⟨S576, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S576, .i32⟩
  | .hbm, ⟨31, _⟩ => ⟨S576, .i32⟩
  | .hbm, ⟨32, _⟩ => ⟨S_, .i32⟩
  | .hbm, ⟨33, _⟩ => ⟨S576, .i32⟩
  | .hbm, ⟨34, _⟩ => ⟨S576, .i32⟩
  | .hbm, ⟨35, _⟩ => ⟨S_, .i32⟩
  | .hbm, ⟨36, _⟩ => ⟨S576, .i32⟩
  | .hbm, ⟨37, _⟩ => ⟨S576, .i32⟩
  | .hbm, ⟨38, _⟩ => ⟨S_, .i32⟩
  | .hbm, ⟨39, _⟩ => ⟨S576, .i32⟩
  | .hbm, ⟨40, _⟩ => ⟨S576, .i1⟩
  | .hbm, ⟨41, _⟩ => ⟨S_, .i32⟩
  | .hbm, ⟨42, _⟩ => ⟨S576, .i32⟩
  | .hbm, ⟨43, _⟩ => ⟨S576, .i32⟩
  | .hbm, ⟨44, _⟩ => ⟨S576, .i32⟩
  | .hbm, ⟨45, _⟩ => ⟨S576x1, .i32⟩
  | .hbm, ⟨46, _⟩ => ⟨S8x576, .f32⟩
  | .hbm, ⟨47, _⟩ => ⟨S8x1x576, .f32⟩
  | .hbm, ⟨48, _⟩ => ⟨S8x32x576, .f32⟩
  | .hbm, ⟨49, _⟩ => ⟨S8x18432, .f32⟩
  | .hbm, ⟨50, _⟩ => ⟨S8x18400, .f32⟩
  | .hbm, ⟨51, _⟩ => ⟨S8x32x575, .f32⟩
  | .hbm, ⟨52, _⟩ => ⟨S8x32x544, .f32⟩
  | .hbm, ⟨53, _⟩ => ⟨S8x32x512, .bf16⟩
  | .local _ .vmem, ⟨0, _⟩ => ⟨S1x32x512, .bf16⟩
  | .local _ .vmem, ⟨1, _⟩ => ⟨S1x32x512, .bf16⟩
  | .local _ .vmem, ⟨2, _⟩ => ⟨S1x544x512, .f32⟩
  | .local _ .vmem, ⟨3, _⟩ => ⟨S1x544x512, .f32⟩
  | .local _ .vmem, ⟨4, _⟩ => ⟨S1x544x512, .f32⟩
  | .local _ .vmem, ⟨5, _⟩ => ⟨S1x544x512, .f32⟩
  | .local _ .vmem, ⟨6, _⟩ => ⟨S8x32x544, .f32⟩
  | .local _ .vmem, ⟨7, _⟩ => ⟨S1x32x512, .bf16⟩
  | .local _ .vmem, ⟨8, _⟩ => ⟨S1x32x512, .bf16⟩
  | _, _ => ⟨S8x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_c_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x544x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x32x544 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8x32x512 : Shape := ⟨3, ![8, 32, 512]⟩
abbrev S8x32x8x64 : Shape := ⟨4, ![8, 32, 8, 64]⟩
abbrev S8x512x8x64 : Shape := ⟨4, ![8, 512, 8, 64]⟩
abbrev S8x257 : Shape := ⟨2, ![8, 257]⟩
abbrev S8x544x8x64 : Shape := ⟨4, ![8, 544, 8, 64]⟩
abbrev S544 : Shape := ⟨1, ![544]⟩
abbrev S_ : Shape := ⟨0, ![]⟩
abbrev S1x544 : Shape := ⟨2, ![1, 544]⟩
abbrev S32 : Shape := ⟨1, ![32]⟩
abbrev S32x1 : Shape := ⟨2, ![32, 1]⟩
abbrev S32x544 : Shape := ⟨2, ![32, 544]⟩
abbrev S32x544x1 : Shape := ⟨3, ![32, 544, 1]⟩
abbrev S8x32x544 : Shape := ⟨3, ![8, 32, 544]⟩
abbrev S8x8x32x544 : Shape := ⟨4, ![8, 8, 32, 544]⟩
abbrev S1x8x32x544 : Shape := ⟨4, ![1, 8, 32, 544]⟩
abbrev S8x8x32 : Shape := ⟨3, ![8, 8, 32]⟩
abbrev S8x8x32x1 : Shape := ⟨4, ![8, 8, 32, 1]⟩
abbrev S8x8x64x32 : Shape := ⟨4, ![8, 8, 64, 32]⟩

abbrev nBuf : Space → Nat
  | .hbm => 64
  | .vmem => 0
  | .smem => 0
  | _ => 0

abbrev bufTy : (tb : Table) → Fin (tcTables nBuf tb) → BufTy
  | .hbm, ⟨0, _⟩ => ⟨S8x32x512, .f32⟩
  | .hbm, ⟨1, _⟩ => ⟨S8x32x8x64, .f32⟩
  | .hbm, ⟨2, _⟩ => ⟨S8x32x8x64, .f32⟩
  | .hbm, ⟨3, _⟩ => ⟨S8x512x8x64, .f32⟩
  | .hbm, ⟨4, _⟩ => ⟨S8x512x8x64, .f32⟩
  | .hbm, ⟨5, _⟩ => ⟨S8x257, .f32⟩
  | .hbm, ⟨6, _⟩ => ⟨S8x32x8x64, .f32⟩
  | .hbm, ⟨7, _⟩ => ⟨S8x544x8x64, .f32⟩
  | .hbm, ⟨8, _⟩ => ⟨S8x544x8x64, .f32⟩
  | .hbm, ⟨9, _⟩ => ⟨S544, .i32⟩
  | .hbm, ⟨10, _⟩ => ⟨S_, .i32⟩
  | .hbm, ⟨11, _⟩ => ⟨S544, .i32⟩
  | .hbm, ⟨12, _⟩ => ⟨S544, .i32⟩
  | .hbm, ⟨13, _⟩ => ⟨S1x544, .i32⟩
  | .hbm, ⟨14, _⟩ => ⟨S32, .i32⟩
  | .hbm, ⟨15, _⟩ => ⟨S32x1, .i32⟩
  | .hbm, ⟨16, _⟩ => ⟨S32x544, .i32⟩
  | .hbm, ⟨17, _⟩ => ⟨S32x544, .i32⟩
  | .hbm, ⟨18, _⟩ => ⟨S32x544, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S32x544, .i32⟩
  | .hbm, ⟨23, _⟩ => ⟨S32x544, .i32⟩
  | .hbm, ⟨24, _⟩ => ⟨S_, .i32⟩
  | .hbm, ⟨25, _⟩ => ⟨S32x544, .i32⟩
  | .hbm, ⟨26, _⟩ => ⟨S32x544, .i32⟩
  | .hbm, ⟨27, _⟩ => ⟨S_, .i32⟩
  | .hbm, ⟨28, _⟩ => ⟨S32x544, .i32⟩
  | .hbm, ⟨29, _⟩ => ⟨S32x544, .i32⟩
  | .hbm, ⟨30, _⟩ => ⟨S_, .i32⟩
  | .hbm, ⟨31, _⟩ => ⟨S32x544, .i32⟩
  | .hbm, ⟨32, _⟩ => ⟨S32x544, .i1⟩
  | .hbm, ⟨33, _⟩ => ⟨S_, .i32⟩
  | .hbm, ⟨34, _⟩ => ⟨S32x544, .i32⟩
  | .hbm, ⟨35, _⟩ => ⟨S32x544, .i32⟩
  | .hbm, ⟨36, _⟩ => ⟨S32x544, .i32⟩
  | .hbm, ⟨37, _⟩ => ⟨S32x544x1, .i32⟩
  | .hbm, ⟨38, _⟩ => ⟨S8x32x544, .f32⟩
  | .hbm, ⟨39, _⟩ => ⟨S8x8x32x544, .f32⟩
  | .hbm, ⟨40, _⟩ => ⟨S_, .f32⟩
  | .hbm, ⟨41, _⟩ => ⟨S8x8x32x544, .f32⟩
  | .hbm, ⟨42, _⟩ => ⟨S8x8x32x544, .f32⟩
  | .hbm, ⟨43, _⟩ => ⟨S1x8x32x544, .f32⟩
  | .hbm, ⟨44, _⟩ => ⟨S8x8x32x544, .f32⟩
  | .hbm, ⟨45, _⟩ => ⟨S8x8x32x544, .f32⟩
  | .hbm, ⟨46, _⟩ => ⟨S_, .f32⟩
  | .hbm, ⟨47, _⟩ => ⟨S8x8x32, .f32⟩
  | .hbm, ⟨48, _⟩ => ⟨S_, .f32⟩
  | .hbm, ⟨49, _⟩ => ⟨S8x8x32, .f32⟩
  | .hbm, ⟨50, _⟩ => ⟨S8x8x32, .f32⟩
  | .hbm, ⟨51, _⟩ => ⟨S8x8x32x1, .f32⟩
  | .hbm, ⟨52, _⟩ => ⟨S8x8x32x544, .f32⟩
  | .hbm, ⟨53, _⟩ => ⟨S8x8x32x544, .f32⟩
  | .hbm, ⟨54, _⟩ => ⟨S8x8x32x544, .f32⟩
  | .hbm, ⟨55, _⟩ => ⟨S_, .f32⟩
  | .hbm, ⟨56, _⟩ => ⟨S8x8x32, .f32⟩
  | .hbm, ⟨57, _⟩ => ⟨S8x8x32x1, .f32⟩
  | .hbm, ⟨58, _⟩ => ⟨S8x8x32x544, .f32⟩
  | .hbm, ⟨59, _⟩ => ⟨S8x8x32x544, .f32⟩
  | .hbm, ⟨60, _⟩ => ⟨S8x8x64x32, .f32⟩
  | .hbm, ⟨61, _⟩ => ⟨S8x32x8x64, .f32⟩
  | .hbm, ⟨62, _⟩ => ⟨S8x32x512, .f32⟩
  | .hbm, ⟨63, _⟩ => ⟨S8x32x512, .bf16⟩
  | _, _ => ⟨S8x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel6.lean ====
abbrev S8x32x1024 : Shape := ⟨3, ![8, 32, 1024]⟩
abbrev S8x32x512 : Shape := ⟨3, ![8, 32, 512]⟩
abbrev S8x32x2048 : Shape := ⟨3, ![8, 32, 2048]⟩
abbrev S512 : Shape := ⟨1, ![512]⟩
abbrev S512x2048 : Shape := ⟨2, ![512, 2048]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S256x1024 : Shape := ⟨2, ![256, 1024]⟩
abbrev S256x512 : Shape := ⟨2, ![256, 512]⟩
abbrev S256x2048 : Shape := ⟨2, ![256, 2048]⟩
abbrev S1x512 : Shape := ⟨2, ![1, 512]⟩
abbrev S1x1024 : Shape := ⟨2, ![1, 1024]⟩
abbrev S16x128x128 : Shape := ⟨3, ![16, 128, 128]⟩
abbrev S2x2048x128 : Shape := ⟨3, ![2, 2048, 128]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩

abbrev nBuf : Space → Nat
  | .hbm => 30
  | .vmem => 15
  | .smem => 0
  | _ => 0

abbrev bufTy : (tb : Table) → Fin (tcTables nBuf tb) → BufTy
  | .hbm, ⟨0, _⟩ => ⟨S8x32x1024, .f32⟩
  | .hbm, ⟨1, _⟩ => ⟨S8x32x512, .f32⟩
  | .hbm, ⟨2, _⟩ => ⟨S8x32x512, .f32⟩
  | .hbm, ⟨3, _⟩ => ⟨S8x32x512, .f32⟩
  | .hbm, ⟨4, _⟩ => ⟨S8x32x2048, .f32⟩
  | .hbm, ⟨5, _⟩ => ⟨S512, .f32⟩
  | .hbm, ⟨6, _⟩ => ⟨S512x2048, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S8x2x128x128, .f32⟩
  | .hbm, ⟨12, _⟩ => ⟨S256x1024, .f32⟩
  | .hbm, ⟨13, _⟩ => ⟨S256x512, .f32⟩
  | .hbm, ⟨14, _⟩ => ⟨S256x512, .f32⟩
  | .hbm, ⟨15, _⟩ => ⟨S256x512, .f32⟩
  | .hbm, ⟨16, _⟩ => ⟨S256x512, .bf16⟩
  | .hbm, ⟨17, _⟩ => ⟨S256x2048, .f32⟩
  | .hbm, ⟨18, _⟩ => ⟨S256x2048, .bf16⟩
  | .hbm, ⟨19, _⟩ => ⟨S1x512, .f32⟩
  | .hbm, ⟨20, _⟩ => ⟨S512x2048, .bf16⟩
  | .hbm, ⟨21, _⟩ => ⟨S512x1024, .bf16⟩
  | .hbm, ⟨22, _⟩ => ⟨S1024x1024, .bf16⟩
  | .hbm, ⟨23, _⟩ => ⟨S1x1024, .f32⟩
  | .hbm, ⟨24, _⟩ => ⟨S1024x2048, .bf16⟩
  | .hbm, ⟨25, _⟩ => ⟨S16x128x128, .f32⟩
  | .hbm, ⟨26, _⟩ => ⟨S16x128x128, .bf16⟩
  | .hbm, ⟨27, _⟩ => ⟨S256x1024, .f32⟩
  | .hbm, ⟨28, _⟩ => ⟨S256x1024, .bf16⟩
  | .hbm, ⟨29, _⟩ => ⟨S2x2048x128, .f32⟩
  | .local _ .vmem, ⟨0, _⟩ => ⟨S256x1024, .f32⟩
  | .local _ .vmem, ⟨1, _⟩ => ⟨S256x512, .f32⟩
  | .local _ .vmem, ⟨2, _⟩ => ⟨S256x512, .f32⟩
  | .local _ .vmem, ⟨3, _⟩ => ⟨S256x512, .bf16⟩
  | .local _ .vmem, ⟨4, _⟩ => ⟨S256x2048, .bf16⟩
  | .local _ .vmem, ⟨5, _⟩ => ⟨S1x512, .f32⟩
  | .local _ .vmem, ⟨6, _⟩ => ⟨S512x2048, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x2048, .bf16⟩
  | .local _ .vmem, ⟨11, _⟩ => ⟨S16x128x128, .bf16⟩
  | .local _ .vmem, ⟨12, _⟩ => ⟨S256x1024, .f32⟩
  | .local _ .vmem, ⟨13, _⟩ => ⟨S256x1024, .bf16⟩
  | .local _ .vmem, ⟨14, _⟩ => ⟨S2x2048x128, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S2x2048x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference6Ideal.lean ====
abbrev S8x32x1024 : Shape := ⟨3, ![8, 32, 1024]⟩
abbrev S8x32x512 : Shape := ⟨3, ![8, 32, 512]⟩
abbrev S8x32x2048 : Shape := ⟨3, ![8, 32, 2048]⟩
abbrev S512 : Shape := ⟨1, ![512]⟩
abbrev S512x2048 : Shape := ⟨2, ![512, 2048]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S1x1x512 : Shape := ⟨3, ![1, 1, 512]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S256x8x2x128 : Shape := ⟨4, ![256, 8, 2, 128]⟩
abbrev S8x2x128x256 : Shape := ⟨4, ![8, 2, 128, 256]⟩
abbrev S2x128x2048 : Shape := ⟨3, ![2, 128, 2048]⟩
abbrev S2x2048x128 : Shape := ⟨3, ![2, 2048, 128]⟩
abbrev S256x1024 : Shape := ⟨2, ![256, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S8x32x512, .f32⟩
  | .hbm, ⟨2, _⟩ => ⟨S8x32x512, .f32⟩
  | .hbm, ⟨3, _⟩ => ⟨S8x32x512, .f32⟩
  | .hbm, ⟨4, _⟩ => ⟨S8x32x2048, .f32⟩
  | .hbm, ⟨5, _⟩ => ⟨S512, .f32⟩
  | .hbm, ⟨6, _⟩ => ⟨S512x2048, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S8x2x128x128, .f32⟩
  | .hbm, ⟨12, _⟩ => ⟨S8x32x1024, .f32⟩
  | .hbm, ⟨13, _⟩ => ⟨S8x32x1024, .f32⟩
  | .hbm, ⟨14, _⟩ => ⟨S1x1x512, .f32⟩
  | .hbm, ⟨15, _⟩ => ⟨S8x32x512, .f32⟩
  | .hbm, ⟨16, _⟩ => ⟨S8x32x512, .f32⟩
  | .hbm, ⟨17, _⟩ => ⟨S8x32x512, .f32⟩
  | .hbm, ⟨18, _⟩ => ⟨S8x32x2048, .f32⟩
  | .hbm, ⟨19, _⟩ => ⟨S8x32x1024, .f32⟩
  | .hbm, ⟨20, _⟩ => ⟨S8x32x1024, .f32⟩
  | .hbm, ⟨21, _⟩ => ⟨S8x32x1024, .f32⟩
  | .hbm, ⟨22, _⟩ => ⟨S8x32x1024, .f32⟩
  | .hbm, ⟨23, _⟩ => ⟨S_, .f32⟩
  | .hbm, ⟨24, _⟩ => ⟨S8x32x1024, .f32⟩
  | .hbm, ⟨25, _⟩ => ⟨S8x32x1024, .f32⟩
  | .hbm, ⟨26, _⟩ => ⟨S_, .f32⟩
  | .hbm, ⟨27, _⟩ => ⟨S8x32x1024, .f32⟩
  | .hbm, ⟨28, _⟩ => ⟨S8x32x1024, .f32⟩
  | .hbm, ⟨29, _⟩ => ⟨S8x32x1024, .f32⟩
  | .hbm, ⟨30, _⟩ => ⟨S8x32x1024, .f32⟩
  | .hbm, ⟨31, _⟩ => ⟨S8x32x1024, .f32⟩
  | .hbm, ⟨32, _⟩ => ⟨S8x32x1024, .f32⟩
  | .hbm, ⟨33, _⟩ => ⟨S_, .f32⟩
  | .hbm, ⟨34, _⟩ => ⟨S8x32x1024, .f32⟩
  | .hbm, ⟨35, _⟩ => ⟨S8x32x1024, .f32⟩
  | .hbm, ⟨36, _⟩ => ⟨S_, .f32⟩
  | .hbm, ⟨37, _⟩ => ⟨S8x32x1024, .f32⟩
  | .hbm, ⟨38, _⟩ => ⟨S8x32x1024, .f32⟩
  | .hbm, ⟨39, _⟩ => ⟨S8x32x1024, .f32⟩
  | .hbm, ⟨40, _⟩ => ⟨S8x32x1024, .f32⟩
  | .hbm, ⟨41, _⟩ => ⟨S8x32x1024, .f32⟩
  | .hbm, ⟨42, _⟩ => ⟨S_, .f32⟩
  | .hbm, ⟨43, _⟩ => ⟨S8x32x1024, .f32⟩
  | .hbm, ⟨44, _⟩ => ⟨S8x32x1024, .f32⟩
  | .hbm, ⟨45, _⟩ => ⟨S_, .f32⟩
  | .hbm, ⟨46, _⟩ => ⟨S8x32x1024, .f32⟩
  | .hbm, ⟨47, _⟩ => ⟨S8x32x1024, .f32⟩
  | .hbm, ⟨48, _⟩ => ⟨S8x32x1024, .f32⟩
  | .hbm, ⟨49, _⟩ => ⟨S8x32x1024, .f32⟩
  | .hbm, ⟨50, _⟩ => ⟨S8x32x1024, .f32⟩
  | .hbm, ⟨51, _⟩ => ⟨S8x32x1024, .f32⟩
  | .hbm, ⟨52, _⟩ => ⟨S8x32x1024, .f32⟩
  | .hbm, ⟨53, _⟩ => ⟨S_, .f32⟩
  | .hbm, ⟨54, _⟩ => ⟨S8x32, .f32⟩
  | .hbm, ⟨55, _⟩ => ⟨S8x32x1, .f32⟩
  | .hbm, ⟨56, _⟩ => ⟨S_, .f32⟩
  | .hbm, ⟨57, _⟩ => ⟨S8x32x1, .f32⟩
  | .hbm, ⟨58, _⟩ => ⟨S8x32x1, .f32⟩
  | .hbm, ⟨59, _⟩ => ⟨S_, .f32⟩
  | .hbm, ⟨60, _⟩ => ⟨S8x32x1, .f32⟩
  | .hbm, ⟨61, _⟩ => ⟨S8x32x1, .f32⟩
  | .hbm, ⟨62, _⟩ => ⟨S8x32x1, .f32⟩
  | .hbm, ⟨63, _⟩ => ⟨S8x32x1024, .f32⟩
  | .hbm, ⟨64, _⟩ => ⟨S8x32x1024, .f32⟩
  | .hbm, ⟨65, _⟩ => ⟨S1x1x1024, .f32⟩
  | .hbm, ⟨66, _⟩ => ⟨S8x32x1024, .f32⟩
  | .hbm, ⟨67, _⟩ => ⟨S8x32x1024, .f32⟩
  | .hbm, ⟨68, _⟩ => ⟨S8x32x2048, .f32⟩
  | .hbm, ⟨69, _⟩ => ⟨S256x8x2x128, .f32⟩
  | .hbm, ⟨70, _⟩ => ⟨S8x2x128x256, .f32⟩
  | .hbm, ⟨71, _⟩ => ⟨S256x8x2x128, .f32⟩
  | .hbm, ⟨72, _⟩ => ⟨S2x128x2048, .f32⟩
  | .hbm, ⟨73, _⟩ => ⟨S2x2048x128, .f32⟩
  | .hbm, ⟨74, _⟩ => ⟨S256x1024, .f32⟩
  | .hbm, ⟨75, _⟩ => ⟨S256x1024, .f32⟩
  | .hbm, ⟨76, _⟩ => ⟨S256x1024, .bf16⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel7.lean ====
abbrev S8x32x512 : Shape := ⟨3, ![8, 32, 512]⟩
abbrev S8x32x64 : Shape := ⟨3, ![8, 32, 64]⟩
abbrev S32x512x512 : Shape := ⟨3, ![32, 512, 512]⟩
abbrev S32x512x64 : Shape := ⟨3, ![32, 512, 64]⟩
abbrev S32x64x512 : Shape := ⟨3, ![32, 64, 512]⟩
abbrev S32x64 : Shape := ⟨2, ![32, 64]⟩
abbrev S_ : Shape := ⟨0, ![]⟩
abbrev S32x512x128 : Shape := ⟨3, ![32, 512, 128]⟩
abbrev S32x512x256 : Shape := ⟨3, ![32, 512, 256]⟩
abbrev S32x128x512 : Shape := ⟨3, ![32, 128, 512]⟩
abbrev S32x256x512 : Shape := ⟨3, ![32, 256, 512]⟩
abbrev S32x128 : Shape := ⟨2, ![32, 128]⟩
abbrev S32x1x128 : Shape := ⟨3, ![32, 1, 128]⟩
abbrev S8x1x32x32x16 : Shape := ⟨5, ![8, 1, 32, 32, 16]⟩
abbrev S32x1x8x32x16 : Shape := ⟨5, ![32, 1, 8, 32, 16]⟩
abbrev S32x8x512 : Shape := ⟨3, ![32, 8, 512]⟩
abbrev S8x32x256 : Shape := ⟨3, ![8, 32, 256]⟩
abbrev S32x8x256 : Shape := ⟨3, ![32, 8, 256]⟩
abbrev S1x8x512 : Shape := ⟨3, ![1, 8, 512]⟩
abbrev S1x512x512 : Shape := ⟨3, ![1, 512, 512]⟩
abbrev S1x512x256 : Shape := ⟨3, ![1, 512, 256]⟩
abbrev S1x256x512 : Shape := ⟨3, ![1, 256, 512]⟩
abbrev S1x1x128 : Shape := ⟨3, ![1, 1, 128]⟩
abbrev S1x8x256 : Shape := ⟨3, ![1, 8, 256]⟩
abbrev S8x128 : Shape := ⟨2, ![8, 128]⟩
abbrev S8x256 : Shape := ⟨2, ![8, 256]⟩
abbrev S8x512 : Shape := ⟨2, ![8, 512]⟩
abbrev S512x256 : Shape := ⟨2, ![512, 256]⟩
abbrev S1x128 : Shape := ⟨2, ![1, 128]⟩
abbrev S1x8x128 : Shape := ⟨3, ![1, 8, 128]⟩
abbrev S512x512 : Shape := ⟨2, ![512, 512]⟩
abbrev S256x512 : Shape := ⟨2, ![256, 512]⟩

abbrev nBuf : Space → Nat
  | .hbm => 42
  | .vmem => 21
  | .smem => 0
  | _ => 0

abbrev bufTy : (tb : Table) → Fin (tcTables nBuf tb) → BufTy
  | .hbm, ⟨0, _⟩ => ⟨S8x32x512, .f32⟩
  | .hbm, ⟨1, _⟩ => ⟨S8x32x64, .f32⟩
  | .hbm, ⟨2, _⟩ => ⟨S8x32x64, .f32⟩
  | .hbm, ⟨3, _⟩ => ⟨S32x512x512, .f32⟩
  | .hbm, ⟨4, _⟩ => ⟨S32x512x64, .f32⟩
  | .hbm, ⟨5, _⟩ => ⟨S32x512x64, .f32⟩
  | .hbm, ⟨6, _⟩ => ⟨S32x64x512, .f32⟩
  | .hbm, ⟨7, _⟩ => ⟨S32x64x512, .f32⟩
  | .hbm, ⟨8, _⟩ => ⟨S32x64, .f32⟩
  | .hbm, ⟨9, _⟩ => ⟨S32x64, .f32⟩
  | .hbm, ⟨10, _⟩ => ⟨S_, .f32⟩
  | .hbm, ⟨11, _⟩ => ⟨S32x512x64, .f32⟩
  | .hbm, ⟨12, _⟩ => ⟨S32x512x128, .f32⟩
  | .hbm, ⟨13, _⟩ => ⟨S_, .f32⟩
  | .hbm, ⟨14, _⟩ => ⟨S32x512x64, .f32⟩
  | .hbm, ⟨15, _⟩ => ⟨S32x512x128, .f32⟩
  | .hbm, ⟨16, _⟩ => ⟨S32x512x256, .f32⟩
  | .hbm, ⟨17, _⟩ => ⟨S_, .f32⟩
  | .hbm, ⟨18, _⟩ => ⟨S32x64x512, .f32⟩
  | .hbm, ⟨19, _⟩ => ⟨S32x128x512, .f32⟩
  | .hbm, ⟨20, _⟩ => ⟨S32x64x512, .f32⟩
  | .hbm, ⟨21, _⟩ => ⟨S_, .f32⟩
  | .hbm, ⟨22, _⟩ => ⟨S32x64x512, .f32⟩
  | .hbm, ⟨23, _⟩ => ⟨S32x128x512, .f32⟩
  | .hbm, ⟨24, _⟩ => ⟨S32x256x512, .f32⟩
  | .hbm, ⟨25, _⟩ => ⟨S_, .f32⟩
  | .hbm, ⟨26, _⟩ => ⟨S32x64, .f32⟩
  | .hbm, ⟨27, _⟩ => ⟨S32x128, .f32⟩
  | .hbm, ⟨28, _⟩ => ⟨S32x1x128, .f32⟩
  | .hbm, ⟨29, _⟩ => ⟨S_, .f32⟩
  | .hbm, ⟨30, _⟩ => ⟨S32x64, .f32⟩
  | .hbm, ⟨31, _⟩ => ⟨S32x128, .f32⟩
  | .hbm, ⟨32, _⟩ => ⟨S32x1x128, .f32⟩
  | .hbm, ⟨33, _⟩ => ⟨S8x1x32x32x16, .f32⟩
  | .hbm, ⟨34, _⟩ => ⟨S32x1x8x32x16, .f32⟩
  | .hbm, ⟨35, _⟩ => ⟨S32x8x512, .f32⟩
  | .hbm, ⟨36, _⟩ => ⟨S_, .f32⟩
  | .hbm, ⟨37, _⟩ => ⟨S8x32x64, .f32⟩
  | .hbm, ⟨38, _⟩ => ⟨S8x32x256, .f32⟩
  | .hbm, ⟨39, _⟩ => ⟨S32x8x256, .f32⟩
  | .hbm, ⟨40, _⟩ => ⟨S32x8x512, .f32⟩
  | .hbm, ⟨41, _⟩ => ⟨S32x8x256, .f32⟩
  | .local _ .vmem, ⟨0, _⟩ => ⟨S1x8x512, .f32⟩
  | .local _ .vmem, ⟨1, _⟩ => ⟨S1x8x512, .f32⟩
  | .local _ .vmem, ⟨2, _⟩ => ⟨S1x512x512, .f32⟩
  | .local _ .vmem, ⟨3, _⟩ => ⟨S1x512x512, .f32⟩
  | .local _ .vmem, ⟨4, _⟩ => ⟨S1x512x256, .f32⟩
  | .local _ .vmem, ⟨5, _⟩ => ⟨S1x512x256, .f32⟩
  | .local _ .vmem, ⟨6, _⟩ => ⟨S1x256x512, .f32⟩
  | .local _ .vmem, ⟨7, _⟩ => ⟨S1x256x512, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x8x256, .f32⟩
  | .local _ .vmem, ⟨13, _⟩ => ⟨S1x8x256, .f32⟩
  | .local _ .vmem, ⟨14, _⟩ => ⟨S1x8x512, .f32⟩
  | .local _ .vmem, ⟨15, _⟩ => ⟨S1x8x512, .f32⟩
  | .local _ .vmem, ⟨16, _⟩ => ⟨S1x8x256, .f32⟩
  | .local _ .vmem, ⟨17, _⟩ => ⟨S1x8x256, .f32⟩
  | .local _ .vmem, ⟨18, _⟩ => ⟨S8x128, .f32⟩
  | .local _ .vmem, ⟨19, _⟩ => ⟨S8x128, .f32⟩
  | .local _ .vmem, ⟨20, _⟩ => ⟨S8x256, .f32⟩
  | _, _ => ⟨S8x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c8_i32 : BitVec 32 := 8#32
  let v21 : BitVec 32 := Scalar.muli c0_i32 c8_i32
  v21
def k0_off1 : Fin 2 → Nat :=
  let c0_i32 : BitVec 32 := 0#32
  let c8_i32 : BitVec 32 := 8#32
  let v21 : BitVec 32 := Scalar.muli c0_i32 c8_i32
  let v22 : BitVec 32 := v21
  let v23 : Index := Scalar.indexCast v22
  let c0_20 : Index := 0#32
  ![v23.toNat, 0]
def k0_off2 : Fin 2 → Nat :=
  let c0_i32 : BitVec 32 := 0#32
  let c8_i32 : BitVec 32 := 8#32
  let v21 : BitVec 32 := Scalar.muli c0_i32 c8_i32
  let v22 : BitVec 32 := v21
  let v27 : Index := Scalar.indexCast v22
  let c128_21 : Index := 128#32
  ![v27.toNat, 128]
def k0_off3 : Fin 2 → Nat :=
  let c0_i32 : BitVec 32 := 0#32
  let c8_i32 : BitVec 32 := 8#32
  let v21 : BitVec 32 := Scalar.muli c0_i32 c8_i32
  let v22 : BitVec 32 := v21
  let v36 : Index := Scalar.indexCast v22
  let c0_22 : Index := 0#32
  ![v36.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8x32x512 : Shape := ⟨3, ![8, 32, 512]⟩
abbrev S8x32x64 : Shape := ⟨3, ![8, 32, 64]⟩
abbrev S32x512x512 : Shape := ⟨3, ![32, 512, 512]⟩
abbrev S32x512x64 : Shape := ⟨3, ![32, 512, 64]⟩
abbrev S32x64x512 : Shape := ⟨3, ![32, 64, 512]⟩
abbrev S32x64 : Shape := ⟨2, ![32, 64]⟩
abbrev S8x32x32x16 : Shape := ⟨4, ![8, 32, 32, 16]⟩
abbrev S32x8x32x16 : Shape := ⟨4, ![32, 8, 32, 16]⟩
abbrev S32x8x512 : Shape := ⟨3, ![32, 8, 512]⟩
abbrev S32x8x64 : Shape := ⟨3, ![32, 8, 64]⟩
abbrev S32x1x64 : Shape := ⟨3, ![32, 1, 64]⟩
abbrev S_ : Shape := ⟨0, ![]⟩
abbrev S32x8x256 : Shape := ⟨3, ![32, 8, 256]⟩

abbrev nBuf : Space → Nat
  | .hbm => 40
  | .vmem => 0
  | .smem => 0
  | _ => 0

abbrev bufTy : (tb : Table) → Fin (tcTables nBuf tb) → BufTy
  | .hbm, ⟨0, _⟩ => ⟨S8x32x512, .f32⟩
  | .hbm, ⟨1, _⟩ => ⟨S8x32x64, .f32⟩
  | .hbm, ⟨2, _⟩ => ⟨S8x32x64, .f32⟩
  | .hbm, ⟨3, _⟩ => ⟨S32x512x512, .f32⟩
  | .hbm, ⟨4, _⟩ => ⟨S32x512x64, .f32⟩
  | .hbm, ⟨5, _⟩ => ⟨S32x512x64, .f32⟩
  | .hbm, ⟨6, _⟩ => ⟨S32x64x512, .f32⟩
  | .hbm, ⟨7, _⟩ => ⟨S32x64x512, .f32⟩
  | .hbm, ⟨8, _⟩ => ⟨S32x64, .f32⟩
  | .hbm, ⟨9, _⟩ => ⟨S32x64, .f32⟩
  | .hbm, ⟨10, _⟩ => ⟨S8x32x32x16, .f32⟩
  | .hbm, ⟨11, _⟩ => ⟨S32x8x32x16, .f32⟩
  | .hbm, ⟨12, _⟩ => ⟨S32x8x512, .f32⟩
  | .hbm, ⟨13, _⟩ => ⟨S32x8x64, .f32⟩
  | .hbm, ⟨14, _⟩ => ⟨S32x8x64, .f32⟩
  | .hbm, ⟨15, _⟩ => ⟨S32x1x64, .f32⟩
  | .hbm, ⟨16, _⟩ => ⟨S32x1x64, .f32⟩
  | .hbm, ⟨17, _⟩ => ⟨S32x8x64, .f32⟩
  | .hbm, ⟨18, _⟩ => ⟨S32x8x64, .f32⟩
  | .hbm, ⟨19, _⟩ => ⟨S32x8x64, .f32⟩
  | .hbm, ⟨20, _⟩ => ⟨S32x8x64, .f32⟩
  | .hbm, ⟨21, _⟩ => ⟨S32x8x64, .f32⟩
  | .hbm, ⟨22, _⟩ => ⟨S32x8x64, .f32⟩
  | .hbm, ⟨23, _⟩ => ⟨S32x8x64, .f32⟩
  | .hbm, ⟨24, _⟩ => ⟨S32x8x64, .f32⟩
  | .hbm, ⟨25, _⟩ => ⟨S32x8x64, .f32⟩
  | .hbm, ⟨26, _⟩ => ⟨S32x8x64, .f32⟩
  | .hbm, ⟨27, _⟩ => ⟨S32x8x64, .f32⟩
  | .hbm, ⟨28, _⟩ => ⟨S32x8x64, .f32⟩
  | .hbm, ⟨29, _⟩ => ⟨S32x8x64, .f32⟩
  | .hbm, ⟨30, _⟩ => ⟨S32x8x64, .f32⟩
  | .hbm, ⟨31, _⟩ => ⟨S32x8x512, .f32⟩
  | .hbm, ⟨32, _⟩ => ⟨S32x8x512, .f32⟩
  | .hbm, ⟨33, _⟩ => ⟨S32x64x512, .f32⟩
  | .hbm, ⟨34, _⟩ => ⟨S32x8x512, .f32⟩
  | .hbm, ⟨35, _⟩ => ⟨S32x8x512, .f32⟩
  | .hbm, ⟨36, _⟩ => ⟨S32x8x512, .f32⟩
  | .hbm, ⟨37, _⟩ => ⟨S_, .f32⟩
  | .hbm, ⟨38, _⟩ => ⟨S32x8x64, .f32⟩
  | .hbm, ⟨39, _⟩ => ⟨S32x8x256, .f32⟩
  | _, _ => ⟨S8x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.AttBlock.lean ====
module

public import proofs.«01_k».proof.Proof.Gen.KernelIdeal.Frame
public import Idealize.ShloMosaic.Lib.Pointwise
public import Idealize.ShloMosaic.Lib.Pipeline.Value

/-! What one grid point of the attention kernel computes: each element of its output block is a softmax-weighted
    average of the values of the 768 keys the point holds, read off the point's input blocks. -/

@[expose] public section

set_option maxRecDepth 16384

noncomputable section

namespace Cert.Attn

open Idealize.ShloMosaic Cert.KernelIdeal Cert.KernelIdeal.Gen

/-- The average of the values `V` under the exponential weights of the scores `S` taken relative to their greatest,
    divided once at the end. -/
def average {n : ℕ} (S V : Fin n → EReal) : EReal :=
  Ideal.div (∑ k, Ideal.exp (S k - Finset.univ.fold max (Ideal.ofBits .f32 0xFF800000#32) S) * V k)
    (∑ k, Ideal.exp (S k - Finset.univ.fold max (Ideal.ofBits .f32 0xFF800000#32) S))

/-- The column of head `h`'s component `e` in a 512-wide row. -/
abbrev col (h : Fin 8) (e : Fin 64) : Fin 512 := ⟨64 * h.val + e.val, by omega⟩

variable (i : grid0.Coords) (x0 x1 x2 x3 x4 x5 x6 : Vec Ideal S1x256x512 .bf16) (x7 : Vec Ideal S8x256x768 .f32)

/-- The score of key `kk` for query row `r` under head `h`: the product with the bias added where the key exists. -/
def score (h : Fin 8) (r : Fin 256) (kk : Fin 768) : EReal :=
  Scalar.select (k0_pay5 i (ix2 r kk))
    ((∑ e : Fin 64, k0_pay4 x0 (ix2 r (col h e)) * k0_pay2 x1 x2 x3 (ix2 kk (col h e))) + x7 (ix3 h r kk))
    (Ideal.ofBits .f32 0xFF800000#32)

theorem zeros : (![0, 0, 0] : Fin 3 → ℕ) = fun _ => 0 := by
  funext a; fin_cases a <;> rfl

theorem ld0 (x : Vec Ideal S1x256x512 .bf16) : View.ld x r0_0 = x :=
  View.ld_unit_zero zeros _ x

/-- The weight of key `k` among the scores `S`. -/
def weight {n : ℕ} (S : Fin n → EReal) (k : Fin n) : EReal :=
  Ideal.exp (S k - Finset.univ.fold max (Ideal.ofBits .f32 0xFF800000#32) S)

section Rows

variable (v6 : FVec Ideal S768x512 .bf16) (v18 : FVec Ideal S256x512 .bf16) (v20 : IVec S256x768 1)
  (v26 v29 : FVec Ideal S256x768 .f32) (b0 b1 b2 b3 : Vec Ideal S1x256x768 .f32) (r : Fin 256) (kk : Fin 768)

/-- A score where the mask has the key, the least element elsewhere. -/
def masked (s : Fin 256 → Fin 768 → EReal) : Fin 768 → EReal :=
  fun kk => Scalar.select (v20 (ix2 r kk)) (s r kk) (Ideal.ofBits .f32 0xFF800000#32)

/-- The product of query row `r` and key row `kk` over head `h`'s columns. -/
def dotRow (h : Fin 8) (r : Fin 256) (kk : Fin 768) : EReal :=
  ∑ e : Fin 64, v18 (ix2 r (col h e)) * v6 (ix2 kk (col h e))

set_option maxHeartbeats 1000000 in
theorem pay8_0 : k0_pay8 v6 v18 v20 v26 v29 b0 b1 b2 (ix2 (⟨r.val, by omega⟩ : Fin 1024) kk)
    = weight (masked v20 r fun r kk => v26 (ix2 r kk)) kk := by
  pointwise [k0_pay8]
  rfl

set_option maxHeartbeats 1000000 in
theorem pay8_1 : k0_pay8 v6 v18 v20 v26 v29 b0 b1 b2 (ix2 (⟨256 + r.val, by omega⟩ : Fin 1024) kk)
    = weight (masked v20 r fun r kk => v29 (ix2 r kk) + b0 (ix3 0 r kk)) kk := by
  pointwise [k0_pay8]
  rfl

set_option maxHeartbeats 1000000 in
theorem pay8_2 : k0_pay8 v6 v18 v20 v26 v29 b0 b1 b2 (ix2 (⟨512 + r.val, by omega⟩ : Fin 1024) kk)
    = weight (masked v20 r fun r kk => dotRow v6 v18 2 r kk + b1 (ix3 0 r kk)) kk := by
  pointwise [k0_pay8]
  simp (disch := omega) only [dif_neg, dif_pos]
  simp only [show 512 + r.val - 256 - 256 = r.val by omega]
  rfl

set_option maxHeartbeats 1000000 in
theorem pay8_3 : k0_pay8 v6 v18 v20 v26 v29 b0 b1 b2 (ix2 (⟨768 + r.val, by omega⟩ : Fin 1024) kk)
    = weight (masked v20 r fun r kk => dotRow v6 v18 3 r kk + b2 (ix3 0 r kk)) kk := by
  pointwise [k0_pay8]
  simp (disch := omega) only [dif_neg, dif_pos]
  simp only [show 768 + r.val - 256 - 256 - 256 = r.val by omega]
  rfl

set_option maxHeartbeats 1000000 in
theorem pay17_0 : k0_pay17 v6 v18 v20 b0 b1 b2 b3 (ix2 (⟨r.val, by omega⟩ : Fin 1024) kk)
    = weight (masked v20 r fun r kk => dotRow v6 v18 4 r kk + b0 (ix3 0 r kk)) kk := by
  pointwise [k0_pay17]
  rfl

set_option maxHeartbeats 1000000 in
theorem pay17_1 : k0_pay17 v6 v18 v20 b0 b1 b2 b3 (ix2 (⟨256 + r.val, by omega⟩ : Fin 1024) kk)
    = weight (masked v20 r fun r kk => dotRow v6 v18 5 r kk + b1 (ix3 0 r kk)) kk := by
  pointwise [k0_pay17]
  rfl

set_option maxHeartbeats 1000000 in
theorem pay17_2 : k0_pay17 v6 v18 v20 b0 b1 b2 b3 (ix2 (⟨512 + r.val, by omega⟩ : Fin 1024) kk)
    = weight (masked v20 r fun r kk => dotRow v6 v18 6 r kk + b2 (ix3 0 r kk)) kk := by
  pointwise [k0_pay17]
  simp (disch := omega) only [dif_neg, dif_pos]
  simp only [show 512 + r.val - 256 - 256 = r.val by omega]
  rfl

set_option maxHeartbeats 1000000 in
theorem pay17_3 : k0_pay17 v6 v18 v20 b0 b1 b2 b3 (ix2 (⟨768 + r.val, by omega⟩ : Fin 1024) kk)
    = weight (masked v20 r fun r kk => dotRow v6 v18 7 r kk + b3 (ix3 0 r kk)) kk := by
  pointwise [k0_pay17]
  simp (disch := omega) only [dif_neg, dif_pos]
  simp only [show 768 + r.val - 256 - 256 - 256 = r.val by omega]
  rfl

end Rows

theorem ldb0 (r : Fin 256) (kk : Fin 768) : View.ld x7 r0_1 (ix3 0 r kk) = x7 (ix3 0 r kk) := by
  pointwise
theorem ldb1 (r : Fin 256) (kk : Fin 768) : View.ld x7 r0_2 (ix3 0 r kk) = x7 (ix3 1 r kk) := by
  pointwise
theorem ldb2 (r : Fin 256) (kk : Fin 768) : View.ld x7 r0_3 (ix3 0 r kk) = x7 (ix3 2 r kk) := by
  pointwise
theorem ldb3 (r : Fin 256) (kk : Fin 768) : View.ld x7 r0_4 (ix3 0 r kk) = x7 (ix3 3 r kk) := by
  pointwise
theorem ldb4 (r : Fin 256) (kk : Fin 768) : View.ld x7 r0_5 (ix3 0 r kk) = x7 (ix3 4 r kk) := by
  pointwise
theorem ldb5 (r : Fin 256) (kk : Fin 768) : View.ld x7 r0_6 (ix3 0 r kk) = x7 (ix3 5 r kk) := by
  pointwise
theorem ldb6 (r : Fin 256) (kk : Fin 768) : View.ld x7 r0_7 (ix3 0 r kk) = x7 (ix3 6 r kk) := by
  pointwise
theorem ldb7 (r : Fin 256) (kk : Fin 768) : View.ld x7 r0_8 (ix3 0 r kk) = x7 (ix3 7 r kk) := by
  pointwise

theorem pay6_apply (r : Fin 256) (kk : Fin 768) :
    k0_pay6 x1 x2 x3 x0 (View.ld x7 r0_1) (ix2 r kk)
      = dotRow (k0_pay2 x1 x2 x3) (k0_pay4 x0) 0 r kk + x7 (ix3 0 r kk) := by
  rw [← ldb0 x7]
  pointwise [k0_pay6]
  simp only [dotRow, col, Fin.val_zero, Nat.mul_zero, Nat.zero_add]

theorem pay7_apply (r : Fin 256) (kk : Fin 768) :
    k0_pay7 x1 x2 x3 x0 (ix2 r kk) = dotRow (k0_pay2 x1 x2 x3) (k0_pay4 x0) 1 r kk := by
  pointwise [k0_pay7]
  rfl

/-- An average is determined by its weights' scores and its values. -/
theorem average_of {n : ℕ} {S : Fin n → EReal} {N W V : Fin n → EReal} (hW : W = weight S) (hV : N = V) :
    Ideal.div (∑ k, W k * N k) (∑ k, W k) = average S V := by
  subst hW hV; rfl

set_option maxHeartbeats 2000000 in
/-- An element of the output block. -/
theorem out_apply (h : Fin 8) (r : Fin 256) (d : Fin 64) :
    out0_8 i x0 x1 x2 x3 x4 x5 x6 x7 (ix3 0 r (col h d))
      = average (score i x0 x1 x2 x3 x7 h r) (fun kk => k0_pay3 x4 x5 x6 (ix2 kk (col h d))) := by
  unfold_out out0_8
  simp only [ld0]
  rw [View.canon_unit_zero zeros]
  match h with
  | ⟨0, _⟩ =>
    pointwise [k0_pay1, k0_pay9, k0_pay10, k0_pay11, k0_pay12, k0_pay13, k0_pay14, k0_pay15, k0_pay16]
    simp only [pay8_0]
    exact average_of (congrArg (fun s => weight (masked (k0_pay5 i) r s)) (funext₂ fun r kk => pay6_apply x0 x1 x2 x3 x7 r kk))
      (funext fun kk => congrArg _ (congrArg _ (Fin.ext (by simp only [col]; omega))))
  | ⟨1, _⟩ =>
    pointwise [k0_pay1, k0_pay9, k0_pay10, k0_pay11, k0_pay12, k0_pay13, k0_pay14, k0_pay15, k0_pay16]
    simp only [pay8_1]
    exact average_of (congrArg (fun s => weight (masked (k0_pay5 i) r s)) (funext₂ fun r kk => congrArg₂ (· + ·) (pay7_apply x0 x1 x2 x3 r kk) (ldb1 x7 r kk)))
      (funext fun kk => congrArg _ (congrArg _ (Fin.ext (by simp only [col]; omega))))
  | ⟨2, _⟩ =>
    pointwise [k0_pay1, k0_pay9, k0_pay10, k0_pay11, k0_pay12, k0_pay13, k0_pay14, k0_pay15, k0_pay16]
    iterate 2 rw [dif_neg (by omega)]
    rw [dif_pos (by omega)]
    simp only [pay8_2]
    exact average_of (congrArg (fun s => weight (masked (k0_pay5 i) r s)) (funext₂ fun r kk => congrArg (_ + ·) (ldb2 x7 r kk)))
      (funext fun kk => congrArg _ (congrArg _ (Fin.ext (by simp only [col]; omega))))
  | ⟨3, _⟩ =>
    pointwise [k0_pay1, k0_pay9, k0_pay10, k0_pay11, k0_pay12, k0_pay13, k0_pay14, k0_pay15, k0_pay16]
    iterate 3 rw [dif_neg (by omega)]
    rw [dif_pos (by omega)]
    simp only [pay8_3]
    exact average_of (congrArg (fun s => weight (masked (k0_pay5 i) r s)) (funext₂ fun r kk => congrArg (_ + ·) (ldb3 x7 r kk)))
      (funext fun kk => congrArg _ (congrArg _ (Fin.ext (by simp only [col]; omega))))
  | ⟨4, _⟩ =>
    pointwise [k0_pay1, k0_pay9, k0_pay10, k0_pay11, k0_pay12, k0_pay13, k0_pay14, k0_pay15, k0_pay16]
    iterate 4 rw [dif_neg (by omega)]
    rw [dif_pos (by omega)]
    simp only [pay17_0]
    exact average_of (congrArg (fun s => weight (masked (k0_pay5 i) r s)) (funext₂ fun r kk => congrArg (_ + ·) (ldb4 x7 r kk)))
      (funext fun kk => congrArg _ (congrArg _ (Fin.ext (by simp only [col]; omega))))
  | ⟨5, _⟩ =>
    pointwise [k0_pay1, k0_pay9, k0_pay10, k0_pay11, k0_pay12, k0_pay13, k0_pay14, k0_pay15, k0_pay16]
    iterate 5 rw [dif_neg (by omega)]
    rw [dif_pos (by omega)]
    simp only [pay17_1]
    exact average_of (congrArg (fun s => weight (masked (k0_pay5 i) r s)) (funext₂ fun r kk => congrArg (_ + ·) (ldb5 x7 r kk)))
      (funext fun kk => congrArg _ (congrArg _ (Fin.ext (by simp only [col]; omega))))
  | ⟨6, _⟩ =>
    pointwise [k0_pay1, k0_pay9, k0_pay10, k0_pay11, k0_pay12, k0_pay13, k0_pay14, k0_pay15, k0_pay16]
    iterate 6 rw [dif_neg (by omega)]
    rw [dif_pos (by omega)]
    simp only [pay17_2]
    exact average_of (congrArg (fun s => weight (masked (k0_pay5 i) r s)) (funext₂ fun r kk => congrArg (_ + ·) (ldb6 x7 r kk)))
      (funext fun kk => congrArg _ (congrArg _ (Fin.ext (by simp only [col]; omega))))
  | ⟨7, _⟩ =>
    pointwise [k0_pay1, k0_pay9, k0_pay10, k0_pay11, k0_pay12, k0_pay13, k0_pay14, k0_pay15, k0_pay16]
    iterate 7 rw [dif_neg (by omega)]
    simp only [pay17_3]
    exact average_of (congrArg (fun s => weight (masked (k0_pay5 i) r s)) (funext₂ fun r kk => congrArg (_ + ·) (ldb7 x7 r kk)))
      (funext fun kk => congrArg _ (congrArg _ (Fin.ext (by simp only [col]; omega))))

end Cert.Attn
end
-- ==== Proof.AttSoft.lean ====
module

public import proofs.«01_k».proof.Proof.AttBlock

/-! Two ways to average values with exponential weights: one sum over all keys divided once at the end, and one
    over the keys of the window with each weight divided first. They agree when the scores are real or minus infinity,
    one of them real. -/

@[expose] public section

noncomputable section

namespace Cert.Attn

open Idealize.ShloMosaic

theorem bot_word : Ideal.ofBits .f32 0xFF800000#32 = ⊥ := by simp [Ideal.ofBits, Ideal.ieee]

theorem exp_pos_real (r : ℝ) : Ideal.exp (r : EReal) = ((Real.exp r : ℝ) : EReal) := rfl

theorem exp_bot : Ideal.exp ⊥ = 0 := rfl

/-- A sum of finitely many real numbers, as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplying by a nonnegative real number distributes over a sum. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (EReal.coe_nonneg.mpr hc) (EReal.coe_ne_top c) _ _

variable {n N : ℕ}

/-- The largest of scores that are real or minus infinity, one of them real, is real. -/
theorem fold_max_real (S : Fin n → EReal) (hr : ∀ k, S k = ⊥ ∨ ∃ r : ℝ, S k = r) (k0 : Fin n) (h0 : S k0 ≠ ⊥) :
    ∃ r : ℝ, Finset.univ.fold max (⊥ : EReal) S = r := by
  have hlt : Finset.univ.fold max (⊥ : EReal) S < ⊤ := by
    refine (Finset.fold_max_lt _).mpr ⟨bot_lt_top, fun k _ => ?_⟩
    rcases hr k with h | ⟨r, h⟩
    · rw [h]; exact bot_lt_top
    · rw [h]; exact EReal.coe_lt_top r
  have hgt : ⊥ < Finset.univ.fold max (⊥ : EReal) S :=
    lt_of_lt_of_le (bot_lt_iff_ne_bot.mpr h0) ((Finset.le_fold_max _).mpr (Or.inr ⟨k0, Finset.mem_univ _, le_rfl⟩))
  exact ⟨_, (EReal.coe_toReal hlt.ne hgt.ne').symm⟩

/-- The largest over all keys is the largest over the window when the others are minus infinity. -/
theorem fold_max_window (ι : Fin n → Fin N) (S' : Fin N → EReal) (S : Fin n → EReal)
    (hS : ∀ k, S' (ι k) = S k) (hout : ∀ kk, (∀ k, ι k ≠ kk) → S' kk = ⊥) :
    Finset.univ.fold max (⊥ : EReal) S' = Finset.univ.fold max (⊥ : EReal) S := by
  refine le_antisymm ?_ ?_
  · refine (Finset.fold_max_le _).mpr ⟨bot_le, fun kk _ => ?_⟩
    by_cases hk : ∃ k, ι k = kk
    · obtain ⟨k, rfl⟩ := hk
      rw [hS]
      exact (Finset.le_fold_max _).mpr (Or.inr ⟨k, Finset.mem_univ _, le_rfl⟩)
    · rw [hout kk fun k h => hk ⟨k, h⟩]
      exact bot_le
  · refine (Finset.fold_max_le _).mpr ⟨bot_le, fun k _ => ?_⟩
    rw [← hS]
    exact (Finset.le_fold_max _).mpr (Or.inr ⟨ι k, Finset.mem_univ _, le_rfl⟩)

/-- The weight of a score against a real maximum is a nonnegative real number, positive for a real score. -/
theorem weight_real (s : EReal) (M : ℝ) (hs : s = ⊥ ∨ ∃ r : ℝ, s = r) :
    ∃ w : ℝ, 0 ≤ w ∧ (s ≠ ⊥ → 0 < w) ∧ Ideal.exp (s - (M : EReal)) = w := by
  rcases hs with rfl | ⟨r, rfl⟩
  · exact ⟨0, le_rfl, fun h => absurd rfl h, by rw [EReal.bot_sub]; rfl⟩
  · exact ⟨Real.exp (r - M), (Real.exp_pos _).le, fun _ => Real.exp_pos _, by rw [← EReal.coe_sub]; rfl⟩

theorem average_window (ι : Fin n → Fin N) (hι : Function.Injective ι) (S' V' : Fin N → EReal) (S V : Fin n → EReal)
    (hS : ∀ k, S' (ι k) = S k) (hout : ∀ kk, (∀ k, ι k ≠ kk) → S' kk = ⊥) (hV : ∀ k, S k ≠ ⊥ → V' (ι k) = V k)
    (hr : ∀ k, S k = ⊥ ∨ ∃ r : ℝ, S k = r) (k0 : Fin n) (h0 : S k0 ≠ ⊥) :
    average S' V' = ∑ k, V k * Ideal.div (Ideal.exp (S k - max ⊥ (Finset.univ.fold max (⊥ : EReal) S)))
      (0 + ∑ k', Ideal.exp (S k' - max ⊥ (Finset.univ.fold max (⊥ : EReal) S))) := by
  obtain ⟨M, hM⟩ := fold_max_real S hr k0 h0
  choose w hw0 hwpos hw using fun k => weight_real (S k) M (hr k)
  have ht : 0 < ∑ k, w k :=
    Finset.sum_pos' (fun k _ => hw0 k) ⟨k0, Finset.mem_univ _, hwpos k0 h0⟩
  have hsum : ∑ k, Ideal.exp (S k - (M : EReal)) = ((∑ k, w k : ℝ) : EReal) :=
    (Finset.sum_congr rfl fun k _ => hw k).trans (coe_sum _ _)
  have hz : ∀ kk, (∀ k, ι k ≠ kk) → Ideal.exp (S' kk - (M : EReal)) = 0 := fun kk h => by
    rw [hout kk h, EReal.bot_sub]; rfl
  have hsum' : ∑ kk, Ideal.exp (S' kk - (M : EReal)) = ((∑ k, w k : ℝ) : EReal) := by
    rw [← hsum]
    refine (Fintype.sum_of_injective ι hι _ _ (fun kk h => hz kk fun k hk => h ⟨k, hk⟩) fun k => ?_).symm
    rw [hS]
  have hnum : ∑ kk, Ideal.exp (S' kk - (M : EReal)) * V' kk = ∑ k, (w k : EReal) * V k := by
    refine (Fintype.sum_of_injective ι hι _ _ (fun kk h => ?_) fun k => ?_).symm
    · rw [hz kk fun k hk => h ⟨k, hk⟩, zero_mul]
    · rw [hS, hw]
      by_cases hb : S k = ⊥
      · have : w k = 0 := by
          have h1 := hw k
          rw [hb, EReal.bot_sub, exp_bot] at h1
          exact_mod_cast h1.symm
        rw [this, EReal.coe_zero, zero_mul, zero_mul]
      · rw [hV k hb]
  unfold average
  rw [bot_word, fold_max_window ι S' S hS hout, max_eq_right bot_le, hM, hsum, hsum', hnum, zero_add,
    Ideal.div_coe ht.ne', sum_mul_coe _ _ _ (by positivity)]
  refine Finset.sum_congr rfl fun k _ => ?_
  rw [Ideal.div_coe ht.ne', hw, mul_comm (w k : EReal) (V k), mul_assoc]

end Cert.Attn
end
-- ==== Proof.AttGather.lean ====
module

public import proofs.«01_k».proof.KernelIdeal
public import proofs.«01_k».proof.ReferenceIdeal
public import proofs.«01_k».proof.Proof.Gen.KernelIdeal.Frame
public import proofs.«01_k».proof.Proof.Gen.ReferenceIdeal.Run
public import Idealize.ShloMosaic.Lib.ValueIdxCore
public import Idealize.ShloMosaic.Lib.Pointwise

/-! The three gathers of the attention, each read at an index: the bias by distance (the kernel's table and the
    reference's), and the reference's nine chunks of keys or values. -/

@[expose] public section

noncomputable section

namespace Cert.Attn

open Idealize.ShloMosaic

/-- The kernel's table of biases: entry `j` of head `h` is the head's bias at the `j`-th index word. -/
theorem gather_table {α : Type} (x : Cert.KernelIdeal.S8x257.Idx → α) (w : IVec Cert.KernelIdeal.S1024x1 32)
    (h : Fin 8) (j : Fin 1024) :
    Host.gather Cert.KernelIdeal.gather_S8x257_S1024x1_S8x1024_0_1_n_n_1_1_81 x w (ix2 h j)
      = x (ix2 h ⟨min (w (ix2 j 0)).toInt.toNat 256, by omega⟩) := by
  unfold Host.gather
  congr 1
  funext a
  refine Fin.ext ?_
  show (Cert.KernelIdeal.gather_S8x257_S1024x1_S8x1024_0_1_n_n_1_1_81).start (ix2 h j) w a + (Cert.KernelIdeal.gather_S8x257_S1024x1_S8x1024_0_1_n_n_1_1_81).batchCoord (ix2 h j) a + (Cert.KernelIdeal.gather_S8x257_S1024x1_S8x1024_0_1_n_n_1_1_81).offCoord (ix2 h j) a = _
  rw [GatherDims.batchCoord_eq_zero _ _ _ List.not_mem_nil]
  match a with
  | ⟨0, hlt⟩ =>
    rw [show GatherDims.start _ _ w ⟨0, hlt⟩ = 0 by
      unfold GatherDims.start; exact dif_neg (show (0 : Fin 2) ∉ ([1] : List (Fin 2)) by decide)]
    simp only [Nat.zero_add]
    rfl
  | ⟨1, _⟩ =>
    rw [GatherDims.offCoord_eq_zero _ _ _ (fun h => ((GatherDims.mem_sKept _ _).mp h).1 (List.mem_singleton.mpr rfl))]
    simp only [Nat.add_zero]
    unfold GatherDims.start
    refine (dif_pos (show (1 : Fin 2) ∈ ([1] : List (Fin 2)) by decide)).trans ?_
    congr 4
    funext b; refine Fin.ext ?_
    match b with
    | ⟨0, _⟩ => rfl
    | ⟨1, _⟩ => rfl

/-- The reference's bias of head `h` at query `q` and key `k`: the head's bias at that pair's index word. -/
theorem gather_bias {α : Type} (x : Cert.ReferenceIdeal.S8x257.Idx → α) (w : IVec Cert.ReferenceIdeal.S64x576x1 32)
    (h : Fin 8) (q : Fin 64) (k : Fin 576) :
    Host.gather Cert.ReferenceIdeal.gather_S8x257_S64x576x1_S8x64x576_0_1_n_n_1_2_81 x w (ix3 h q k)
      = x (ix2 h ⟨min (w (ix3 q k 0)).toInt.toNat 256, by omega⟩) := by
  unfold Host.gather
  congr 1
  funext a
  refine Fin.ext ?_
  show (Cert.ReferenceIdeal.gather_S8x257_S64x576x1_S8x64x576_0_1_n_n_1_2_81).start (ix3 h q k) w a + (Cert.ReferenceIdeal.gather_S8x257_S64x576x1_S8x64x576_0_1_n_n_1_2_81).batchCoord (ix3 h q k) a + (Cert.ReferenceIdeal.gather_S8x257_S64x576x1_S8x64x576_0_1_n_n_1_2_81).offCoord (ix3 h q k) a = _
  rw [GatherDims.batchCoord_eq_zero _ _ _ List.not_mem_nil]
  match a with
  | ⟨0, hlt⟩ =>
    rw [show GatherDims.start _ _ w ⟨0, hlt⟩ = 0 by
      unfold GatherDims.start; exact dif_neg (show (0 : Fin 2) ∉ ([1] : List (Fin 2)) by decide)]
    simp only [Nat.zero_add]
    rfl
  | ⟨1, _⟩ =>
    rw [GatherDims.offCoord_eq_zero _ _ _ (fun h => ((GatherDims.mem_sKept _ _).mp h).1 (List.mem_singleton.mpr rfl))]
    simp only [Nat.add_zero]
    unfold GatherDims.start
    refine (dif_pos (show (1 : Fin 2) ∈ ([1] : List (Fin 2)) by decide)).trans ?_
    congr 4
    funext b; refine Fin.ext ?_
    match b with
    | ⟨0, _⟩ => rfl
    | ⟨1, _⟩ => rfl
    | ⟨2, _⟩ => rfl

/-- Chunk `s` of the nine a query's chunk `n` sees: the chunk its index word names. -/
theorem gather_chunk {α : Type} (x : Cert.ReferenceIdeal.S8x72x64x8x64.Idx → α) (w : IVec Cert.ReferenceIdeal.S64x9x1 32)
    (b : Fin 8) (n : Fin 64) (s : Fin 9) (d : Fin 64) (h : Fin 8) (e : Fin 64) :
    Host.gather Cert.ReferenceIdeal.gather_S8x72x64x8x64_S64x9x1_S8x64x9x64x8x64_0345_1_n_n_1_2_8164864 x w (ix6 b n s d h e)
      = x (ix5 b ⟨min (w (ix3 n s 0)).toInt.toNat 71, by omega⟩ d h e) := by
  unfold Host.gather
  congr 1
  funext a
  refine Fin.ext ?_
  show (Cert.ReferenceIdeal.gather_S8x72x64x8x64_S64x9x1_S8x64x9x64x8x64_0345_1_n_n_1_2_8164864).start (ix6 b n s d h e) w a + (Cert.ReferenceIdeal.gather_S8x72x64x8x64_S64x9x1_S8x64x9x64x8x64_0345_1_n_n_1_2_8164864).batchCoord (ix6 b n s d h e) a + (Cert.ReferenceIdeal.gather_S8x72x64x8x64_S64x9x1_S8x64x9x64x8x64_0345_1_n_n_1_2_8164864).offCoord (ix6 b n s d h e) a = _
  rw [GatherDims.batchCoord_eq_zero _ _ _ List.not_mem_nil]
  match a with
  | ⟨0, hlt⟩ =>
    rw [show GatherDims.start _ _ w ⟨0, hlt⟩ = 0 by
      unfold GatherDims.start; exact dif_neg (show (0 : Fin 5) ∉ ([1] : List (Fin 5)) by decide)]
    simp only [Nat.zero_add]
    rfl
  | ⟨1, _⟩ =>
    rw [GatherDims.offCoord_eq_zero _ _ _ (fun h => ((GatherDims.mem_sKept _ _).mp h).1 (List.mem_singleton.mpr rfl))]
    simp only [Nat.add_zero]
    unfold GatherDims.start
    refine (dif_pos (show (1 : Fin 5) ∈ ([1] : List (Fin 5)) by decide)).trans ?_
    congr 4
    funext b; refine Fin.ext ?_
    match b with
    | ⟨0, _⟩ => rfl
    | ⟨1, _⟩ => rfl
    | ⟨2, _⟩ => rfl
  | ⟨2, hlt⟩ =>
    rw [show GatherDims.start _ _ w ⟨2, hlt⟩ = 0 by
      unfold GatherDims.start; exact dif_neg (show (2 : Fin 5) ∉ ([1] : List (Fin 5)) by decide)]
    simp only [Nat.zero_add]
    rfl
  | ⟨3, hlt⟩ =>
    rw [show GatherDims.start _ _ w ⟨3, hlt⟩ = 0 by
      unfold GatherDims.start; exact dif_neg (show (3 : Fin 5) ∉ ([1] : List (Fin 5)) by decide)]
    simp only [Nat.zero_add]
    rfl
  | ⟨4, hlt⟩ =>
    rw [show GatherDims.start _ _ w ⟨4, hlt⟩ = 0 by
      unfold GatherDims.start; exact dif_neg (show (4 : Fin 5) ∉ ([1] : List (Fin 5)) by decide)]
    simp only [Nat.zero_add]
    rfl

end Cert.Attn
end
-- ==== Proof.AttHost.lean ====
module

public import proofs.«01_k».proof.Proof.AttBlock
public import proofs.«01_k».proof.Proof.AttGather
public import Idealize.ShloMosaic.Lib.StableHlo.ReadAt

/-! What the host hands to the attention call: scaled queries, keys and values with their heads side by side, and
    the table of biases by distance. -/

@[expose] public section

set_option maxRecDepth 16384

noncomputable section

namespace Cert.Attn

open Idealize.ShloMosaic Cert.KernelIdeal Cert.KernelIdeal.Gen

variable (m : (ℓ : Loc nD τ sig) → Buf (Elt Ideal) ℓ) (c : Dev nD)

/-- The four arguments of the attention, as arrays. -/
abbrev argQ : S8x4096x512.Idx → EReal := m ((c.tc : Thread nD τ).loc main_arg0)
abbrev argK : S8x4096x8x64.Idx → EReal := m ((c.tc : Thread nD τ).loc main_arg1)
abbrev argV : S8x4096x8x64.Idx → EReal := m ((c.tc : Thread nD τ).loc main_arg2)
abbrev argB : S8x257.Idx → EReal := m ((c.tc : Thread nD τ).loc main_arg3)

/-- The queries the call receives: the argument's, times one eighth. -/
theorem v2_apply (b : Fin 8) (p : Fin 4096) (j : Fin 512) :
    V m c main_v2 (ix3 b p j) = argQ m c (ix3 b p j) * Ideal.ofBits .f32 0x3E000000#32 := by
  unfold V
  after_reads_at

/-- The keys the call receives: the heads side by side. -/
theorem v4_apply (b : Fin 8) (p : Fin 4096) (h : Fin 8) (e : Fin 64) :
    V m c main_v4 (ix3 b p (col h e)) = argK m c (ix4 b p h e) := by
  unfold V
  after_reads_at
  exact congrArg₂ (fun x y => argK m c (ix4 b p x y))
    (Fin.ext (show (64 * h.val + e.val) / 64 = h.val by omega))
    (Fin.ext (show (64 * h.val + e.val) % 64 = e.val by omega))

/-- The values the call receives: the heads side by side. -/
theorem v6_apply (b : Fin 8) (p : Fin 4096) (h : Fin 8) (e : Fin 64) :
    V m c main_v6 (ix3 b p (col h e)) = argV m c (ix4 b p h e) := by
  unfold V
  after_reads_at
  exact congrArg₂ (fun x y => argV m c (ix4 b p x y))
    (Fin.ext (show (64 * h.val + e.val) / 64 = h.val by omega))
    (Fin.ext (show (64 * h.val + e.val) % 64 = e.val by omega))

/-- The floor division by 64 as it is computed on a word: the quotient toward zero, less one where the signs differ
    and a remainder is left. -/
def floorWord (w : BitVec 32) : BitVec 32 :=
  Scalar.select
    (IntOp.andi
      (IntOp.cmpi CmpIPredicate.ne (if w = 0 then (0 : BitVec 32) else if w.msb = true then -1 else 1)
        (if 64#32 = 0 then (0 : BitVec 32) else if (64#32).msb = true then -1 else 1))
      (IntOp.cmpi CmpIPredicate.ne (IntOp.remsi ArithUnit.host w 64#32) 0#32))
    (IntOp.subi (IntOp.divsi ArithUnit.host w 64#32) 1#32)
    (IntOp.divsi ArithUnit.host w 64#32)

theorem floorWord_eq : ∀ n : Fin 768, floorWord (BitVec.ofNat 32 n.val) = BitVec.ofNat 32 (n.val / 64) := by
  decide +kernel

/-- The word that picks a bias for the `j`-th entry of the table. -/
def tableWord (w : BitVec 32) : BitVec 32 :=
  IntOp.addi (IntOp.minsi 128#32 (IntOp.maxsi 4294967168#32
    (IntOp.addi (Scalar.select (IntOp.cmpi CmpIPredicate.slt w 768#32) w (IntOp.subi w 1024#32)) 4294966784#32))) 128#32

/-- A word below zero read from the end of the 257 biases. -/
def wrapWord (w : BitVec 32) : BitVec 32 :=
  Scalar.select (IntOp.cmpi CmpIPredicate.slt w 0#32) (IntOp.addi w 257#32) w

theorem tableWord_eq : ∀ j : Fin 1024, min (wrapWord (tableWord (BitVec.ofNat 32 j.val))).toInt.toNat 256
    = if j.val < 768 then min (j.val - 384) 256 else 0 := by
  decide +kernel

/-- The two chunk numbers' distance lies between none and eight. -/
def bandWord (a b : BitVec 32) : BitVec 1 :=
  IntOp.andi (IntOp.cmpi CmpIPredicate.sge (IntOp.subi (IntOp.addi a 8#32) b) 0#32)
    (IntOp.cmpi CmpIPredicate.sle (IntOp.subi (IntOp.addi a 8#32) b) 8#32)

theorem bandWord_eq : ∀ (a : Fin 4) (b : Fin 12), bandWord (BitVec.ofNat 32 a.val) (BitVec.ofNat 32 b.val)
    = if a.val ≤ b.val ∧ b.val ≤ a.val + 8 then 1 else 0 := by
  decide +kernel

set_option maxHeartbeats 4000000 in
/-- The table of biases the call receives: within the band of nine chunks the head's bias at the clipped distance,
    the least element outside it. -/
theorem v48_apply (h : Fin 8) (r : Fin 256) (kk : Fin 768) :
    V m c main_v48 (ix3 h r kk) = if r.val / 64 ≤ kk.val / 64 ∧ kk.val / 64 ≤ r.val / 64 + 8 then
      argB m c (ix2 h ⟨min (kk.val - (384 + r.val)) 256, by omega⟩) else Ideal.ofBits .f32 0xFF800000#32 := by
  have hband := bandWord_eq ⟨r.val / 64, by omega⟩ ⟨kk.val / 64, by omega⟩
  have hf1 := floorWord_eq ⟨r.val, by omega⟩
  have hf2 := floorWord_eq kk
  have ht := tableWord_eq ⟨(r.val * 1023 + kk.val) % 1024, by omega⟩
  have hj : (if (r.val * 1023 + kk.val) % 1024 < 768 then min ((r.val * 1023 + kk.val) % 1024 - 384) 256 else 0)
      = min (kk.val - (384 + r.val)) 256 := by
    have h1 := r.isLt
    have h2 := kk.isLt
    rcases Nat.lt_or_ge kk.val r.val with hlt | hge
    · have : (r.val * 1023 + kk.val) % 1024 = 1024 + kk.val - r.val := by omega
      rw [this]; split <;> omega
    · have : (r.val * 1023 + kk.val) % 1024 = kk.val - r.val := by omega
      rw [this]; split <;> omega
  simp only [] at hband hf1 hf2 ht
  rw [hj] at ht
  unfold V
  after_reads_at
  rw [gather_table]
  simp only [id]
  pointwise
  refine (show _ = Scalar.select (bandWord (floorWord (BitVec.ofNat 32 r.val)) (floorWord (BitVec.ofNat 32 kk.val)))
    (argB m c (ix2 h ⟨min (wrapWord (tableWord (BitVec.ofNat 32 ((r.val * 1023 + kk.val) % 1024)))).toInt.toNat 256,
      by omega⟩)) (Ideal.ofBits .f32 0xFF800000#32) from rfl).trans ?_
  simp only [hf1, hf2, hband, ht]
  split
  · exact ValueIdx.select_one _ _
  · exact ValueIdx.select_zero _ _

end Cert.Attn
end
-- ==== Proof.AttArray.lean ====
module

public import proofs.«01_k».proof.Proof.AttHost
public import proofs.«01_k».proof.Proof.Gen.KernelIdeal.Value
public import Idealize.ShloMosaic.Lib.Pipeline.ValueKit.Point

/-! What the attention kernel's output array holds after the run: at every position, head and component, the average
    of the values of the 768 keys its block of rows holds, under the scores of the arguments. -/

@[expose] public section

set_option maxRecDepth 16384

noncomputable section

namespace Cert.Attn

open Idealize.ShloMosaic Cert.KernelIdeal Cert.KernelIdeal.Gen

variable (m : (ℓ : Loc nD τ sig) → Buf (Elt Ideal) ℓ) (c : Dev nD)

/-- Where each window's block lies at grid point `t`: sequence `t / 16`, block `t % 16` of the queries, and the blocks
    two before, one before and at it of the keys and values. -/
theorem index_at : ∀ t : Fin grid0.N,
    win0_0.index t = ![t.val / 16, t.val % 16, 0] ∧
    win0_1.index t = ![t.val / 16, t.val % 16 - 2, 0] ∧ win0_2.index t = ![t.val / 16, t.val % 16 - 1, 0] ∧
    win0_3.index t = ![t.val / 16, t.val % 16, 0] ∧
    win0_4.index t = ![t.val / 16, t.val % 16 - 2, 0] ∧ win0_5.index t = ![t.val / 16, t.val % 16 - 1, 0] ∧
    win0_6.index t = ![t.val / 16, t.val % 16, 0] ∧ win0_7.index t = ![0, 0, 0] ∧
    win0_8.index t = ![t.val / 16, t.val % 16, 0] := by
  decide +kernel

theorem coord_one : ∀ t : Fin grid0.N, (grid0.coords t 1).val = t.val % 16 := by decide +kernel

/-- The sequence of grid point `t`. -/
abbrev seqOf (t : Fin grid0.N) : Fin 8 := ⟨t.val / 16, by have := t.isLt; have h : grid0.N = 128 := by decide
                                                          omega⟩
/-- Row `r` of the block of queries at `t`, in its sequence. -/
abbrev rowOf (t : Fin grid0.N) (r : Fin 256) : Fin 4096 := ⟨256 * (t.val % 16) + r.val, by omega⟩

/-- The position in its sequence of the `kk`-th key held by block `n` of rows: the keys of the blocks two before, one
    before and at it, a block before the first standing for the first. -/
abbrev keyRow (n : ℕ) (hn : n < 16) (kk : Fin 768) : Fin 4096 :=
  ⟨256 * (n + kk.val / 256 - 2) + kk.val % 256, by omega⟩

theorem q_block (t : Fin grid0.N) (r : Fin 256) (j : Fin 512) :
    k0_pay4 (iblk m c 0 t) (ix2 r j) = V m c main_v2 (ix3 (seqOf t) (rowOf t r) j) := by
  pointwise [k0_pay4]
  have := index_at t
  blk_ext [iblk, this.1]

theorem block1 (t : Fin grid0.N) (r : Fin 256) (j : Fin 512) :
    iblk m c 1 t (ix3 0 r j) = V m c main_v4 (ix3 (seqOf t) (⟨256 * (t.val % 16 - 2) + r.val, by omega⟩ : Fin 4096) j) := by
  have e := (index_at t).2.1
  blk_ext [iblk, e]

theorem block2 (t : Fin grid0.N) (r : Fin 256) (j : Fin 512) :
    iblk m c 2 t (ix3 0 r j) = V m c main_v4 (ix3 (seqOf t) (⟨256 * (t.val % 16 - 1) + r.val, by omega⟩ : Fin 4096) j) := by
  have e := (index_at t).2.2.1
  blk_ext [iblk, e]

theorem block3 (t : Fin grid0.N) (r : Fin 256) (j : Fin 512) :
    iblk m c 3 t (ix3 0 r j) = V m c main_v4 (ix3 (seqOf t) (⟨256 * (t.val % 16) + r.val, by omega⟩ : Fin 4096) j) := by
  have e := (index_at t).2.2.2.1
  blk_ext [iblk, e]

theorem block4 (t : Fin grid0.N) (r : Fin 256) (j : Fin 512) :
    iblk m c 4 t (ix3 0 r j) = V m c main_v6 (ix3 (seqOf t) (⟨256 * (t.val % 16 - 2) + r.val, by omega⟩ : Fin 4096) j) := by
  have e := (index_at t).2.2.2.2.1
  blk_ext [iblk, e]

theorem block5 (t : Fin grid0.N) (r : Fin 256) (j : Fin 512) :
    iblk m c 5 t (ix3 0 r j) = V m c main_v6 (ix3 (seqOf t) (⟨256 * (t.val % 16 - 1) + r.val, by omega⟩ : Fin 4096) j) := by
  have e := (index_at t).2.2.2.2.2.1
  blk_ext [iblk, e]

theorem block6 (t : Fin grid0.N) (r : Fin 256) (j : Fin 512) :
    iblk m c 6 t (ix3 0 r j) = V m c main_v6 (ix3 (seqOf t) (⟨256 * (t.val % 16) + r.val, by omega⟩ : Fin 4096) j) := by
  have e := (index_at t).2.2.2.2.2.2.1
  blk_ext [iblk, e]

theorem k_block (t : Fin grid0.N) (kk : Fin 768) (j : Fin 512) :
    k0_pay2 (iblk m c 1 t) (iblk m c 2 t) (iblk m c 3 t) (ix2 kk j)
      = V m c main_v4 (ix3 (seqOf t) (keyRow (t.val % 16) (by omega) kk) j) := by
  have row (a b : Fin 4096) (h : a.val = b.val) : V m c main_v4 (ix3 (seqOf t) a j) = V m c main_v4 (ix3 (seqOf t) b j) :=
    congrArg (fun x => V m c main_v4 (ix3 (seqOf t) x j)) (Fin.ext h)
  pointwise [k0_pay2]
  have hkk := kk.isLt
  split
  · exact (block1 m c t _ j).trans (row _ _ (by simp only []; omega))
  · split
    · exact (block2 m c t _ j).trans (row _ _ (by simp only []; omega))
    · exact (block3 m c t _ j).trans (row _ _ (by simp only []; omega))

theorem v_block (t : Fin grid0.N) (kk : Fin 768) (j : Fin 512) :
    k0_pay3 (iblk m c 4 t) (iblk m c 5 t) (iblk m c 6 t) (ix2 kk j)
      = V m c main_v6 (ix3 (seqOf t) (keyRow (t.val % 16) (by omega) kk) j) := by
  have row (a b : Fin 4096) (h : a.val = b.val) : V m c main_v6 (ix3 (seqOf t) a j) = V m c main_v6 (ix3 (seqOf t) b j) :=
    congrArg (fun x => V m c main_v6 (ix3 (seqOf t) x j)) (Fin.ext h)
  pointwise [k0_pay3]
  have hkk := kk.isLt
  split
  · exact (block4 m c t _ j).trans (row _ _ (by simp only []; omega))
  · split
    · exact (block5 m c t _ j).trans (row _ _ (by simp only []; omega))
    · exact (block6 m c t _ j).trans (row _ _ (by simp only []; omega))

theorem b_block (t : Fin grid0.N) (h : Fin 8) (r : Fin 256) (kk : Fin 768) :
    iblk m c 7 t (ix3 h r kk) = V m c main_v48 (ix3 h r kk) := by
  have := index_at t
  blk_ext [iblk, this.2.2.2.2.2.2.2.1]

theorem maskWord : ∀ (n : Fin 16) (kk : Fin 768),
    IntOp.cmpi .sge (BitVec.ofNat 32 kk.val) (IntOp.muli (IntOp.subi 2#32 (BitVec.ofNat 32 n.val)) 256#32)
      = if (2 - n.val) * 256 ≤ kk.val then (1 : BitVec 1) else 0 := by
  decide +kernel

theorem mask_block (t : Fin grid0.N) (r : Fin 256) (kk : Fin 768) :
    k0_pay5 (grid0.coords t) (ix2 r kk) = if (2 - t.val % 16) * 256 ≤ kk.val then (1 : BitVec 1) else 0 := by
  pointwise [k0_pay5]
  rw [coord_one]
  exact maskWord ⟨t.val % 16, by omega⟩ kk

/-- The score of key `kk` of the 768 that position `p`'s block of rows holds: the product of the query, scaled, with the
    key, and the bias at their distance where the key's chunk is one of the nine the query sees. -/
def kscore (Q : S8x4096x512.Idx → EReal) (K : S8x4096x8x64.Idx → EReal) (B : S8x257.Idx → EReal)
    (b : Fin 8) (p : Fin 4096) (h : Fin 8) (kk : Fin 768) : EReal :=
  if (2 - p.val / 256) * 256 ≤ kk.val then
    (∑ e : Fin 64, Q (ix3 b p (col h e)) * Ideal.ofBits .f32 0x3E000000#32
        * K (ix4 b (keyRow (p.val / 256) (by omega) kk) h e))
      + (if p.val % 256 / 64 ≤ kk.val / 64 ∧ kk.val / 64 ≤ p.val % 256 / 64 + 8 then
          B (ix2 h ⟨min (kk.val - (384 + p.val % 256)) 256, by omega⟩) else Ideal.ofBits .f32 0xFF800000#32)
  else Ideal.ofBits .f32 0xFF800000#32

/-- The attention as the kernel computes it, at a position, a head and a component. -/
def kernelAt (Q : S8x4096x512.Idx → EReal) (K W : S8x4096x8x64.Idx → EReal) (B : S8x257.Idx → EReal)
    (b : Fin 8) (p : Fin 4096) (h : Fin 8) (d : Fin 64) : EReal :=
  average (kscore Q K B b p h) (fun kk => W (ix4 b (keyRow (p.val / 256) (by omega) kk) h d))

theorem select_ite {α : Type} (P : Prop) [Decidable P] (x y : α) :
    Scalar.select (if P then (1 : BitVec 1) else 0) x y = if P then x else y := by
  split
  · exact ValueIdx.select_one _ _
  · exact ValueIdx.select_zero _ _

/-- The output block of grid point `t`. -/
theorem block_at (t : Fin grid0.N) (r : Fin 256) (h : Fin 8) (d : Fin 64) :
    out0_8 (grid0.coords t) (iblk m c 0 t) (iblk m c 1 t) (iblk m c 2 t) (iblk m c 3 t) (iblk m c 4 t) (iblk m c 5 t)
        (iblk m c 6 t) (iblk m c 7 t) (ix3 0 r (col h d))
      = kernelAt (argQ m c) (argK m c) (argV m c) (argB m c) (seqOf t) (rowOf t r) h d := by
  have e1 : (256 * (t.val % 16) + r.val) / 256 = t.val % 16 := by omega
  have e2 : (256 * (t.val % 16) + r.val) % 256 = r.val := by omega
  rw [out_apply]
  unfold kernelAt
  congr 1
  · funext kk
    simp only [score, kscore, mask_block, select_ite, q_block, k_block, b_block, e1, e2]
    exact if_congr Iff.rfl (congrArg₂ (· + ·) (Finset.sum_congr rfl fun e _ => congrArg₂ (· * ·) (v2_apply m c _ _ _)
      (v4_apply m c _ _ _ _)) (v48_apply m c _ _ _)) rfl
  · funext kk
    simp only [v_block, e1]
    exact v6_apply m c _ _ _ _

/-- The array after the run. -/
theorem array_eq : (dats m 0 c).arrAt 8 cfg0.N
    = fun i : S8x4096x512.Idx => kernelAt (argQ m c) (argK m c) (argV m c) (argB m c) (i 0) (i 1)
        ⟨(i 2).val / 64, by have : (i 2).val < 512 := (i 2).isLt
                            omega⟩ ⟨(i 2).val % 64, by omega⟩ := by
  refine (dats m 0 c).arrAt_eq_of_covers 8 _ (by decide +kernel) fun t hf y => ?_
  have e := (index_at t).2.2.2.2.2.2.2.2
  have y0 : (y 0).val < 1 := (y 0).isLt
  have y1 : (y 1).val < 256 := (y 1).isLt
  have y2 : (y 2).val < 512 := (y 2).isLt
  have hy : y = ix3 (0 : Fin 1) (⟨(y 1).val, y1⟩ : Fin 256)
      (col ⟨(y 2).val / 64, by omega⟩ ⟨(y 2).val % 64, by omega⟩) := by
    funext a
    match a with
    | ⟨0, _⟩ => exact Fin.ext (show (y 0).val = 0 by omega)
    | ⟨1, _⟩ => rfl
    | ⟨2, _⟩ => exact Fin.ext (show (y 2).val = 64 * ((y 2).val / 64) + (y 2).val % 64 by omega)
  have h0 : (win0_8.blk t).view.emb y 0 = seqOf t := Fin.ext (by blk_simp [e])
  have h1 : (win0_8.blk t).view.emb y 1 = rowOf t ⟨(y 1).val, y1⟩ := Fin.ext (by blk_simp [e]; show t.val % 16 * 256 + (y 1).val = 256 * (t.val % 16) + (y 1).val; omega)
  have h2 : win0_8.index t 2 * 512 + (y 2).val = (y 2).val := by
    rw [e]; show 0 * 512 + (y 2).val = (y 2).val; omega
  blk_simp
  rw [after0_8]
  refine (congrArg _ hy).trans ((block_at m c t _ _ _).trans ?_)
  rw [h0, h1]
  simp only [h2]

end Cert.Attn
end
-- ==== Proof.AttRef.lean ====
module

public import proofs.«01_k».proof.Proof.AttGather
public import proofs.«01_k».proof.Proof.Gen.ReferenceIdeal.Read
public import Idealize.ShloMosaic.Lib.Pointwise

/-! What the reference's attention computes at a position, a head and a component. -/

@[expose] public section

set_option maxRecDepth 16384

noncomputable section

namespace Cert.Attn

open Idealize.ShloMosaic Cert.ReferenceIdeal Cert.ReferenceIdeal.Read

variable (Q : S8x4096x512.Idx → EReal) (K W : S8x4096x8x64.Idx → EReal) (B : S8x257.Idx → EReal)

/-- The word naming the padded chunk that the reference reads, wrapped where it is below zero. -/
def chunkWord (a b : BitVec 32) : BitVec 32 :=
  Scalar.select (IntOp.cmpi CmpIPredicate.slt (IntOp.addi a b) 0#32) (IntOp.addi (IntOp.addi a b) 72#32) (IntOp.addi a b)

theorem chunkWord_eq : ∀ (n : Fin 64) (s : Fin 9),
    min (chunkWord (BitVec.ofNat 32 n.val) (BitVec.ofNat 32 s.val)).toInt.toNat 71 = n.val + s.val := by
  decide +kernel

/-- The chunk is one of the sequence's own when its padded number is at least eight. -/
theorem ownWord_eq : ∀ (n : Fin 64) (s : Fin 9),
    IntOp.cmpi CmpIPredicate.sge (IntOp.addi (BitVec.ofNat 32 n.val) (BitVec.ofNat 32 s.val)) 8#32
      = if 8 ≤ n.val + s.val then (1 : BitVec 1) else 0 := by
  decide +kernel

/-- The word that picks a bias, from the distance of the key to the query. -/
def distWord (w : BitVec 32) : BitVec 32 :=
  IntOp.addi (IntOp.minsi 128#32 (IntOp.maxsi 4294967168#32 w)) 128#32

/-- A word below zero read from the end of the 257 biases. -/
def endWord (w : BitVec 32) : BitVec 32 :=
  Scalar.select (IntOp.cmpi CmpIPredicate.slt w 0#32) (IntOp.addi w 257#32) w

theorem distWord_eq : ∀ j : Fin 639,
    min (endWord (distWord (IntOp.subi (BitVec.ofNat 32 j.val) 575#32))).toInt.toNat 256 = min (j.val - 447) 256 := by
  decide +kernel

theorem dist_sub (q : Fin 64) (k : Fin 576) :
    IntOp.subi (IntOp.subi (BitVec.ofNat 32 k.val) 512#32) (BitVec.ofNat 32 q.val)
      = IntOp.subi (BitVec.ofNat 32 (k.val + 63 - q.val)) 575#32 := by
  have hq := q.isLt
  have hk := k.isLt
  show BitVec.ofNat 32 k.val - 512#32 - BitVec.ofNat 32 q.val = BitVec.ofNat 32 (k.val + 63 - q.val) - 575#32
  bv_omega

/-- A window's keys at a query's chunk: the sequence's own rows, zero before its start. -/
def windowAt (X : S8x4096x8x64.Idx → EReal) (b : Fin 8) (n : Fin 64) (k : Fin 576) (h : Fin 8) (e : Fin 64) : EReal :=
  if 8 ≤ n.val + k.val / 64 then X (ix4 b ⟨(n.val + k.val / 64 - 8) * 64 + k.val % 64, by omega⟩ h e) else 0

theorem pad_zero : val_main_call0_v0 (F := Ideal) (Shape.Idx.first Gen.h_S_) = (0 : EReal) := by
  unfold val_main_call0_v0
  show ((BitVec.toInt (0#32) : ℝ) : EReal) = 0
  simp

theorem ref_keys (b : Fin 8) (n : Fin 64) (k : Fin 576) (h : Fin 8) (e : Fin 64) :
    val_main_v19 (F := Ideal) K (ix5 b n k h e) = windowAt K b n k h e := by
  pointwise [val_main_v19, val_main_v18]
  rw [gather_chunk]
  have hw := chunkWord_eq n ⟨k.val / 64, by omega⟩
  have hv : val_main_v17 (F := Ideal) (ix3 n ⟨k.val / 64, by omega⟩ 0)
    = chunkWord (BitVec.ofNat 32 n.val) (BitVec.ofNat 32 (k.val / 64)) := rfl
  simp only [hv]
  simp only [] at hw
  simp only [hw]
  pointwise [val_main_v3, val_main_v1]
  unfold windowAt
  have hk := k.isLt
  have hn := n.isLt
  by_cases hb : 8 ≤ n.val + k.val / 64
  · exact (dif_pos ⟨⟨by omega, by omega⟩, by omega⟩).trans (if_pos hb).symm
  · exact ((dif_neg fun hc => hb (by omega)).trans pad_zero).trans (if_neg hb).symm

theorem ref_dist (q : Fin 64) (k : Fin 576) : val_main_v40 (F := Ideal) (ix2 q k)
    = IntOp.subi (IntOp.subi (BitVec.ofNat 32 k.val) 512#32) (BitVec.ofNat 32 q.val) := by
  rw [val_main_v40_apply, val_main_v38_apply, val_main_v39_apply, val_main_v35_apply, val_main_v37_apply,
    val_main_v34_apply]
  rfl

theorem ref_distWord (q : Fin 64) (k : Fin 576) :
    val_main_v43 (F := Ideal) (ix2 q k) = distWord (val_main_v40 (F := Ideal) (ix2 q k)) := by
  rw [val_main_v43_apply, val_main_v41_apply, val_main_call2_v2_apply]
  rfl

theorem ref_endWord (q : Fin 64) (k : Fin 576) :
    val_main_v49 (F := Ideal) (ix3 q k 0) = endWord (val_main_v43 (F := Ideal) (ix2 q k)) := by
  rw [val_main_v49_apply, val_main_v48_apply, val_main_v45_apply, val_main_v47_apply]
  rfl

theorem ref_bias (h : Fin 8) (q : Fin 64) (k : Fin 576) :
    val_main_v50 (F := Ideal) B (ix3 h q k) = B (ix2 h ⟨min (k.val - (384 + q.val)) 256, by omega⟩) := by
  unfold val_main_v50
  rw [gather_bias]
  have hq := q.isLt
  have hk := k.isLt
  have hw := distWord_eq ⟨k.val + 63 - q.val, by omega⟩
  have hv := (ref_endWord q k).trans (congrArg (fun w => endWord (distWord w)) ((ref_dist q k).trans (dist_sub q k)) |>
    (congrArg endWord (ref_distWord q k)).trans)
  exact congrArg (fun j => B (ix2 h j)) (Fin.ext ((congrArg (fun w : BitVec 32 => min w.toInt.toNat 256) hv).trans
    (hw.trans (show min (k.val + 63 - q.val - 447) 256 = min (k.val - (384 + q.val)) 256 by omega))))

theorem ref_values (b : Fin 8) (n : Fin 64) (k : Fin 576) (h : Fin 8) (e : Fin 64) :
    val_main_v27 (F := Ideal) W (ix5 b n k h e) = windowAt W b n k h e :=
  (show val_main_v27 (F := Ideal) W (ix5 b n k h e) = val_main_v19 (F := Ideal) W (ix5 b n k h e) from rfl).trans
    (ref_keys W b n k h e)

theorem ref_mask (n : Fin 64) (k : Fin 576) :
    val_main_v31 (F := Ideal) (ix2 n k) = if 8 ≤ n.val + k.val / 64 then (1 : BitVec 1) else 0 := by
  pointwise [val_main_v31]
  exact ownWord_eq n ⟨k.val / 64, by omega⟩

end Cert.Attn
end
-- ==== Proof.AttRefOut.lean ====
module

public import proofs.«01_k».proof.Proof.AttRef

/-! The reference's scores, weights and result at an index. -/

@[expose] public section

set_option maxRecDepth 16384

noncomputable section

namespace Cert.Attn

open Idealize.ShloMosaic Cert.ReferenceIdeal Cert.ReferenceIdeal.Read

variable (Q : S8x4096x512.Idx → EReal) (K W : S8x4096x8x64.Idx → EReal) (B : S8x257.Idx → EReal)

/-- The reference's score of window key `k` for row `q` of chunk `n` under head `h`. -/
def rscore (b : Fin 8) (n : Fin 64) (h : Fin 8) (q : Fin 64) (k : Fin 576) : EReal :=
  if 8 ≤ n.val + k.val / 64 then
    (∑ e : Fin 64, Q (ix3 b ⟨64 * n.val + q.val, by omega⟩ ⟨64 * h.val + e.val, by omega⟩) * windowAt K b n k h e)
        * Ideal.ofBits .f32 0x3E000000#32
      + B (ix2 h ⟨min (k.val - (384 + q.val)) 256, by omega⟩)
  else Ideal.ofBits .f32 0xFF800000#32

theorem ref_query (b : Fin 8) (n q : Fin 64) (h : Fin 8) (e : Fin 64) :
    val_main_v0 (F := Ideal) Q (ix5 b n q h e)
      = Q (ix3 b ⟨64 * n.val + q.val, by omega⟩ ⟨64 * h.val + e.val, by omega⟩) := by
  rw [val_main_v0_apply]
  have hb := b.isLt
  have hn := n.isLt
  have hq := q.isLt
  have hh := h.isLt
  have he := e.isLt
  refine congrArg Q (funext fun a => ?_)
  match a with
  | ⟨0, _⟩ => exact Fin.ext (show ((((b.val * 64 + n.val) * 64 + q.val) * 8 + h.val) * 64 + e.val) / 2097152 = b.val by omega)
  | ⟨1, _⟩ => exact Fin.ext (show ((((b.val * 64 + n.val) * 64 + q.val) * 8 + h.val) * 64 + e.val) / 512 % 4096 = 64 * n.val + q.val by omega)
  | ⟨2, _⟩ => exact Fin.ext (show ((((b.val * 64 + n.val) * 64 + q.val) * 8 + h.val) * 64 + e.val) % 512 = 64 * h.val + e.val by omega)

theorem ref_score (b : Fin 8) (n : Fin 64) (h : Fin 8) (q : Fin 64) (k : Fin 576) :
    val_main_v58 (F := Ideal) Q K B (ix5 b n h q k) = rscore Q K B b n h q k := by
  have hm : val_main_call3_v1 (F := Ideal) (ix5 b n h q k) = if 8 ≤ n.val + k.val / 64 then (1 : BitVec 1) else 0 := by
    refine Eq.trans ?_ (ref_mask n k)
    rw [val_main_call3_v1_apply, val_main_v57_apply]
    refine congrArg (val_main_v31 (F := Ideal)) (funext fun a => ?_)
    match a with
    | ⟨0, _⟩ => rfl
    | ⟨1, _⟩ => rfl
  have hb : val_main_v55 (F := Ideal) B (ix5 b n h q k) = B (ix2 h ⟨min (k.val - (384 + q.val)) 256, by omega⟩) := by
    refine Eq.trans ?_ (ref_bias B h q k)
    rw [val_main_v55_apply, val_main_v54_apply]
    refine congrArg (val_main_v50 (F := Ideal) B) (funext fun a => ?_)
    match a with
    | ⟨0, _⟩ => rfl
    | ⟨1, _⟩ => rfl
    | ⟨2, _⟩ => rfl
  have hd : val_main_v51 (F := Ideal) Q K (ix5 b n h q k)
      = ∑ e : Fin 64, Q (ix3 b ⟨64 * n.val + q.val, by omega⟩ ⟨64 * h.val + e.val, by omega⟩) * windowAt K b n k h e := by
    rw [val_main_v51_apply]
    exact Finset.sum_congr rfl fun e _ => congrArg₂ (· * ·) (ref_query Q b n q h e) (ref_keys K b n k h e)
  have hs : val_main_v56 (F := Ideal) Q K B (ix5 b n h q k)
      = val_main_v51 (F := Ideal) Q K (ix5 b n h q k) * Ideal.ofBits .f32 0x3E000000#32
        + val_main_v55 (F := Ideal) B (ix5 b n h q k) := rfl
  rw [val_main_v58_apply, hm, hs, hd, hb]
  unfold rscore
  split
  · exact ValueIdx.select_one _ _
  · exact ValueIdx.select_zero _ _

/-- The largest score of a row, from minus infinity. -/
def rmax (b : Fin 8) (n : Fin 64) (h : Fin 8) (q : Fin 64) : EReal :=
  max (Ideal.ofBits .f32 0xFF800000#32)
    (Finset.univ.fold max (Ideal.ofBits .f32 0xFF800000#32) (rscore Q K B b n h q))

theorem lift_key (hR : S8x64x8x64x576.Reduces [4] S8x64x8x64) (b : Fin 8) (n : Fin 64) (h : Fin 8) (q : Fin 64) (k : Fin 576) :
    hR.lift (ix4 b n h q) k = ix5 b n h q k := by
  funext a
  match a with
  | ⟨0, _⟩ => rfl
  | ⟨1, _⟩ => rfl
  | ⟨2, _⟩ => rfl
  | ⟨3, _⟩ => rfl
  | ⟨4, _⟩ => rfl

theorem ref_max (b : Fin 8) (n : Fin 64) (h : Fin 8) (q : Fin 64) :
    val_main_v61 (F := Ideal) Q K B (ix4 b n h q) = rmax Q K B b n h q := by
  have hR : S8x64x8x64x576.Reduces [4] S8x64x8x64 := by decide
  have h59 : val_main_v59 (F := Ideal) Q K B (ix4 b n h q)
      = Finset.univ.fold max (Ideal.ofBits .f32 0xFF800000#32) (rscore Q K B b n h q) := by
    unfold val_main_v59
    refine (Host.reduce_eq_fold_single (FloatOps.maximumf (F := Ideal) (φ := .f32)) (val_main_v58 (F := Ideal) Q K B) _ _ hR _ _).trans ?_
    refine congrArg (Finset.univ.fold max (Ideal.ofBits .f32 0xFF800000#32)) (funext fun k => ?_)
    exact (congrArg (val_main_v58 (F := Ideal) Q K B) (lift_key hR b n h q k)).trans (ref_score Q K B b n h q k)
  rw [val_main_v61_apply, h59]
  rfl

theorem ref_weight (b : Fin 8) (n : Fin 64) (h : Fin 8) (q : Fin 64) (k : Fin 576) :
    val_main_v65 (F := Ideal) Q K B (ix5 b n h q k) = Ideal.exp (rscore Q K B b n h q k - rmax Q K B b n h q) := by
  have h63 : val_main_v63 (F := Ideal) Q K B (ix5 b n h q k) = rmax Q K B b n h q := by
    refine Eq.trans ?_ (ref_max Q K B b n h q)
    rw [val_main_v63_apply, val_main_v62_apply]
    refine congrArg (val_main_v61 (F := Ideal) Q K B) (funext fun a => ?_)
    match a with
    | ⟨0, _⟩ => rfl
    | ⟨1, _⟩ => rfl
    | ⟨2, _⟩ => rfl
    | ⟨3, _⟩ => rfl
  rw [val_main_v65_apply, val_main_v64_apply, ref_score, h63]
  rfl

theorem ref_share (b : Fin 8) (n : Fin 64) (h : Fin 8) (q : Fin 64) (k : Fin 576) :
    val_main_v69 (F := Ideal) Q K B (ix5 b n h q k)
      = Ideal.div (Ideal.exp (rscore Q K B b n h q k - rmax Q K B b n h q))
        (0 + ∑ k', Ideal.exp (rscore Q K B b n h q k' - rmax Q K B b n h q)) := by
  have h66 : val_main_v66 (F := Ideal) Q K B (ix4 b n h q)
      = 0 + ∑ k', Ideal.exp (rscore Q K B b n h q k' - rmax Q K B b n h q) := by
    rw [val_main_v66_apply]
    refine congrArg₂ (· + ·) Ideal.ofBits_zero_f32 (Finset.sum_congr rfl fun k' _ => ?_)
    refine Eq.trans (congrArg (val_main_v65 (F := Ideal) Q K B) (funext fun a => ?_)) (ref_weight Q K B b n h q k')
    match a with
    | ⟨0, _⟩ => rfl
    | ⟨1, _⟩ => rfl
    | ⟨2, _⟩ => rfl
    | ⟨3, _⟩ => rfl
    | ⟨4, _⟩ => rfl
  have h68 : val_main_v68 (F := Ideal) Q K B (ix5 b n h q k) = val_main_v66 (F := Ideal) Q K B (ix4 b n h q) := by
    rw [val_main_v68_apply, val_main_v67_apply]
    refine congrArg (val_main_v66 (F := Ideal) Q K B) (funext fun a => ?_)
    match a with
    | ⟨0, _⟩ => rfl
    | ⟨1, _⟩ => rfl
    | ⟨2, _⟩ => rfl
    | ⟨3, _⟩ => rfl
  rw [val_main_v69_apply, ref_weight, h68, h66]
  rfl

/-- The reference's weighted average of a window's values. -/
def refAt (b : Fin 8) (n : Fin 64) (h : Fin 8) (q d : Fin 64) : EReal :=
  ∑ k : Fin 576, windowAt W b n k h d * Ideal.div (Ideal.exp (rscore Q K B b n h q k - rmax Q K B b n h q))
    (0 + ∑ k', Ideal.exp (rscore Q K B b n h q k' - rmax Q K B b n h q))

theorem ref_out (b : Fin 8) (n : Fin 64) (h : Fin 8) (q d : Fin 64) :
    val_main_v70 (F := Ideal) Q K W B (ix5 b n h d q) = refAt Q K W B b n h q d := by
  rw [val_main_v70_apply]
  refine Finset.sum_congr rfl fun k _ => ?_
  have h1 : lidx_main_v70 (ix5 b n h d q) k = ix5 b n k h d := by
    funext a
    match a with
    | ⟨0, _⟩ => rfl
    | ⟨1, _⟩ => rfl
    | ⟨2, _⟩ => rfl
    | ⟨3, _⟩ => rfl
    | ⟨4, _⟩ => rfl
  have h2 : ridx_main_v70 (ix5 b n h d q) k = ix5 b n h q k := by
    funext a
    match a with
    | ⟨0, _⟩ => rfl
    | ⟨1, _⟩ => rfl
    | ⟨2, _⟩ => rfl
    | ⟨3, _⟩ => rfl
    | ⟨4, _⟩ => rfl
  rw [h1, h2]
  rw [ref_values W b n k h d, ref_share Q K B b n h q k]

theorem ref_at (b : Fin 8) (p : Fin 4096) (j : Fin 512) : val_main_v73 (F := Ideal) Q K W B (ix3 b p j) =
    refAt Q K W B b ⟨p.val / 64, by omega⟩ ⟨j.val / 64, by omega⟩ ⟨p.val % 64, by omega⟩ ⟨j.val % 64, by omega⟩ := by
  refine Eq.trans ?_ (ref_out Q K W B b ⟨p.val / 64, by omega⟩ ⟨j.val / 64, by omega⟩ ⟨p.val % 64, by omega⟩ ⟨j.val % 64, by omega⟩)
  have h73 : val_main_v73 (F := Ideal) Q K W B (ix3 b p j) = val_main_v72 (F := Ideal) Q K W B (ix3 b p j) := rfl
  rw [h73, val_main_v72_apply, val_main_v71_apply]
  have hb := b.isLt
  have hp := p.isLt
  have hj := j.isLt
  refine congrArg (val_main_v70 (F := Ideal) Q K W B) (funext fun a => ?_)
  match a with
  | ⟨0, _⟩ => exact Fin.ext (show ((b.val * 4096 + p.val) * 512 + j.val) / 2097152 = b.val by omega)
  | ⟨1, _⟩ => exact Fin.ext (show ((b.val * 4096 + p.val) * 512 + j.val) / 32768 % 64 = p.val / 64 by omega)
  | ⟨2, _⟩ => exact Fin.ext (show ((b.val * 4096 + p.val) * 512 + j.val) / 64 % 8 = j.val / 64 by omega)
  | ⟨3, _⟩ => exact Fin.ext (show ((b.val * 4096 + p.val) * 512 + j.val) % 64 = j.val % 64 by omega)
  | ⟨4, _⟩ => exact Fin.ext (show ((b.val * 4096 + p.val) * 512 + j.val) / 512 % 64 = p.val % 64 by omega)

end Cert.Attn
end
-- ==== Proof.AttEq.lean ====
module

public import proofs.«01_k».proof.Proof.AttSoft
public import proofs.«01_k».proof.Proof.AttArray
public import proofs.«01_k».proof.Proof.AttRefOut

/-! The kernel's attention and the reference's agree at every position, head and component when queries, keys and
    biases are real numbers. -/

@[expose] public section

noncomputable section

namespace Cert.Attn

open Idealize.ShloMosaic Cert.ReferenceIdeal

theorem eighth_word : Ideal.ofBits .f32 0x3E000000#32 = ((1 / 8 : ℝ) : EReal) := by
  simp [Ideal.ofBits, Ideal.ieee, -EReal.coe_mul]
  norm_num

/-- Where a window's key stands among the kernel's 768 keys. -/
def place (p : Fin 4096) (k : Fin 576) : Fin 768 := ⟨64 * (p.val % 256 / 64) + k.val, by omega⟩

theorem place_injective (p : Fin 4096) : Function.Injective (place p) := fun a b h => by
  have : 64 * (p.val % 256 / 64) + a.val = 64 * (p.val % 256 / 64) + b.val := congrArg Fin.val h
  exact Fin.ext (by omega)

variable (Q : S8x4096x512.Idx → EReal) (K W : S8x4096x8x64.Idx → EReal) (B : S8x257.Idx → EReal)

theorem keyRow_place (p : Fin 4096) (k : Fin 576) (hv : 8 ≤ p.val / 64 + k.val / 64) :
    keyRow (p.val / 256) (by omega) (place p k) = ⟨(p.val / 64 + k.val / 64 - 8) * 64 + k.val % 64, by omega⟩ := by
  have hp := p.isLt
  have hk := k.isLt
  exact Fin.ext (show 256 * (p.val / 256 + (64 * (p.val % 256 / 64) + k.val) / 256 - 2)
    + (64 * (p.val % 256 / 64) + k.val) % 256 = (p.val / 64 + k.val / 64 - 8) * 64 + k.val % 64 by omega)

theorem window_place (b : Fin 8) (p : Fin 4096) (k : Fin 576) (h : Fin 8) (e : Fin 64)
    (hv : 8 ≤ p.val / 64 + k.val / 64) :
    W (ix4 b (keyRow (p.val / 256) (by omega) (place p k)) h e) = windowAt W b ⟨p.val / 64, by omega⟩ k h e := by
  rw [keyRow_place p k hv]
  exact (if_pos hv).symm

theorem score_place (b : Fin 8) (p : Fin 4096) (h : Fin 8) (k : Fin 576) :
    kscore Q K B b p h (place p k) = rscore Q K B b ⟨p.val / 64, by omega⟩ h ⟨p.val % 64, by omega⟩ k := by
  have hp := p.isLt
  have hk := k.isLt
  have hpl : (place p k).val = 64 * (p.val % 256 / 64) + k.val := rfl
  unfold kscore rscore
  by_cases hv : 8 ≤ p.val / 64 + k.val / 64
  · rw [if_pos (show (2 - p.val / 256) * 256 ≤ (place p k).val by omega), if_pos hv,
      if_pos (show p.val % 256 / 64 ≤ (place p k).val / 64
        ∧ (place p k).val / 64 ≤ p.val % 256 / 64 + 8 by omega)]
    refine congrArg₂ (· + ·) ?_ (congrArg (fun j => B (ix2 h j)) (Fin.ext ?_))
    · rw [eighth_word, sum_mul_coe _ _ _ (by norm_num)]
      refine Finset.sum_congr rfl fun e _ => ?_
      rw [window_place K b p k h e hv, mul_assoc, mul_comm ((1 / 8 : ℝ) : EReal), ← mul_assoc]
      refine congrArg (fun j => Q (ix3 b j (col h e)) * _ * _) (Fin.ext ?_)
      show p.val = 64 * (p.val / 64) + p.val % 64
      omega
    · show min (64 * (p.val % 256 / 64) + k.val - (384 + p.val % 256)) 256 = min (k.val - (384 + p.val % 64)) 256
      omega
  · rw [if_neg (show ¬ (2 - p.val / 256) * 256 ≤ (place p k).val by omega), if_neg hv]

theorem score_outside (b : Fin 8) (p : Fin 4096) (h : Fin 8) (kk : Fin 768) (ho : ∀ k, place p k ≠ kk) :
    kscore Q K B b p h kk = ⊥ := by
  have hkk := kk.isLt
  have hb : ¬ (p.val % 256 / 64 ≤ kk.val / 64 ∧ kk.val / 64 ≤ p.val % 256 / 64 + 8) := fun hc =>
    ho ⟨kk.val - 64 * (p.val % 256 / 64), by omega⟩
      (Fin.ext (show 64 * (p.val % 256 / 64) + (kk.val - 64 * (p.val % 256 / 64)) = kk.val by omega))
  unfold kscore
  rw [if_neg hb, bot_word, EReal.add_bot, ite_self]

/-- Every entry is a real number. -/
def Finite {s : Shape} (x : s.Idx → EReal) : Prop := ∀ i, ∃ r : ℝ, x i = r

theorem window_real (hK : Finite K) (b : Fin 8) (n : Fin 64) (k : Fin 576) (h : Fin 8) (e : Fin 64) :
    ∃ r : ℝ, windowAt K b n k h e = r := by
  unfold windowAt
  split
  · exact hK _
  · exact ⟨0, EReal.coe_zero.symm⟩

theorem score_real (hQ : Finite Q) (hK : Finite K) (hB : Finite B) (b : Fin 8) (n : Fin 64) (h : Fin 8) (q : Fin 64)
    (k : Fin 576) (hv : 8 ≤ n.val + k.val / 64) : ∃ r : ℝ, rscore Q K B b n h q k = r := by
  choose q' hq using fun e : Fin 64 => hQ (ix3 b ⟨64 * n.val + q.val, by omega⟩ ⟨64 * h.val + e.val, by omega⟩)
  choose k' hk using window_real K hK b n k h
  obtain ⟨c, hc⟩ := hB (ix2 h ⟨min (k.val - (384 + q.val)) 256, by omega⟩)
  refine ⟨(∑ e, q' e * k' e) * (1 / 8) + c, ?_⟩
  unfold rscore
  rw [if_pos hv, eighth_word, hc, EReal.coe_add, EReal.coe_mul, ← coe_sum]
  refine congrArg (fun x => x * _ + _) (Finset.sum_congr rfl fun e _ => ?_)
  rw [hq, hk, EReal.coe_mul]

theorem attention_eq (hQ : Finite Q) (hK : Finite K) (hB : Finite B) (b : Fin 8) (p : Fin 4096) (h : Fin 8) (d : Fin 64) :
    kernelAt Q K W B b p h d = refAt Q K W B b ⟨p.val / 64, by omega⟩ h ⟨p.val % 64, by omega⟩ d := by
  have hval : ∀ k : Fin 576, rscore Q K B b ⟨p.val / 64, by omega⟩ h ⟨p.val % 64, by omega⟩ k ≠ ⊥ →
      8 ≤ p.val / 64 + k.val / 64 := fun k hk => by
    by_contra hv
    exact hk ((if_neg hv).trans bot_word)
  have hreal : ∀ k : Fin 576, rscore Q K B b ⟨p.val / 64, by omega⟩ h ⟨p.val % 64, by omega⟩ k = ⊥ ∨
      ∃ r : ℝ, rscore Q K B b ⟨p.val / 64, by omega⟩ h ⟨p.val % 64, by omega⟩ k = r := fun k => by
    by_cases hv : 8 ≤ p.val / 64 + k.val / 64
    · exact Or.inr (score_real Q K B hQ hK hB b _ h _ k hv)
    · exact Or.inl ((if_neg hv).trans bot_word)
  have hown : rscore Q K B b ⟨p.val / 64, by omega⟩ h ⟨p.val % 64, by omega⟩ (512 : Fin 576) ≠ ⊥ := by
    obtain ⟨r, hr⟩ := score_real Q K B hQ hK hB b ⟨p.val / 64, by omega⟩ h ⟨p.val % 64, by omega⟩ (512 : Fin 576)
      (show 8 ≤ p.val / 64 + 512 / 64 by omega)
    rw [hr]
    exact EReal.coe_ne_bot r
  unfold kernelAt refAt rmax
  rw [bot_word]
  exact average_window (place p) (place_injective p) _ _ _ (fun k => windowAt W b ⟨p.val / 64, by omega⟩ k h d)
    (score_place Q K B b p h) (score_outside Q K B b p h) (fun k hk => window_place W b p k h d (hval k hk)) hreal _ hown

end Cert.Attn
end
-- ==== Proof.AttClaim.lean ====
module

public import proofs.«01_k».proof.Defs
public import proofs.«01_k».proof.Proof.AttEq
public import proofs.«01_k».proof.Proof.Gen.KernelIdeal.Frame
public import proofs.«01_k».proof.Proof.Gen.KernelIdeal.Value
public import proofs.«01_k».proof.Proof.Gen.ReferenceIdeal.Run
public import Idealize.ShloMosaic.Lib.Claim

/-! The claims about the attention: what its precondition says, its frames and its value. -/

@[expose] public section

noncomputable section

namespace Cert.Attn

open Idealize.ShloMosaic Idealize.SL.Sem

theorem pre_facts : Pre_finite.Facts := ⟨by decide, by decide, by decide⟩

theorem top_word : Ideal.ofBits .f32 0x7F800000#32 = ⊤ := by simp [Ideal.ofBits, Ideal.ieee]

/-- Above minus infinity and below plus infinity is a real number. -/
theorem real_of_bits (x : EReal) (h : IntOp.andi (Ideal.cmp .ogt x ⊥) (Ideal.cmp .olt x ⊤) = 1#1) :
    ∃ r : ℝ, x = r := by
  induction x using EReal.rec with
  | bot => simp [Ideal.cmp, IntOp.andi] at h
  | coe r => exact ⟨r, rfl⟩
  | top => simp [Ideal.cmp, IntOp.andi] at h

theorem finite_of_pre (m : (ℓ : Loc KernelIdeal.nD KernelIdeal.τ KernelIdeal.sig) → Buf (Elt Ideal) ℓ)
    (h : Pre_KernelIdeal_finite (hPre_finite := pre_facts) m) (c : Dev KernelIdeal.nD) :
    Finite (argQ m c) ∧ Finite (argK m c) ∧ Finite (argB m c) := by
  refine ⟨fun i => ?_, fun i => ?_, fun i => ?_⟩
  · refine real_of_bits _ (Eq.trans ?_ (congrFun (h c).1 i))
    rw [← bot_word, ← top_word]
    rfl
  · refine real_of_bits _ (Eq.trans ?_ (congrFun (h c).2.1 i))
    rw [← bot_word, ← top_word]
    rfl
  · refine real_of_bits _ (Eq.trans ?_ (congrFun (h c).2.2 i))
    rw [← bot_word, ← top_word]
    rfl

theorem results_eq (m : (ℓ : Loc KernelIdeal.nD KernelIdeal.τ KernelIdeal.sig) → Buf (Elt Ideal) ℓ)
    (h : Pre_KernelIdeal_finite (hPre_finite := pre_facts) m) (c : Dev KernelIdeal.nD) :
    ReferenceIdeal.Read.val_main_v73 (F := Ideal) (argQ m c) (argK m c) (argV m c) (argB m c)
      = (KernelIdeal.Gen.dats m 0 c).arrAt 8 KernelIdeal.cfg0.N := by
  rw [array_eq]
  obtain ⟨hQ, hK, hB⟩ := finite_of_pre m h c
  funext i
  have e : i = ix3 (i 0 : Fin 8) (i 1 : Fin 4096) (i 2 : Fin 512) := by
    funext a
    match a with
    | ⟨0, _⟩ => rfl
    | ⟨1, _⟩ => rfl
    | ⟨2, _⟩ => rfl
  refine (congrArg _ e).trans ((ref_at (argQ m c) (argK m c) (argV m c) (argB m c) (i 0) (i 1) (i 2)).trans ?_)
  exact (attention_eq _ _ _ _ hQ hK hB _ _ _ _).symm

theorem frame_reference : quiescent_ReferenceIdeal (hReferenceIdeal := ReferenceIdeal.Gen.facts) := fun m g _ =>
  (θ_run ReferenceIdeal.defs _ _).mono (fun r h => ⟨fun c => (h c).2, sem_eq_zero_of_no_sems (by decide) r.2⟩)
    (ReferenceIdeal.Value.run m g)

theorem frame_reference_pre : quiescent_ReferenceIdeal_pre_finite (hReferenceIdeal := ReferenceIdeal.Gen.facts)
    (hPre_finite := pre_facts) := fun m g _ => frame_reference m g trivial

theorem value : algebraic_KernelIdeal_ReferenceIdeal_pre_finite (hKernelIdeal := KernelIdeal.Gen.facts)
    (hReferenceIdeal := ReferenceIdeal.Gen.facts) (hPre_finite := pre_facts) := by
  pair_intro
  · run_from (KernelIdeal.Value.run_blocks m g)
  · run_from (ReferenceIdeal.Value.run m' g')
    rw [ReferenceIdeal.Read.val_main_v73_eq, (hagree c).1, (hagree c).2.1, (hagree c).2.2.1, (hagree c).2.2.2]
    exact results_eq m hpre c

end Cert.Attn
end
-- ==== Proof.ProjBlock.lean ====
module

public import proofs.«01_k».proof.Proof.Gen.Kernel2Ideal.Frame
public import Idealize.ShloMosaic.Lib.Pointwise

/-! What one block of the input projection computes: the rows of `x` normalised by their root mean square, times the
    columns of the weights. -/

@[expose] public section

set_option maxRecDepth 16384

noncomputable section

namespace Cert.Layer

open Idealize.ShloMosaic

/-- Element `k` of a row of 1024 divided by the row's root mean square and scaled by `G`. -/
def normed (X G : Fin 1024 → EReal) (k : Fin 1024) : EReal :=
  X k * Ideal.rsqrt (Ideal.div (∑ e, X e * X e) (Ideal.ofBits .f32 0x44800000#32) + Ideal.ofBits .f32 0x358637BD#32) * G k

end Cert.Layer

namespace Cert.Proj

open Idealize.ShloMosaic Cert.Layer Cert.Kernel2Ideal Cert.Kernel2Ideal.Gen

theorem zeros : (![0, 0] : Fin 2 → ℕ) = fun _ => 0 := by
  funext a; fin_cases a <;> rfl

/-- A normalised row times a column of the weights. -/
def proj (X G : Fin 1024 → EReal) (W : S1024x4096.Idx → EReal) (j : Fin 4096) : EReal :=
  ∑ k : Fin 1024, normed X G k * W (ix2 k j)

variable (x0 : Vec Ideal S512x1024 .f32) (x1 : Vec Ideal S1x1024 .f32) (x2 : Vec Ideal S1024x4096 .bf16)
  (r : Fin 512)

theorem ld0 : View.ld x0 r0_0 = x0 := View.ld_unit_zero zeros _ x0
theorem ld1 : View.ld x1 r0_1 = x1 := View.ld_unit_zero zeros _ x1

theorem pay5_apply (k : Fin 1024) :
    k0_pay5 x0 x1 (ix2 r k) = normed (fun e => x0 (ix2 r e)) (fun e => x1 (ix2 0 e)) k := by
  pointwise [k0_pay5]
  rfl

/-- Column `j` of row `r` of the block's product. -/
abbrev blockAt (j : Fin 4096) : EReal := proj (fun e => x0 (ix2 r e)) (fun e => x1 (ix2 0 e)) x2 j

theorem pay10_apply (k : Fin 1024) :
    k0_pay10 x0 x1 x2 (ix2 r k) = normed (fun e => x0 (ix2 r e)) (fun e => x1 (ix2 0 e)) k := by
  unfold k0_pay10
  rw [ld0, ld1]
  exact pay5_apply x0 x1 r k

theorem out3_apply (j : Fin 512) :
    out0_3 x0 x1 x2 (ix2 r j) = blockAt x0 x1 x2 r ⟨0 + j.val, by omega⟩ := by
  unfold out0_3
  rw [View.canon_unit_zero zeros]
  pointwise [k0_pay6]
  simp only [ld0, ld1, pay5_apply, pay10_apply]
  rfl

theorem out4_apply (j : Fin 512) :
    out0_4 x0 x1 x2 (ix2 r j) = blockAt x0 x1 x2 r ⟨512 + j.val, by omega⟩ * Ideal.ofBits .f32 0x3E000000#32 := by
  unfold out0_4
  rw [View.canon_unit_zero zeros]
  pointwise [k0_pay7]
  simp only [ld0, ld1, pay5_apply, pay10_apply]
  rfl

theorem out5_apply (j : Fin 512) :
    out0_5 x0 x1 x2 (ix2 r j) = blockAt x0 x1 x2 r ⟨1024 + j.val, by omega⟩ := by
  unfold out0_5
  rw [View.canon_unit_zero zeros]
  pointwise [k0_pay9, k0_pay8]
  simp only [ld0, ld1, pay5_apply, pay10_apply]
  rfl

theorem out6_apply (j : Fin 512) :
    out0_6 x0 x1 x2 (ix2 r j) = blockAt x0 x1 x2 r ⟨1536 + j.val, by omega⟩ := by
  unfold out0_6
  rw [View.canon_unit_zero zeros]
  pointwise [k0_pay2, k0_pay1]
  simp only [ld0, ld1, pay5_apply, pay10_apply]
  rfl

theorem out7_apply (j : Fin 512) :
    out0_7 x0 x1 x2 (ix2 r j) = blockAt x0 x1 x2 r ⟨1024 + j.val, by omega⟩ := by
  unfold out0_7
  rw [View.canon_unit_zero zeros]
  pointwise [k0_pay8]
  simp only [ld0, ld1, pay5_apply, pay10_apply]
  rfl

theorem out8_apply (j : Fin 512) :
    out0_8 x0 x1 x2 (ix2 r j) = blockAt x0 x1 x2 r ⟨1536 + j.val, by omega⟩ := by
  unfold out0_8
  rw [View.canon_unit_zero zeros]
  pointwise [k0_pay1]
  simp only [ld0, ld1, pay5_apply, pay10_apply]
  rfl

theorem pay3_apply (j : Fin 1024) :
    k0_pay3 (k0_pay10 x0 x1 x2) (View.ld x2 r0_7) (ix2 r j) = blockAt x0 x1 x2 r ⟨2048 + j.val, by omega⟩ := by
  pointwise [k0_pay3]
  simp only [pay10_apply]
  rfl

theorem pay4_apply (j : Fin 1024) :
    k0_pay4 (k0_pay10 x0 x1 x2) (View.ld x2 r0_9) (ix2 r j) = blockAt x0 x1 x2 r ⟨3072 + j.val, by omega⟩ := by
  pointwise [k0_pay4]
  simp only [pay10_apply]
  rfl

theorem out9_apply (j : Fin 2048) :
    out0_9 x0 x1 x2 (ix2 r j) = blockAt x0 x1 x2 r ⟨2048 + j.val, by omega⟩ := by
  unfold out0_9
  refine View.canon_apply_of_pieces (Val := Elt Ideal) (e := .bf16) (fun y : S512x2048.Idx => blockAt x0 x1 x2 (y 0) ⟨2048 + (y 1).val, by
    have : (y 1).val < 2048 := (y 1).isLt
    omega⟩) _ ?_ (ix2 r j) (cover0_9 _ _ _)
  have split (y : S512x1024.Idx) : y = ix2 (y 0 : Fin 512) (y 1 : Fin 1024) := by
    funext a
    match a with
    | ⟨0, _⟩ => rfl
    | ⟨1, _⟩ => rfl
  intro pc hpc
  rcases List.mem_cons.mp hpc with rfl | hpc
  · intro y
    refine (congrArg _ (split y)).trans ((pay4_apply x0 x1 x2 (y 0) (y 1)).trans ?_)
    exact congrArg₂ (blockAt x0 x1 x2) (Fin.ext (show (y 0).val = 0 + 1 * (y 0).val by omega))
      (Fin.ext (show 3072 + (y 1).val = 2048 + (1024 + 1 * (y 1).val) by omega))
  · rcases List.mem_cons.mp hpc with rfl | hpc
    · intro y
      refine (congrArg _ (split y)).trans ((pay3_apply x0 x1 x2 (y 0) (y 1)).trans ?_)
      exact congrArg₂ (blockAt x0 x1 x2) (Fin.ext (show (y 0).val = 0 + 1 * (y 0).val by omega))
        (Fin.ext (show 2048 + (y 1).val = 2048 + (0 + 1 * (y 1).val) by omega))
    · nomatch hpc

end Cert.Proj
end
-- ==== Proof.ProjArray.lean ====
module

public import proofs.«01_k».proof.Proof.ProjBlock
public import proofs.«01_k».proof.Proof.Gen.Kernel2Ideal.Value
public import Idealize.ShloMosaic.Lib.StableHlo.ReadAt
public import Idealize.ShloMosaic.Lib.Pipeline.ValueKit.Point

/-! What the input projection's seven arrays hold after the run. -/

@[expose] public section

set_option maxRecDepth 16384

noncomputable section

namespace Cert.Proj

open Idealize.ShloMosaic Cert.Layer Cert.Kernel2Ideal Cert.Kernel2Ideal.Gen

variable (m : (ℓ : Loc nD τ sig) → Buf (Elt Ideal) ℓ) (c : Dev nD)

/-- The three arguments, as arrays. -/
abbrev argX : S8x4096x1024.Idx → EReal := m ((c.tc : Thread nD τ).loc main_arg0)
abbrev argG : S1024.Idx → EReal := m ((c.tc : Thread nD τ).loc main_arg1)
abbrev argW : S1024x4096.Idx → EReal := m ((c.tc : Thread nD τ).loc main_arg2)

theorem v0_apply (i : Fin 32768) (k : Fin 1024) :
    V m c main_v0 (ix2 i k) = argX m c (ix3 (⟨i.val / 4096, by omega⟩ : Fin 8) (⟨i.val % 4096, by omega⟩ : Fin 4096) k) := by
  unfold V
  after_reads_at

theorem v1_apply (k : Fin 1024) : V m c main_v1 (ix2 0 k) = argG m c (ix1 k) := by
  unfold V
  after_reads_at

theorem v2_apply (i : Fin 1024) (k : Fin 4096) : V m c main_v2 (ix2 i k) = argW m c (ix2 i k) := by
  unfold V
  after_reads_at

theorem index_at : ∀ t : Fin grid0.N,
    win0_0.index t = ![t.val, 0] ∧ win0_1.index t = ![0, 0] ∧ win0_2.index t = ![0, 0] ∧
    win0_3.index t = ![t.val, 0] ∧ win0_4.index t = ![t.val, 0] ∧ win0_5.index t = ![t.val, 0] ∧
    win0_6.index t = ![t.val, 0] ∧ win0_7.index t = ![t.val / 8, 0] ∧ win0_8.index t = ![t.val / 8, 0] ∧
    win0_9.index t = ![t.val, 0] := by
  decide +kernel

/-- The kept keys and values are written back at the last block of each sequence. -/
theorem last_tile : ∀ t : Fin grid0.N, ((cfg0.win 7).flush t = true → t.val % 8 = 7) ∧
    ((cfg0.win 8).flush t = true → t.val % 8 = 7) := by
  decide +kernel

abbrev rowOf (t : Fin grid0.N) (r : Fin 512) : Fin 32768 :=
  ⟨512 * t.val + r.val, by have : t.val < 64 := t.isLt
                           omega⟩

theorem block0 (t : Fin grid0.N) (r : Fin 512) (k : Fin 1024) :
    iblk m c 0 t (ix2 r k) = V m c main_v0 (ix2 (rowOf t r) k) := by
  have e := (index_at t).1
  blk_ext [iblk, e]

theorem block1 (t : Fin grid0.N) (k : Fin 1024) : iblk m c 1 t (ix2 0 k) = V m c main_v1 (ix2 0 k) := by
  have e := (index_at t).2.1
  blk_ext [iblk, e]

theorem block2 (t : Fin grid0.N) (i : Fin 1024) (k : Fin 4096) :
    iblk m c 2 t (ix2 i k) = V m c main_v2 (ix2 i k) := by
  have e := (index_at t).2.2.1
  blk_ext [iblk, e]

/-- The projection of row `i` of the flattened `x`, at column `j`. -/
def projAt (i : Fin 32768) (j : Fin 4096) : EReal :=
  proj (fun e => argX m c (ix3 (⟨i.val / 4096, by omega⟩ : Fin 8) (⟨i.val % 4096, by omega⟩ : Fin 4096) e))
    (fun e => argG m c (ix1 e)) (argW m c) j

theorem blockAt_eq (t : Fin grid0.N) (r : Fin 512) (j : Fin 4096) :
    blockAt (iblk m c 0 t) (iblk m c 1 t) (iblk m c 2 t) r j = projAt m c (rowOf t r) j := by
  have hX : (fun e => iblk m c 0 t (ix2 r e)) = fun e : Fin 1024 => argX m c
      (ix3 (⟨(rowOf t r).val / 4096, by omega⟩ : Fin 8) (⟨(rowOf t r).val % 4096, by omega⟩ : Fin 4096) e) :=
    funext fun e => (block0 m c t r e).trans (v0_apply m c _ e)
  have hG : (fun e => iblk m c 1 t (ix2 0 e)) = fun e : Fin 1024 => argG m c (ix1 e) :=
    funext fun e => (block1 m c t e).trans (v1_apply m c e)
  unfold blockAt projAt
  rw [hX, hG]
  exact Finset.sum_congr rfl fun k _ => congrArg _ ((block2 m c t k j).trans (v2_apply m c k j))

/-- Column `j` of the `n`-th group of 512 columns. -/
abbrev wide (n : ℕ) (hn : n ≤ 3584) (j : Fin 512) : Fin 4096 := ⟨n + j.val, by omega⟩

/-- The row of `x` that row `i` of the kept keys and values comes from: the last 512 of each sequence's 4096. -/
abbrev keptRow (i : Fin 4096) : Fin 32768 := ⟨4096 * (i.val / 512) + 3584 + i.val % 512, by omega⟩

/-- The columns that feed the recurrence. -/
theorem array3_eq : (dats m 0 c).arrAt 3 cfg0.N
    = fun i : S32768x512.Idx => projAt m c (i 0) (wide 0 (by decide) (i 1)) := by
  refine (dats m 0 c).arrAt_eq_of_covers 3 _ (by decide +kernel) fun t hf y => ?_
  have e := (index_at t).2.2.2.1
  have y0 : (y 0).val < 512 := (y 0).isLt
  have hy : y = ix2 (y 0 : Fin 512) (y 1 : Fin 512) := by
    funext a
    match a with
    | ⟨0, _⟩ => rfl
    | ⟨1, _⟩ => rfl
  have h0 : (win0_3.blk t).view.emb y 0 = rowOf t (y 0) := Fin.ext (by
    blk_simp [e]
    show t.val * 512 + (y 0).val = 512 * t.val + (y 0).val
    omega)
  have h1 : (win0_3.blk t).view.emb y 1 = y 1 := Fin.ext (by blk_simp [e])
  blk_simp
  rw [after0_3]
  rw [h0, h1]
  exact (congrArg _ hy).trans ((out3_apply _ _ _ (y 0) (y 1)).trans (congrArg id (blockAt_eq m c t (y 0) _)))

/-- The queries, scaled. -/
theorem array4_eq : (dats m 0 c).arrAt 4 cfg0.N
    = fun i : S32768x512.Idx => projAt m c (i 0) (wide 512 (by decide) (i 1)) * Ideal.ofBits .f32 0x3E000000#32 := by
  refine (dats m 0 c).arrAt_eq_of_covers 4 _ (by decide +kernel) fun t hf y => ?_
  have e := (index_at t).2.2.2.2.1
  have y0 : (y 0).val < 512 := (y 0).isLt
  have hy : y = ix2 (y 0 : Fin 512) (y 1 : Fin 512) := by
    funext a
    match a with
    | ⟨0, _⟩ => rfl
    | ⟨1, _⟩ => rfl
  have h0 : (win0_4.blk t).view.emb y 0 = rowOf t (y 0) := Fin.ext (by
    blk_simp [e]
    show t.val * 512 + (y 0).val = 512 * t.val + (y 0).val
    omega)
  have h1 : (win0_4.blk t).view.emb y 1 = y 1 := Fin.ext (by blk_simp [e])
  blk_simp
  rw [after0_4]
  rw [h0, h1]
  exact (congrArg _ hy).trans ((out4_apply _ _ _ (y 0) (y 1)).trans (congrArg (· * Ideal.ofBits .f32 0x3E000000#32) (blockAt_eq m c t (y 0) _)))

/-- The keys. -/
theorem array5_eq : (dats m 0 c).arrAt 5 cfg0.N
    = fun i : S32768x512.Idx => projAt m c (i 0) (wide 1024 (by decide) (i 1)) := by
  refine (dats m 0 c).arrAt_eq_of_covers 5 _ (by decide +kernel) fun t hf y => ?_
  have e := (index_at t).2.2.2.2.2.1
  have y0 : (y 0).val < 512 := (y 0).isLt
  have hy : y = ix2 (y 0 : Fin 512) (y 1 : Fin 512) := by
    funext a
    match a with
    | ⟨0, _⟩ => rfl
    | ⟨1, _⟩ => rfl
  have h0 : (win0_5.blk t).view.emb y 0 = rowOf t (y 0) := Fin.ext (by
    blk_simp [e]
    show t.val * 512 + (y 0).val = 512 * t.val + (y 0).val
    omega)
  have h1 : (win0_5.blk t).view.emb y 1 = y 1 := Fin.ext (by blk_simp [e])
  blk_simp
  rw [after0_5]
  rw [h0, h1]
  exact (congrArg _ hy).trans ((out5_apply _ _ _ (y 0) (y 1)).trans (congrArg id (blockAt_eq m c t (y 0) _)))

/-- The values. -/
theorem array6_eq : (dats m 0 c).arrAt 6 cfg0.N
    = fun i : S32768x512.Idx => projAt m c (i 0) (wide 1536 (by decide) (i 1)) := by
  refine (dats m 0 c).arrAt_eq_of_covers 6 _ (by decide +kernel) fun t hf y => ?_
  have e := (index_at t).2.2.2.2.2.2.1
  have y0 : (y 0).val < 512 := (y 0).isLt
  have hy : y = ix2 (y 0 : Fin 512) (y 1 : Fin 512) := by
    funext a
    match a with
    | ⟨0, _⟩ => rfl
    | ⟨1, _⟩ => rfl
  have h0 : (win0_6.blk t).view.emb y 0 = rowOf t (y 0) := Fin.ext (by
    blk_simp [e]
    show t.val * 512 + (y 0).val = 512 * t.val + (y 0).val
    omega)
  have h1 : (win0_6.blk t).view.emb y 1 = y 1 := Fin.ext (by blk_simp [e])
  blk_simp
  rw [after0_6]
  rw [h0, h1]
  exact (congrArg _ hy).trans ((out6_apply _ _ _ (y 0) (y 1)).trans (congrArg id (blockAt_eq m c t (y 0) _)))

/-- The kept keys. -/
theorem array7_eq : (dats m 0 c).arrAt 7 cfg0.N
    = fun i : S4096x512.Idx => projAt m c (keptRow (i 0)) (wide 1024 (by decide) (i 1)) := by
  refine (dats m 0 c).arrAt_eq_of_covers 7 _ (by decide +kernel) fun t hf y => ?_
  have e := (index_at t).2.2.2.2.2.2.2.1
  have y0 : (y 0).val < 512 := (y 0).isLt
  have hy : y = ix2 (y 0 : Fin 512) (y 1 : Fin 512) := by
    funext a
    match a with
    | ⟨0, _⟩ => rfl
    | ⟨1, _⟩ => rfl
  have last := (last_tile t).1 hf
  have h0 : keptRow ((win0_7.blk t).view.emb y 0) = rowOf t (y 0) := Fin.ext (by
    have v : ((win0_7.blk t).view.emb y 0).val = t.val / 8 * 512 + (y 0).val := by blk_simp [e]
    show 4096 * (((win0_7.blk t).view.emb y 0).val / 512) + 3584 + ((win0_7.blk t).view.emb y 0).val % 512
      = 512 * t.val + (y 0).val
    rw [v]
    omega)
  have h1 : (win0_7.blk t).view.emb y 1 = y 1 := Fin.ext (by blk_simp [e])
  blk_simp
  rw [after0_7]
  rw [h0, h1]
  exact (congrArg _ hy).trans ((out7_apply _ _ _ (y 0) (y 1)).trans (congrArg id (blockAt_eq m c t (y 0) _)))

/-- The kept values. -/
theorem array8_eq : (dats m 0 c).arrAt 8 cfg0.N
    = fun i : S4096x512.Idx => projAt m c (keptRow (i 0)) (wide 1536 (by decide) (i 1)) := by
  refine (dats m 0 c).arrAt_eq_of_covers 8 _ (by decide +kernel) fun t hf y => ?_
  have e := (index_at t).2.2.2.2.2.2.2.2.1
  have y0 : (y 0).val < 512 := (y 0).isLt
  have hy : y = ix2 (y 0 : Fin 512) (y 1 : Fin 512) := by
    funext a
    match a with
    | ⟨0, _⟩ => rfl
    | ⟨1, _⟩ => rfl
  have last := (last_tile t).2 hf
  have h0 : keptRow ((win0_8.blk t).view.emb y 0) = rowOf t (y 0) := Fin.ext (by
    have v : ((win0_8.blk t).view.emb y 0).val = t.val / 8 * 512 + (y 0).val := by blk_simp [e]
    show 4096 * (((win0_8.blk t).view.emb y 0).val / 512) + 3584 + ((win0_8.blk t).view.emb y 0).val % 512
      = 512 * t.val + (y 0).val
    rw [v]
    omega)
  have h1 : (win0_8.blk t).view.emb y 1 = y 1 := Fin.ext (by blk_simp [e])
  blk_simp
  rw [after0_8]
  rw [h0, h1]
  exact (congrArg _ hy).trans ((out8_apply _ _ _ (y 0) (y 1)).trans (congrArg id (blockAt_eq m c t (y 0) _)))

/-- Column `j` of the gates. -/
abbrev gate (j : Fin 2048) : Fin 4096 := ⟨2048 + j.val, by omega⟩

/-- The gates. -/
theorem array9_eq : (dats m 0 c).arrAt 9 cfg0.N
    = fun i : S32768x2048.Idx => projAt m c (i 0) (gate (i 1)) := by
  refine (dats m 0 c).arrAt_eq_of_covers 9 _ (by decide +kernel) fun t hf y => ?_
  have e := (index_at t).2.2.2.2.2.2.2.2.2
  have y0 : (y 0).val < 512 := (y 0).isLt
  have hy : y = ix2 (y 0 : Fin 512) (y 1 : Fin 2048) := by
    funext a
    match a with
    | ⟨0, _⟩ => rfl
    | ⟨1, _⟩ => rfl
  have h0 : (win0_9.blk t).view.emb y 0 = rowOf t (y 0) := Fin.ext (by
    blk_simp [e]
    show t.val * 512 + (y 0).val = 512 * t.val + (y 0).val
    omega)
  have h1 : (win0_9.blk t).view.emb y 1 = y 1 := Fin.ext (by blk_simp [e])
  blk_simp
  rw [after0_9]
  rw [h0, h1]
  exact (congrArg _ hy).trans ((out9_apply _ _ _ (y 0) (y 1)).trans (congrArg id (blockAt_eq m c t (y 0) _)))

end Cert.Proj
end
-- ==== Proof.ProjRef.lean ====
module

public import proofs.«01_k».proof.Proof.ProjBlock
public import proofs.«01_k».proof.Proof.Gen.Reference2Ideal.Read
public import Idealize.ShloMosaic.Lib.Pointwise

/-! What the reference's input projection computes at an index of each of its results. -/

@[expose] public section

set_option maxRecDepth 16384

noncomputable section

namespace Cert.Proj

open Idealize.ShloMosaic Cert.Layer Cert.Reference2Ideal Cert.Reference2Ideal.Read

variable (X : S8x4096x1024.Idx → EReal) (G : S1024.Idx → EReal) (W : S1024x4096.Idx → EReal)

theorem ref_normed (b : Fin 8) (p : Fin 4096) (k : Fin 1024) :
    val_main_v12 (F := Ideal) X G (ix3 b p k) = normed (fun e => X (ix3 b p e)) (fun e => G (ix1 e)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem ref_proj (b : Fin 8) (p : Fin 4096) (j : Fin 4096) :
    val_main_v13 (F := Ideal) X G W (ix3 b p j) = proj (fun e => X (ix3 b p e)) (fun e => G (ix1 e)) W j := by
  pointwise [val_main_v13]
  simp only [ref_normed]
  rfl

/-- The projection of row `i` of the flattened `x`, at column `j`. -/
def refAt (i : Fin 32768) (j : Fin 4096) : EReal :=
  proj (fun e => X (ix3 (⟨i.val / 4096, by omega⟩ : Fin 8) (⟨i.val % 4096, by omega⟩ : Fin 4096) e))
    (fun e => G (ix1 e)) W j

theorem row_eq {b b' : Fin 8} {p p' : Fin 4096} {j j' : Fin 4096} (hb : b.val = b'.val) (hp : p.val = p'.val)
    (hj : j.val = j'.val) : proj (fun e => X (ix3 b p e)) (fun e => G (ix1 e)) W j
      = proj (fun e => X (ix3 b' p' e)) (fun e => G (ix1 e)) W j' := by
  rw [Fin.ext hb, Fin.ext hp, Fin.ext hj]

theorem ref22_apply (i : Fin 32768) (j : Fin 512) :
    val_main_v22 (F := Ideal) X G W (ix2 i j) = refAt X G W i ⟨0 + j.val, by omega⟩ := by
  pointwise [val_main_v22, val_main_v21, val_main_v14]
  rw [ref_proj]
  exact row_eq X G W (by first | rfl | (simp only []; omega)) (by first | rfl | (simp only []; omega)) (by first | rfl | (simp only []; omega))

theorem ref26_apply (i : Fin 32768) (j : Fin 512) :
    val_main_v26 (F := Ideal) X G W (ix2 i j) = refAt X G W i ⟨512 + j.val, by omega⟩ * Ideal.ofBits .f32 0x3E000000#32 := by
  pointwise [val_main_v26, val_main_v25, val_main_v24, val_main_v23, val_main_v15, val_main_cst_2]
  rw [ref_proj]
  exact congrArg (· * Ideal.ofBits .f32 0x3E000000#32) (row_eq X G W (by first | rfl | (simp only []; omega)) (by first | rfl | (simp only []; omega)) (by first | rfl | (simp only []; omega)))

theorem ref28_apply (i : Fin 32768) (j : Fin 512) :
    val_main_v28 (F := Ideal) X G W (ix2 i j) = refAt X G W i ⟨1024 + j.val, by omega⟩ := by
  pointwise [val_main_v28, val_main_v27, val_main_v16]
  rw [ref_proj]
  exact row_eq X G W (by first | rfl | (simp only []; omega)) (by first | rfl | (simp only []; omega)) (by first | rfl | (simp only []; omega))

theorem ref30_apply (i : Fin 32768) (j : Fin 512) :
    val_main_v30 (F := Ideal) X G W (ix2 i j) = refAt X G W i ⟨1536 + j.val, by omega⟩ := by
  pointwise [val_main_v30, val_main_v29, val_main_v17]
  rw [ref_proj]
  exact row_eq X G W (by first | rfl | (simp only []; omega)) (by first | rfl | (simp only []; omega)) (by first | rfl | (simp only []; omega))

theorem ref31_apply (i : Fin 4096) (j : Fin 512) :
    val_main_v31 (F := Ideal) X G W (ix2 i j) = refAt X G W ⟨4096 * (i.val / 512) + 3584 + i.val % 512, by omega⟩ ⟨1024 + j.val, by omega⟩ := by
  pointwise [val_main_v31, val_main_v19, val_main_v16]
  rw [ref_proj]
  exact row_eq X G W (by first | rfl | (simp only []; omega)) (by first | rfl | (simp only []; omega)) (by first | rfl | (simp only []; omega))

theorem ref32_apply (i : Fin 4096) (j : Fin 512) :
    val_main_v32 (F := Ideal) X G W (ix2 i j) = refAt X G W ⟨4096 * (i.val / 512) + 3584 + i.val % 512, by omega⟩ ⟨1536 + j.val, by omega⟩ := by
  pointwise [val_main_v32, val_main_v20, val_main_v17]
  rw [ref_proj]
  exact row_eq X G W (by first | rfl | (simp only []; omega)) (by first | rfl | (simp only []; omega)) (by first | rfl | (simp only []; omega))

theorem ref34_apply (i : Fin 32768) (j : Fin 2048) :
    val_main_v34 (F := Ideal) X G W (ix2 i j) = refAt X G W i ⟨2048 + j.val, by omega⟩ := by
  pointwise [val_main_v34, val_main_v33, val_main_v18]
  rw [ref_proj]
  exact row_eq X G W (by first | rfl | (simp only []; omega)) (by first | rfl | (simp only []; omega)) (by first | rfl | (simp only []; omega))

end Cert.Proj
end
-- ==== Proof.ProjClaim.lean ====
module

public import proofs.«01_k».proof.Defs
public import proofs.«01_k».proof.Proof.ProjArray
public import proofs.«01_k».proof.Proof.ProjRef
public import proofs.«01_k».proof.Proof.Gen.Kernel2Ideal.Value
public import proofs.«01_k».proof.Proof.Gen.Reference2Ideal.Run
public import Idealize.ShloMosaic.Lib.Claim

/-! The claims about the input projection: the reference's frame, and the seven results. -/

@[expose] public section

noncomputable section

namespace Cert.Proj

open Idealize.ShloMosaic Idealize.SL.Sem

theorem split2 {a b : ℕ} (i : (⟨2, ![a, b]⟩ : Shape).Idx) : i = ix2 (i 0 : Fin a) (i 1 : Fin b) := by
  funext x
  match x with
  | ⟨0, _⟩ => rfl
  | ⟨1, _⟩ => rfl

theorem frame_reference : quiescent_Reference2Ideal (hReference2Ideal := Reference2Ideal.Gen.facts) := fun m g _ =>
  (θ_run Reference2Ideal.defs _ _).mono (fun r h => ⟨fun c => (h c).2.2.2.2.2.2.2, sem_eq_zero_of_no_sems (by decide) r.2⟩)
    (Reference2Ideal.Value.run m g)

variable (m : (ℓ : Loc Kernel2Ideal.nD Kernel2Ideal.τ Kernel2Ideal.sig) → Buf (Elt Ideal) ℓ) (c : Dev Kernel2Ideal.nD)

theorem result3 : Reference2Ideal.Read.val_main_v22 (F := Ideal) (argX m c) (argG m c) (argW m c)
    = (Kernel2Ideal.Gen.dats m 0 c).arrAt 3 Kernel2Ideal.cfg0.N := by
  rw [array3_eq]
  funext i
  exact (congrArg _ (split2 i)).trans (ref22_apply _ _ _ (i 0) (i 1))

theorem result4 : Reference2Ideal.Read.val_main_v26 (F := Ideal) (argX m c) (argG m c) (argW m c)
    = (Kernel2Ideal.Gen.dats m 0 c).arrAt 4 Kernel2Ideal.cfg0.N := by
  rw [array4_eq]
  funext i
  exact (congrArg _ (split2 i)).trans (ref26_apply _ _ _ (i 0) (i 1))

theorem result5 : Reference2Ideal.Read.val_main_v28 (F := Ideal) (argX m c) (argG m c) (argW m c)
    = (Kernel2Ideal.Gen.dats m 0 c).arrAt 5 Kernel2Ideal.cfg0.N := by
  rw [array5_eq]
  funext i
  exact (congrArg _ (split2 i)).trans (ref28_apply _ _ _ (i 0) (i 1))

theorem result6 : Reference2Ideal.Read.val_main_v30 (F := Ideal) (argX m c) (argG m c) (argW m c)
    = (Kernel2Ideal.Gen.dats m 0 c).arrAt 6 Kernel2Ideal.cfg0.N := by
  rw [array6_eq]
  funext i
  exact (congrArg _ (split2 i)).trans (ref30_apply _ _ _ (i 0) (i 1))

theorem result7 : Reference2Ideal.Read.val_main_v31 (F := Ideal) (argX m c) (argG m c) (argW m c)
    = (Kernel2Ideal.Gen.dats m 0 c).arrAt 7 Kernel2Ideal.cfg0.N := by
  rw [array7_eq]
  funext i
  exact (congrArg _ (split2 i)).trans (ref31_apply _ _ _ (i 0) (i 1))

theorem result8 : Reference2Ideal.Read.val_main_v32 (F := Ideal) (argX m c) (argG m c) (argW m c)
    = (Kernel2Ideal.Gen.dats m 0 c).arrAt 8 Kernel2Ideal.cfg0.N := by
  rw [array8_eq]
  funext i
  exact (congrArg _ (split2 i)).trans (ref32_apply _ _ _ (i 0) (i 1))

theorem result9 : Reference2Ideal.Read.val_main_v34 (F := Ideal) (argX m c) (argG m c) (argW m c)
    = (Kernel2Ideal.Gen.dats m 0 c).arrAt 9 Kernel2Ideal.cfg0.N := by
  rw [array9_eq]
  funext i
  exact (congrArg _ (split2 i)).trans (ref34_apply _ _ _ (i 0) (i 1))

theorem value : algebraic_Kernel2Ideal_Reference2Ideal (hKernel2Ideal := Kernel2Ideal.Gen.facts)
    (hReference2Ideal := Reference2Ideal.Gen.facts) := by
  pair_intro
  · run_from (Kernel2Ideal.Value.run_blocks m g)
  · run_from (Reference2Ideal.Value.run m' g')
    · rw [Reference2Ideal.Read.val_main_v22_eq]
      exact result3 m c
    · rw [Reference2Ideal.Read.val_main_v26_eq]
      exact result4 m c
    · rw [Reference2Ideal.Read.val_main_v28_eq]
      exact result5 m c
    · rw [Reference2Ideal.Read.val_main_v30_eq]
      exact result6 m c
    · rw [Reference2Ideal.Read.val_main_v31_eq]
      exact result7 m c
    · rw [Reference2Ideal.Read.val_main_v32_eq]
      exact result8 m c
    · rw [Reference2Ideal.Read.val_main_v34_eq]
      exact result9 m c

end Cert.Proj
end
-- ==== Proof.MergeBlock.lean ====
module

public import proofs.«01_k».proof.Proof.ProjBlock
public import proofs.«01_k».proof.Proof.Gen.Kernel3Ideal.Frame
public import Idealize.ShloMosaic.Lib.Pointwise

/-! What one block of the merge computes: the gated sum of the two branches added to `x`, its normalised rows, the
    queries of the mixer and their products with the sub-keys. -/

@[expose] public section

set_option maxRecDepth 16384

noncomputable section

namespace Cert.Merge

open Idealize.ShloMosaic Cert.Layer Cert.Kernel3Ideal Cert.Kernel3Ideal.Gen

theorem zeros : (![0, 0] : Fin 2 → ℕ) = fun _ => 0 := by
  funext a; fin_cases a <;> rfl

theorem split2 {a b : ℕ} (i : (⟨2, ![a, b]⟩ : Shape).Idx) : i = ix2 (i 0 : Fin a) (i 1 : Fin b) := by
  funext x
  match x with
  | ⟨0, _⟩ => rfl
  | ⟨1, _⟩ => rfl

theorem split3 {a b c : ℕ} (i : (⟨3, ![a, b, c]⟩ : Shape).Idx) : i = ix3 (i 0 : Fin a) (i 1 : Fin b) (i 2 : Fin c) := by
  funext x
  match x with
  | ⟨0, _⟩ => rfl
  | ⟨1, _⟩ => rfl
  | ⟨2, _⟩ => rfl

/-- Arrays that agree at every row and column are equal. -/
theorem ext2 {a b : ℕ} {f g : (⟨2, ![a, b]⟩ : Shape).Idx → EReal} (h : ∀ i j, f (ix2 i j) = g (ix2 i j)) : f = g :=
  funext fun i => by rw [split2 i]; exact h _ _

/-- The recurrence's output with its skip, times the columns of the gated linear unit. -/
def glu (Y U D : Fin 512 → EReal) (GW : S512x2048.Idx → EReal) (j : Fin 2048) : EReal :=
  ∑ k : Fin 512, (Y k + D k * U k) * GW (ix2 k j)

/-- The first half of `2048` columns. -/
abbrev lo (j : Fin 1024) : Fin 2048 := ⟨j.val, by omega⟩
/-- The second half. -/
abbrev hi (j : Fin 1024) : Fin 2048 := ⟨1024 + j.val, by omega⟩

/-- The two branches, each under its gate. -/
def mixed (Y U D A : Fin 512 → EReal) (GAB : Fin 2048 → EReal) (GW : S512x2048.Idx → EReal) (WO : S512x1024.Idx → EReal)
    (j : Fin 1024) : EReal :=
  Ideal.logistic (GAB (lo j)) * (glu Y U D GW (lo j) * Ideal.logistic (glu Y U D GW (hi j)))
    + Ideal.logistic (GAB (hi j)) * ∑ k : Fin 512, A k * WO (ix2 k j)

/-- A row after the merge. -/
def merged (X : Fin 1024 → EReal) (M : Fin 1024 → EReal) (WP : S1024x1024.Idx → EReal) (j : Fin 1024) : EReal :=
  X j + ∑ k : Fin 1024, M k * WP (ix2 k j)

/-- The queries of a normalised row. -/
def query (N : Fin 1024 → EReal) (WQ : S1024x2048.Idx → EReal) (j : Fin 2048) : EReal :=
  ∑ k : Fin 1024, N k * WQ (ix2 k j)

/-- The product of sub-key `n` of half-head `hz` with a row's queries. -/
def score (SK : S16x128x128.Idx → EReal) (Q : Fin 2048 → EReal) (hz : Fin 16) (n : Fin 128) : EReal :=
  ∑ d : Fin 128, SK (ix3 hz n d) * Q ⟨128 * hz.val + d.val, by omega⟩

variable (x0 : Vec Ideal S512x1024 .f32) (x1 x2 x3 : Vec Ideal S512x512 .bf16) (x4 : Vec Ideal S512x2048 .bf16)
  (x5 : Vec Ideal S1x512 .f32) (x6 : Vec Ideal S512x2048 .bf16) (x7 : Vec Ideal S512x1024 .bf16)
  (x8 : Vec Ideal S1024x1024 .bf16) (x9 : Vec Ideal S1x1024 .f32) (x10 : Vec Ideal S1024x2048 .bf16)
  (x11 : Vec Ideal S16x128x128 .bf16) (r : Fin 512)

theorem ldA (x : Vec Ideal S512x512 .bf16) : View.ld x r0_0 = x := View.ld_unit_zero zeros _ x
theorem ldB (x : Vec Ideal S1x512 .f32) : View.ld x r0_1 = x := View.ld_unit_zero zeros _ x
theorem ldC (x : Vec Ideal S512x2048 .bf16) : View.ld x r0_2 = x := View.ld_unit_zero zeros _ x
theorem ldD (x : Vec Ideal S512x1024 .f32) : View.ld x r0_3 = x := View.ld_unit_zero zeros _ x
theorem ldD' (x : Vec Ideal S512x1024 .bf16) : View.ld x r0_3 = x := View.ld_unit_zero zeros _ x
theorem ldE (x : Vec Ideal S1024x1024 .bf16) : View.ld x r0_4 = x := View.ld_unit_zero zeros _ x
theorem ldF (x : Vec Ideal S1x1024 .f32) : View.ld x r0_5 = x := View.ld_unit_zero zeros _ x
theorem ldG (x : Vec Ideal S1024x2048 .bf16) : View.ld x r0_6 = x := View.ld_unit_zero zeros _ x

/-- The block's rows of the gated sum, of the merged rows, of the normalised rows and of the queries. -/
abbrev mixedB : Fin 1024 → EReal :=
  mixed (fun k => x1 (ix2 r k)) (fun k => x2 (ix2 r k)) (fun k => x5 (ix2 0 k)) (fun k => x3 (ix2 r k))
    (fun k => x4 (ix2 r k)) x6 x7
abbrev mergedB : Fin 1024 → EReal := merged (fun k => x0 (ix2 r k)) (mixedB x1 x2 x3 x4 x5 x6 x7 r) x8
abbrev normedB : Fin 1024 → EReal := normed (mergedB x0 x1 x2 x3 x4 x5 x6 x7 x8 r) (fun k => x9 (ix2 0 k))
abbrev queryB : Fin 2048 → EReal := query (normedB x0 x1 x2 x3 x4 x5 x6 x7 x8 x9 r) x10

theorem pay93_apply (j : Fin 1024) : k0_pay93 x0 x1 x2 x3 x4 x5 x6 x7 x8 x9 x10 x11 (ix2 r j) = x0 (ix2 r j) := by
  unfold k0_pay93
  rw [ldD]
  pointwise [k0_pay4]

theorem pay94_apply (j : Fin 1024) :
    k0_pay94 x0 x1 x2 x3 x4 x5 x6 x7 x8 x9 x10 x11 (ix2 r j) = mixedB x1 x2 x3 x4 x5 x6 x7 r j := by
  unfold k0_pay94
  rw [ldA, ldA, ldA, ldB, ldC, ldC, ldD']
  pointwise [k0_pay5]
  rfl

theorem pay95_apply (i j : Fin 1024) : k0_pay95 x0 x1 x2 x3 x4 x5 x6 x7 x8 x9 x10 x11 (ix2 i j) = x8 (ix2 i j) := by
  unfold k0_pay95
  rw [ldE]
  pointwise [k0_pay6]

theorem pay7_apply (j : Fin 1024) :
    k0_pay7 (k0_pay93 x0 x1 x2 x3 x4 x5 x6 x7 x8 x9 x10 x11) (k0_pay94 x0 x1 x2 x3 x4 x5 x6 x7 x8 x9 x10 x11)
      (k0_pay95 x0 x1 x2 x3 x4 x5 x6 x7 x8 x9 x10 x11) (ix2 r j) = mergedB x0 x1 x2 x3 x4 x5 x6 x7 x8 r j := by
  pointwise [k0_pay7]
  simp only [pay93_apply, pay94_apply, pay95_apply]
  rfl

theorem pay8_apply (j : Fin 1024) :
    k0_pay8 (k0_pay93 x0 x1 x2 x3 x4 x5 x6 x7 x8 x9 x10 x11) (k0_pay94 x0 x1 x2 x3 x4 x5 x6 x7 x8 x9 x10 x11)
      (k0_pay95 x0 x1 x2 x3 x4 x5 x6 x7 x8 x9 x10 x11) (View.ld x9 r0_5) (ix2 r j)
      = normedB x0 x1 x2 x3 x4 x5 x6 x7 x8 x9 r j := by
  rw [ldF]
  pointwise [k0_pay8]
  simp only [pay7_apply]
  rfl

theorem pay96_apply (j : Fin 2048) :
    k0_pay96 x0 x1 x2 x3 x4 x5 x6 x7 x8 x9 x10 x11 (ix2 r j) = queryB x0 x1 x2 x3 x4 x5 x6 x7 x8 x9 x10 r j := by
  unfold k0_pay96
  rw [ldG]
  pointwise [k0_pay9]
  simp only [pay8_apply]
  rfl

theorem out12_apply (j : Fin 1024) :
    out0_12 x0 x1 x2 x3 x4 x5 x6 x7 x8 x9 x10 x11 (ix2 r j) = mergedB x0 x1 x2 x3 x4 x5 x6 x7 x8 r j := by
  unfold out0_12
  rw [View.canon_unit_zero zeros]
  exact pay7_apply x0 x1 x2 x3 x4 x5 x6 x7 x8 x9 x10 x11 r j

theorem out13_apply (j : Fin 1024) :
    out0_13 x0 x1 x2 x3 x4 x5 x6 x7 x8 x9 x10 x11 (ix2 r j) = normedB x0 x1 x2 x3 x4 x5 x6 x7 x8 x9 r j := by
  unfold out0_13
  rw [View.canon_unit_zero zeros]
  exact pay8_apply x0 x1 x2 x3 x4 x5 x6 x7 x8 x9 x10 x11 r j

end Cert.Merge
end
-- ==== Proof.MergeScores.lean ====
module

public import proofs.«01_k».proof.Proof.MergeBlock

/-! The block of products with the sub-keys that one block of the merge writes: 64 pieces, one for each half-head
    and each group of 128 rows. -/

@[expose] public section

set_option maxRecDepth 16384

noncomputable section

namespace Cert.Merge

open Idealize.ShloMosaic Cert.Layer Cert.Kernel3Ideal Cert.Kernel3Ideal.Gen

variable (x0 : Vec Ideal S512x1024 .f32) (x1 x2 x3 : Vec Ideal S512x512 .bf16) (x4 : Vec Ideal S512x2048 .bf16)
  (x5 : Vec Ideal S1x512 .f32) (x6 : Vec Ideal S512x2048 .bf16) (x7 : Vec Ideal S512x1024 .bf16)
  (x8 : Vec Ideal S1024x1024 .bf16) (x9 : Vec Ideal S1x1024 .f32) (x10 : Vec Ideal S1024x2048 .bf16)
  (x11 : Vec Ideal S16x128x128 .bf16) (n l : Fin 128)

/-- The block's product of sub-key `n` of half-head `hz` with row `r`. -/
abbrev scoreB (r : Fin 512) (hz : Fin 16) (n : Fin 128) : EReal :=
  score x11 (queryB x0 x1 x2 x3 x4 x5 x6 x7 x8 x9 x10 r) hz n

/-- What a block of products holds at an index, where `f` gives a row's product with a half-head's sub-key: the rows
    lie in planes of 128. -/
abbrev laid {rows planes : ℕ} (hp : rows = 128 * planes) (f : Fin rows → Fin 16 → Fin 128 → EReal)
    (y : (⟨3, ![planes, 2048, 128]⟩ : Shape).Idx) : EReal :=
  f ⟨128 * (y 0).val + (y 2).val, by
      have h0 : (y 0).val < planes := (y 0).isLt
      have h2 : (y 2).val < 128 := (y 2).isLt
      omega⟩
    ⟨(y 1).val / 128, by
      have h1 : (y 1).val < 2048 := (y 1).isLt
      omega⟩
    ⟨(y 1).val % 128, by omega⟩

/-- What the block of products holds at an index. -/
abbrev scoreAt (y : S4x2048x128.Idx) : EReal := laid rfl (scoreB x0 x1 x2 x3 x4 x5 x6 x7 x8 x9 x10 x11) y

theorem split1 (y : S1x128x128.Idx) : y = ix3 (0 : Fin 1) (y 1 : Fin 128) (y 2 : Fin 128) := by
  funext a
  match a with
  | ⟨0, _⟩ => exact Fin.ext (show (y 0).val = 0 by have : (y 0).val < 1 := (y 0).isLt; omega)
  | ⟨1, _⟩ => rfl
  | ⟨2, _⟩ => rfl

theorem fit {rows planes : ℕ} (hp : rows = 128 * planes) (f : Fin rows → Fin 16 → Fin 128 → EReal)
    (y : S1x128x128.Idx) (lt : ℕ) (hz : Fin 16) (hl : lt < planes) (z : (⟨3, ![planes, 2048, 128]⟩ : Shape).Idx)
    (h0 : (z 0).val = lt + 1 * (y 0).val) (h1 : (z 1).val = 128 * hz.val + 1 * (y 1).val)
    (h2 : (z 2).val = 0 + 1 * (y 2).val) :
    f ⟨128 * lt + (y 2).val, by
      have b2 : (y 2).val < 128 := (y 2).isLt
      omega⟩ hz (y 1) = laid hp f z := by
  have b0 : (y 0).val < 1 := (y 0).isLt
  have b1 : (y 1).val < 128 := (y 1).isLt
  have b2 : (y 2).val < 128 := (y 2).isLt
  have hr : (⟨128 * lt + (y 2).val, by omega⟩ : Fin rows) = ⟨128 * (z 0).val + (z 2).val, by omega⟩ :=
    Fin.ext (by show 128 * lt + (y 2).val = 128 * (z 0).val + (z 2).val; omega)
  have hh : hz = ⟨(z 1).val / 128, by omega⟩ := Fin.ext (by show hz.val = (z 1).val / 128; omega)
  have hn : (y 1 : Fin 128) = ⟨(z 1).val % 128, by omega⟩ := Fin.ext (by show (y 1).val = (z 1).val % 128; omega)
  exact (congrFun (congrFun (congrArg f hr) _) _).trans ((congrFun (congrArg (f _) hh) _).trans (congrArg (f _ _) hn))

/-- A slab of sub-keys times the 128 columns of the queries that start at `o`. -/
abbrev dot (S : Vec Ideal S1x128x128 .bf16) (Q : FVec Ideal S512x2048 .bf16) (o : ℕ)
    (hq : S512x2048.Slices ![0, o] S512x128) : FVec Ideal S128x512 .f32 :=
  matmul dot_S128x128_S512x128_S128x512_1_1_0_0_n_n none
    (shapeCast S128x128 S shapeCasts_S1x128x128_S128x128 : FVec Ideal S128x128 .bf16)
    (extractStridedSlice S512x128 ![0, o] Q hq : FVec Ideal S512x128 .bf16)
    (constant S128x512 .f32 0x00000000#32)

theorem dot_apply (S : Vec Ideal S1x128x128 .bf16) (Q : FVec Ideal S512x2048 .bf16) {o : ℕ} (ho : o + 128 ≤ 2048) (hq)
    (r : Fin 512) : dot S Q o hq (ix2 n r)
      = ∑ d : Fin 128, S (ix3 0 n d) * Q (ix2 r (⟨o + d.val, by omega⟩ : Fin 2048)) := by
  pointwise

/-- The piece that half-head `hz` writes for row group `lt`: its dot product's columns from `os` on, put at
    row `ow` of the block's plane `lt`. -/
theorem piece {hz lt oq os ow : ℕ} (hh : hz < 16) (hl : lt < 4) (hoq : oq = 128 * hz) (hos : os = 128 * lt)
    (how : ow = 128 * hz) (hi : ∀ a, (![hz, 0, 0] : Fin 3 → ℕ) a + S1x128x128.size a ≤ S16x128x128.size a)
    (hq : S512x2048.Slices ![0, oq] S512x128) (hs : S128x512.Slices ![0, os] S128x128)
    (hr : ∀ a, (![lt, ow, 0] : Fin 3 → ℕ) a + S1x128x128.size a ≤ S4x2048x128.size a) (y : S1x128x128.Idx) :
    (shapeCast S1x128x128 (extractStridedSlice S128x128 ![0, os]
        (dot (View.ld x11 (Rect.unit (s := S16x128x128) ![hz, 0, 0] S1x128x128.size hi))
          (k0_pay96 x0 x1 x2 x3 x4 x5 x6 x7 x8 x9 x10 x11) oq hq) hs : FVec Ideal S128x128 .f32)
      shapeCasts_S128x128_S1x128x128 : FVec Ideal S1x128x128 .f32) y
      = scoreAt x0 x1 x2 x3 x4 x5 x6 x7 x8 x9 x10 x11
          ((Rect.unit (s := S4x2048x128) ![lt, ow, 0] S1x128x128.size hr).idx y) := by
  subst hoq hos how
  refine Eq.trans ?_ (fit rfl (scoreB x0 x1 x2 x3 x4 x5 x6 x7 x8 x9 x10 x11) y lt ⟨hz, hh⟩ hl _ rfl rfl rfl)
  rw [split1 y]
  generalize hD : dot _ _ _ hq = D
  pointwise
  subst hD
  refine (dot_apply _ _ _ (by omega) _ _).trans (Finset.sum_congr rfl fun d _ => ?_)
  refine congrArg₂ (· * ·) (congrArg x11 ?_) (pay96_apply x0 x1 x2 x3 x4 x5 x6 x7 x8 x9 x10 x11 _ _)
  funext a
  match a with
  | ⟨0, _⟩ => rfl
  | ⟨1, _⟩ => exact Fin.ext (show 0 + 1 * (y 1).val = (y 1).val by omega)
  | ⟨2, _⟩ => exact Fin.ext (show 0 + 1 * d.val = d.val by omega)

set_option maxHeartbeats 1000000 in
theorem out14_apply (y : S4x2048x128.Idx) :
    out0_14 x0 x1 x2 x3 x4 x5 x6 x7 x8 x9 x10 x11 y = scoreAt x0 x1 x2 x3 x4 x5 x6 x7 x8 x9 x10 x11 y := by
  unfold out0_14
  refine View.canon_apply_of_pieces (Val := Elt Ideal) (e := .f32) (scoreAt x0 x1 x2 x3 x4 x5 x6 x7 x8 x9 x10 x11) _ ?_ y
    (cover0_14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  repeat
    refine List.forall_mem_cons.2 ⟨fun y => ?_, ?_⟩
    · exact piece x0 x1 x2 x3 x4 x5 x6 x7 x8 x9 x10 x11 (by decide) (by decide) (by rfl) (by rfl) (by rfl)
        (by decide) (by decide) (by decide) (by decide) y
  intro pc hpc
  nomatch hpc

end Cert.Merge
end
-- ==== Proof.MergeRow.lean ====
module

public import proofs.«01_k».proof.Proof.MergeBlock

/-! The merge of one token, as a function of the twelve argument arrays, for sequences of any length. -/

@[expose] public section

noncomputable section

namespace Cert.Merge

open Idealize.ShloMosaic Cert.Layer Cert.Kernel3Ideal

variable {len : ℕ} (X : (⟨3, ![8, len, 1024]⟩ : Shape).Idx → EReal) (Y U A : (⟨3, ![8, len, 512]⟩ : Shape).Idx → EReal)
  (B : (⟨3, ![8, len, 2048]⟩ : Shape).Idx → EReal)
  (D : S512.Idx → EReal) (GW : S512x2048.Idx → EReal) (WO : S512x1024.Idx → EReal) (WP : S1024x1024.Idx → EReal)
  (G : S1024.Idx → EReal) (WQ : S1024x2048.Idx → EReal) (SK : S8x2x128x128.Idx → EReal) (b : Fin 8) (p : Fin len)

/-- The gated sum of token `p` of sequence `b`. -/
def mixedOf : Fin 1024 → EReal :=
  mixed (fun k => Y (ix3 b p k)) (fun k => U (ix3 b p k)) (fun k => D (ix1 k)) (fun k => A (ix3 b p k))
    (fun k => B (ix3 b p k)) GW WO

/-- The merged row of the token. -/
def mergedOf : Fin 1024 → EReal := merged (fun k => X (ix3 b p k)) (mixedOf Y U A B D GW WO b p) WP

/-- Its normalised row. -/
def normedOf : Fin 1024 → EReal := normed (mergedOf X Y U A B D GW WO WP b p) (fun k => G (ix1 k))

/-- Its queries. -/
def queryOf : Fin 2048 → EReal := query (normedOf X Y U A B D GW WO WP G b p) WQ

/-- The product of a query with sub-key `n` of half `z` of head `h`. -/
def scoreOf (h : Fin 8) (z : Fin 2) (n : Fin 128) : EReal :=
  ∑ d : Fin 128, SK (ix4 h z n d) * queryOf X Y U A B D GW WO WP G WQ b p ⟨128 * (2 * h.val + z.val) + d.val, by omega⟩

theorem query_congr {b b' : Fin 8} {p p' : Fin len} {j j' : Fin 2048} (hb : b.val = b'.val) (hp : p.val = p'.val)
    (hj : j.val = j'.val) : queryOf X Y U A B D GW WO WP G WQ b p j = queryOf X Y U A B D GW WO WP G WQ b' p' j' := by
  rw [Fin.ext hb, Fin.ext hp, Fin.ext hj]

theorem scoreOf_congr {b b' : Fin 8} {p p' : Fin len} {h h' : Fin 8} {z z' : Fin 2} {n n' : Fin 128}
    (hb : b.val = b'.val) (hp : p.val = p'.val) (hh : h.val = h'.val) (hz : z.val = z'.val) (hn : n.val = n'.val) :
    scoreOf X Y U A B D GW WO WP G WQ SK b p h z n = scoreOf X Y U A B D GW WO WP G WQ SK b' p' h' z' n' := by
  rw [Fin.ext hb, Fin.ext hp, Fin.ext hh, Fin.ext hz, Fin.ext hn]

/-- The product with sub-key `n` of half-head `hz`, the sub-keys of the heads' halves being stacked. -/
theorem score_stacked (S : S16x128x128.Idx → EReal)
    (hS : ∀ (hz : Fin 16) (n d : Fin 128),
      S (ix3 hz n d) = SK (ix4 (⟨hz.val / 2, by omega⟩ : Fin 8) (⟨hz.val % 2, by omega⟩ : Fin 2) n d))
    (hz : Fin 16) (n : Fin 128) : score S (queryOf X Y U A B D GW WO WP G WQ b p) hz n
      = scoreOf X Y U A B D GW WO WP G WQ SK b p ⟨hz.val / 2, by omega⟩ ⟨hz.val % 2, by omega⟩ n := by
  unfold score scoreOf
  refine Finset.sum_congr rfl fun d _ => ?_
  rw [hS]
  refine congrArg (_ * ·) (congrArg _ (Fin.ext ?_))
  show 128 * hz.val + d.val = 128 * (2 * (hz.val / 2) + hz.val % 2) + d.val
  omega

end Cert.Merge
end
-- ==== Proof.MergeArray.lean ====
module

public import proofs.«01_k».proof.Proof.MergeScores
public import proofs.«01_k».proof.Proof.MergeRow
public import proofs.«01_k».proof.Proof.Gen.Kernel3Ideal.Value
public import Idealize.ShloMosaic.Lib.StableHlo.ReadAt
public import Idealize.ShloMosaic.Lib.Pipeline.ValueKit.Point

/-! What the merge's three arrays hold after the run. -/

@[expose] public section

set_option maxRecDepth 16384

noncomputable section

namespace Cert.Merge

open Idealize.ShloMosaic Cert.Layer Cert.Kernel3Ideal Cert.Kernel3Ideal.Gen

variable (m : (ℓ : Loc nD τ sig) → Buf (Elt Ideal) ℓ) (c : Dev nD)

/-- The twelve arguments, as arrays. -/
abbrev argX : S8x4096x1024.Idx → EReal := m ((c.tc : Thread nD τ).loc main_arg0)
abbrev argY : S8x4096x512.Idx → EReal := m ((c.tc : Thread nD τ).loc main_arg1)
abbrev argU : S8x4096x512.Idx → EReal := m ((c.tc : Thread nD τ).loc main_arg2)
abbrev argA : S8x4096x512.Idx → EReal := m ((c.tc : Thread nD τ).loc main_arg3)
abbrev argB : S8x4096x2048.Idx → EReal := m ((c.tc : Thread nD τ).loc main_arg4)
abbrev argD : S512.Idx → EReal := m ((c.tc : Thread nD τ).loc main_arg5)
abbrev argGW : S512x2048.Idx → EReal := m ((c.tc : Thread nD τ).loc main_arg6)
abbrev argWO : S512x1024.Idx → EReal := m ((c.tc : Thread nD τ).loc main_arg7)
abbrev argWP : S1024x1024.Idx → EReal := m ((c.tc : Thread nD τ).loc main_arg8)
abbrev argG : S1024.Idx → EReal := m ((c.tc : Thread nD τ).loc main_arg9)
abbrev argWQ : S1024x2048.Idx → EReal := m ((c.tc : Thread nD τ).loc main_arg10)
abbrev argSK : S8x2x128x128.Idx → EReal := m ((c.tc : Thread nD τ).loc main_arg11)

/-- The sequence and the place in it of row `i` of the flattened arrays. -/
abbrev seqOf (i : Fin 32768) : Fin 8 := ⟨i.val / 4096, by omega⟩
abbrev posOf (i : Fin 32768) : Fin 4096 := ⟨i.val % 4096, by omega⟩

theorem v0_apply (i : Fin 32768) (k : Fin 1024) :
    V m c main_v0 (ix2 i k) = argX m c (ix3 (seqOf i) (posOf i) k) := by
  unfold V
  after_reads_at

theorem v2_apply (i : Fin 32768) (k : Fin 512) :
    V m c main_v2 (ix2 i k) = argY m c (ix3 (seqOf i) (posOf i) k) := by
  unfold V
  after_reads_at

theorem v4_apply (i : Fin 32768) (k : Fin 512) :
    V m c main_v4 (ix2 i k) = argU m c (ix3 (seqOf i) (posOf i) k) := by
  unfold V
  after_reads_at

theorem v6_apply (i : Fin 32768) (k : Fin 512) :
    V m c main_v6 (ix2 i k) = argA m c (ix3 (seqOf i) (posOf i) k) := by
  unfold V
  after_reads_at

theorem v8_apply (i : Fin 32768) (k : Fin 2048) :
    V m c main_v8 (ix2 i k) = argB m c (ix3 (seqOf i) (posOf i) k) := by
  unfold V
  after_reads_at

theorem v9_apply (k : Fin 512) : V m c main_v9 (ix2 0 k) = argD m c (ix1 k) := by
  unfold V
  after_reads_at

theorem v13_apply (k : Fin 1024) : V m c main_v13 (ix2 0 k) = argG m c (ix1 k) := by
  unfold V
  after_reads_at

theorem v10_apply (i : Fin 512) (k : Fin 2048) : V m c main_v10 (ix2 i k) = argGW m c (ix2 i k) := by
  unfold V
  after_reads_at

theorem v11_apply (i : Fin 512) (k : Fin 1024) : V m c main_v11 (ix2 i k) = argWO m c (ix2 i k) := by
  unfold V
  after_reads_at

theorem v12_apply (i : Fin 1024) (k : Fin 1024) : V m c main_v12 (ix2 i k) = argWP m c (ix2 i k) := by
  unfold V
  after_reads_at

theorem v14_apply (i : Fin 1024) (k : Fin 2048) : V m c main_v14 (ix2 i k) = argWQ m c (ix2 i k) := by
  unfold V
  after_reads_at

theorem v16_apply (hz : Fin 16) (n d : Fin 128) :
    V m c main_v16 (ix3 hz n d)
      = argSK m c (ix4 (⟨hz.val / 2, by omega⟩ : Fin 8) (⟨hz.val % 2, by omega⟩ : Fin 2) n d) := by
  unfold V
  after_reads_at

theorem index_at : ∀ t : Fin grid0.N,
    win0_0.index t = ![t.val, 0] ∧ win0_1.index t = ![t.val, 0] ∧ win0_2.index t = ![t.val, 0] ∧
    win0_3.index t = ![t.val, 0] ∧ win0_4.index t = ![t.val, 0] ∧ win0_5.index t = ![0, 0] ∧
    win0_6.index t = ![0, 0] ∧ win0_7.index t = ![0, 0] ∧ win0_8.index t = ![0, 0] ∧
    win0_9.index t = ![0, 0] ∧ win0_10.index t = ![0, 0] ∧ win0_11.index t = ![0, 0, 0] ∧
    win0_12.index t = ![t.val, 0] ∧ win0_13.index t = ![t.val, 0] ∧ win0_14.index t = ![t.val, 0, 0] := by
  decide +kernel

abbrev rowOf (t : Fin grid0.N) (r : Fin 512) : Fin 32768 :=
  ⟨512 * t.val + r.val, by have : t.val < 64 := t.isLt
                           omega⟩

theorem block0 (t : Fin grid0.N) (r : Fin 512) :
    (fun k => iblk m c 0 t (ix2 r k)) = fun k : Fin 1024 => argX m c (ix3 (seqOf (rowOf t r)) (posOf (rowOf t r)) k) := by
  funext k
  refine Eq.trans ?_ (v0_apply m c (rowOf t r) k)
  have e := (index_at t).1
  blk_ext [iblk, e]

theorem block1 (t : Fin grid0.N) (r : Fin 512) :
    (fun k => iblk m c 1 t (ix2 r k)) = fun k : Fin 512 => argY m c (ix3 (seqOf (rowOf t r)) (posOf (rowOf t r)) k) := by
  funext k
  refine Eq.trans ?_ (v2_apply m c (rowOf t r) k)
  have e := (index_at t).2.1
  blk_ext [iblk, e]

theorem block2 (t : Fin grid0.N) (r : Fin 512) :
    (fun k => iblk m c 2 t (ix2 r k)) = fun k : Fin 512 => argU m c (ix3 (seqOf (rowOf t r)) (posOf (rowOf t r)) k) := by
  funext k
  refine Eq.trans ?_ (v4_apply m c (rowOf t r) k)
  have e := (index_at t).2.2.1
  blk_ext [iblk, e]

theorem block3 (t : Fin grid0.N) (r : Fin 512) :
    (fun k => iblk m c 3 t (ix2 r k)) = fun k : Fin 512 => argA m c (ix3 (seqOf (rowOf t r)) (posOf (rowOf t r)) k) := by
  funext k
  refine Eq.trans ?_ (v6_apply m c (rowOf t r) k)
  have e := (index_at t).2.2.2.1
  blk_ext [iblk, e]

theorem block4 (t : Fin grid0.N) (r : Fin 512) :
    (fun k => iblk m c 4 t (ix2 r k)) = fun k : Fin 2048 => argB m c (ix3 (seqOf (rowOf t r)) (posOf (rowOf t r)) k) := by
  funext k
  refine Eq.trans ?_ (v8_apply m c (rowOf t r) k)
  have e := (index_at t).2.2.2.2.1
  blk_ext [iblk, e]

theorem block5 (t : Fin grid0.N) : (fun k => iblk m c 5 t (ix2 0 k)) = fun k : Fin 512 => argD m c (ix1 k) := by
  funext k
  refine Eq.trans ?_ (v9_apply m c k)
  have e := (index_at t).2.2.2.2.2.1
  blk_ext [iblk, e]

theorem block9 (t : Fin grid0.N) : (fun k => iblk m c 9 t (ix2 0 k)) = fun k : Fin 1024 => argG m c (ix1 k) := by
  funext k
  refine Eq.trans ?_ (v13_apply m c k)
  have e := (index_at t).2.2.2.2.2.2.2.2.2.1
  blk_ext [iblk, e]

theorem block6 (t : Fin grid0.N) (i : Fin 512) (k : Fin 2048) : iblk m c 6 t (ix2 i k) = argGW m c (ix2 i k) := by
  refine Eq.trans ?_ (v10_apply m c i k)
  have e := (index_at t).2.2.2.2.2.2.1
  blk_ext [iblk, e]

theorem whole6 (t : Fin grid0.N) : iblk m c 6 t = argGW m c := ext2 (block6 m c t)

theorem block7 (t : Fin grid0.N) (i : Fin 512) (k : Fin 1024) : iblk m c 7 t (ix2 i k) = argWO m c (ix2 i k) := by
  refine Eq.trans ?_ (v11_apply m c i k)
  have e := (index_at t).2.2.2.2.2.2.2.1
  blk_ext [iblk, e]

theorem whole7 (t : Fin grid0.N) : iblk m c 7 t = argWO m c := ext2 (block7 m c t)

theorem block8 (t : Fin grid0.N) (i : Fin 1024) (k : Fin 1024) : iblk m c 8 t (ix2 i k) = argWP m c (ix2 i k) := by
  refine Eq.trans ?_ (v12_apply m c i k)
  have e := (index_at t).2.2.2.2.2.2.2.2.1
  blk_ext [iblk, e]

theorem whole8 (t : Fin grid0.N) : iblk m c 8 t = argWP m c := ext2 (block8 m c t)

theorem block10 (t : Fin grid0.N) (i : Fin 1024) (k : Fin 2048) : iblk m c 10 t (ix2 i k) = argWQ m c (ix2 i k) := by
  refine Eq.trans ?_ (v14_apply m c i k)
  have e := (index_at t).2.2.2.2.2.2.2.2.2.2.1
  blk_ext [iblk, e]

theorem whole10 (t : Fin grid0.N) : iblk m c 10 t = argWQ m c := ext2 (block10 m c t)

theorem block11 (t : Fin grid0.N) (hz : Fin 16) (n d : Fin 128) : iblk m c 11 t (ix3 hz n d)
    = argSK m c (ix4 (⟨hz.val / 2, by omega⟩ : Fin 8) (⟨hz.val % 2, by omega⟩ : Fin 2) n d) := by
  refine Eq.trans ?_ (v16_apply m c hz n d)
  have e := (index_at t).2.2.2.2.2.2.2.2.2.2.2.1
  blk_ext [iblk, e]

/-- The merged row, the normalised row and the queries of row `i` of the flattened arrays. -/
abbrev mergedAt (i : Fin 32768) : Fin 1024 → EReal :=
  mergedOf (argX m c) (argY m c) (argU m c) (argA m c) (argB m c) (argD m c) (argGW m c) (argWO m c) (argWP m c) (seqOf i) (posOf i)
abbrev normedAt (i : Fin 32768) : Fin 1024 → EReal :=
  normedOf (argX m c) (argY m c) (argU m c) (argA m c) (argB m c) (argD m c) (argGW m c) (argWO m c) (argWP m c)
    (argG m c) (seqOf i) (posOf i)
abbrev queryAt (i : Fin 32768) : Fin 2048 → EReal :=
  queryOf (argX m c) (argY m c) (argU m c) (argA m c) (argB m c) (argD m c) (argGW m c) (argWO m c) (argWP m c)
    (argG m c) (argWQ m c) (seqOf i) (posOf i)
abbrev scoreRow (i : Fin 32768) (h : Fin 8) (z : Fin 2) (n : Fin 128) : EReal :=
  scoreOf (argX m c) (argY m c) (argU m c) (argA m c) (argB m c) (argD m c) (argGW m c) (argWO m c) (argWP m c)
    (argG m c) (argWQ m c) (argSK m c) (seqOf i) (posOf i) h z n

theorem merged_eq (t : Fin grid0.N) (r : Fin 512) :
    mergedB (iblk m c 0 t) (iblk m c 1 t) (iblk m c 2 t) (iblk m c 3 t) (iblk m c 4 t) (iblk m c 5 t) (iblk m c 6 t) (iblk m c 7 t) (iblk m c 8 t) r
      = mergedAt m c (rowOf t r) := by
  unfold mergedB mixedB mergedAt mergedOf mixedOf
  rw [block0, block1, block2, block3, block4, block5, whole6, whole7, whole8]

theorem normed_eq (t : Fin grid0.N) (r : Fin 512) :
    normedB (iblk m c 0 t) (iblk m c 1 t) (iblk m c 2 t) (iblk m c 3 t) (iblk m c 4 t) (iblk m c 5 t) (iblk m c 6 t) (iblk m c 7 t) (iblk m c 8 t) (iblk m c 9 t) r
      = normedAt m c (rowOf t r) := by
  unfold normedB normedAt normedOf
  rw [merged_eq, block9]

theorem query_eq (t : Fin grid0.N) (r : Fin 512) :
    queryB (iblk m c 0 t) (iblk m c 1 t) (iblk m c 2 t) (iblk m c 3 t) (iblk m c 4 t) (iblk m c 5 t) (iblk m c 6 t) (iblk m c 7 t) (iblk m c 8 t) (iblk m c 9 t) (iblk m c 10 t) r
      = queryAt m c (rowOf t r) := by
  unfold queryB queryAt queryOf
  rw [normed_eq, whole10]

/-- The rows after the merge. -/
theorem array12_eq : (dats m 0 c).arrAt 12 cfg0.N = fun i : S32768x1024.Idx => mergedAt m c (i 0) (i 1) := by
  refine (dats m 0 c).arrAt_eq_of_covers 12 _ (by decide +kernel) fun t hf y => ?_
  have e := (index_at t).2.2.2.2.2.2.2.2.2.2.2.2.1
  have y0 : (y 0).val < 512 := (y 0).isLt
  have hy : y = ix2 (y 0 : Fin 512) (y 1 : Fin 1024) := by
    funext a
    match a with
    | ⟨0, _⟩ => rfl
    | ⟨1, _⟩ => rfl
  have h0 : (win0_12.blk t).view.emb y 0 = rowOf t (y 0) := Fin.ext (by
    blk_simp [e]
    show t.val * 512 + (y 0).val = 512 * t.val + (y 0).val
    omega)
  have h1 : (win0_12.blk t).view.emb y 1 = y 1 := Fin.ext (by blk_simp [e])
  blk_simp
  rw [after0_12]
  rw [h0, h1]
  exact (congrArg _ hy).trans ((out12_apply _ _ _ _ _ _ _ _ _ _ _ _ (y 0) (y 1)).trans
    (congrFun (merged_eq m c t (y 0)) (y 1)))

/-- The normalised rows. -/
theorem array13_eq : (dats m 0 c).arrAt 13 cfg0.N = fun i : S32768x1024.Idx => normedAt m c (i 0) (i 1) := by
  refine (dats m 0 c).arrAt_eq_of_covers 13 _ (by decide +kernel) fun t hf y => ?_
  have e := (index_at t).2.2.2.2.2.2.2.2.2.2.2.2.2.1
  have y0 : (y 0).val < 512 := (y 0).isLt
  have hy : y = ix2 (y 0 : Fin 512) (y 1 : Fin 1024) := by
    funext a
    match a with
    | ⟨0, _⟩ => rfl
    | ⟨1, _⟩ => rfl
  have h0 : (win0_13.blk t).view.emb y 0 = rowOf t (y 0) := Fin.ext (by
    blk_simp [e]
    show t.val * 512 + (y 0).val = 512 * t.val + (y 0).val
    omega)
  have h1 : (win0_13.blk t).view.emb y 1 = y 1 := Fin.ext (by blk_simp [e])
  blk_simp
  rw [after0_13]
  rw [h0, h1]
  exact (congrArg _ hy).trans ((out13_apply _ _ _ _ _ _ _ _ _ _ _ _ (y 0) (y 1)).trans
    (congrFun (normed_eq m c t (y 0)) (y 1)))

/-- A block's product of a sub-key with a row's queries is the product of the arguments' rows. -/
theorem score_eq (t : Fin grid0.N) (r : Fin 512) (hz : Fin 16) (n : Fin 128) :
    score (iblk m c 11 t) (queryAt m c (rowOf t r)) hz n
      = scoreRow m c (rowOf t r) (⟨hz.val / 2, by omega⟩ : Fin 8) (⟨hz.val % 2, by omega⟩ : Fin 2) n :=
  score_stacked _ _ _ _ _ _ _ _ _ _ _ _ _ _ _ (block11 m c t) hz n

/-- The token and the half-head of an index of the products. -/
abbrev stRow (i : S256x2048x128.Idx) : Fin 32768 := ⟨128 * (i 0).val + (i 2).val, by
  have h0 : (i 0).val < 256 := (i 0).isLt
  have h2 : (i 2).val < 128 := (i 2).isLt
  omega⟩
abbrev stHead (i : S256x2048x128.Idx) : Fin 8 := ⟨(i 1).val / 128 / 2, by
  have h1 : (i 1).val < 2048 := (i 1).isLt
  omega⟩
abbrev stHalf (i : S256x2048x128.Idx) : Fin 2 := ⟨(i 1).val / 128 % 2, by omega⟩
abbrev stKey (i : S256x2048x128.Idx) : Fin 128 := ⟨(i 1).val % 128, by omega⟩

theorem scoreRow_congr {i i' : Fin 32768} {h h' : Fin 8} {z z' : Fin 2} {n n' : Fin 128} (hi : i = i') (hh : h = h')
    (hz : z = z') (hn : n = n') : scoreRow m c i h z n = scoreRow m c i' h' z' n' := by
  rw [hi, hh, hz, hn]

/-- The products with the sub-keys. -/
theorem array14_eq : (dats m 0 c).arrAt 14 cfg0.N
    = fun i : S256x2048x128.Idx => scoreRow m c (stRow i) (stHead i) (stHalf i) (stKey i) := by
  refine (dats m 0 c).arrAt_eq_of_covers 14 _ (by decide +kernel) fun t hf y => ?_
  have e := (index_at t).2.2.2.2.2.2.2.2.2.2.2.2.2.2
  have y0 : (y 0).val < 4 := (y 0).isLt
  have y1 : (y 1).val < 2048 := (y 1).isLt
  have y2 : (y 2).val < 128 := (y 2).isLt
  have v0 : ((win0_14.blk t).view.emb y 0).val = t.val * 4 + (y 0).val := by blk_simp [e]
  have v1 : ((win0_14.blk t).view.emb y 1).val = (y 1).val := by blk_simp [e]
  have v2 : ((win0_14.blk t).view.emb y 2).val = (y 2).val := by blk_simp [e]
  have ht : t.val < 64 := t.isLt
  have hr : rowOf t ⟨128 * (y 0).val + (y 2).val, by omega⟩ = stRow ((win0_14.blk t).view.emb y) := Fin.ext (by
    show 512 * t.val + (128 * (y 0).val + (y 2).val)
      = 128 * ((win0_14.blk t).view.emb y 0).val + ((win0_14.blk t).view.emb y 2).val
    rw [v0, v2]
    omega)
  blk_simp
  rw [after0_14, out14_apply]
  unfold scoreAt laid scoreB
  rw [query_eq]
  refine (score_eq m c t _ _ _).trans (scoreRow_congr m c hr ?_ ?_ ?_)
  · exact Fin.ext (by show (y 1).val / 128 / 2 = ((win0_14.blk t).view.emb y 1).val / 128 / 2; rw [v1])
  · exact Fin.ext (by show (y 1).val / 128 % 2 = ((win0_14.blk t).view.emb y 1).val / 128 % 2; rw [v1])
  · exact Fin.ext (by show (y 1).val % 128 = ((win0_14.blk t).view.emb y 1).val % 128; rw [v1])

end Cert.Merge
end
-- ==== Proof.MergeRef.lean ====
module

public import proofs.«01_k».proof.Proof.MergeRow
public import proofs.«01_k».proof.Proof.Gen.Reference3Ideal.Read
public import Idealize.ShloMosaic.Lib.Pointwise
public import Idealize.ShloMosaic.Lib.IdealHost

/-! What the reference's merge computes at an index of each of its results. -/

@[expose] public section

set_option maxRecDepth 16384

noncomputable section

namespace Cert.Merge

open Idealize.ShloMosaic Cert.Layer Cert.Reference3Ideal Cert.Reference3Ideal.Read

variable (X : S8x4096x1024.Idx → EReal) (Y U A : S8x4096x512.Idx → EReal) (B : S8x4096x2048.Idx → EReal)
  (D : S512.Idx → EReal) (GW : S512x2048.Idx → EReal) (WO : S512x1024.Idx → EReal) (WP : S1024x1024.Idx → EReal)
  (G : S1024.Idx → EReal) (WQ : S1024x2048.Idx → EReal) (SK : S8x2x128x128.Idx → EReal) (b : Fin 8) (p : Fin 4096)

/-- The reference writes the logistic function out: `1 / (1 + exp (-x))`. -/
theorem one_div (x : EReal) : Ideal.div (Ideal.ofBits .f32 0x3F800000#32)
    (Ideal.ofBits .f32 0x3F800000#32 + Ideal.exp (-x)) = Ideal.logistic x := by
  rw [Ideal.ofBits_one_f32]
  rfl

theorem ref_glu (j : Fin 2048) : val_main_v6 (F := Ideal) Y U D GW (ix3 b p j)
    = glu (fun k => Y (ix3 b p k)) (fun k => U (ix3 b p k)) (fun k => D (ix1 k)) GW j := by
  pointwise [val_main_v6, val_main_v5, val_main_v4, val_main_v3, val_main_v2]
  rfl

/-- The output of the gated linear unit. -/
theorem ref_branch (j : Fin 1024) : val_main_v15 (F := Ideal) Y U D GW (ix3 b p j)
    = glu (fun k => Y (ix3 b p k)) (fun k => U (ix3 b p k)) (fun k => D (ix1 k)) GW (lo j)
      * Ideal.logistic (glu (fun k => Y (ix3 b p k)) (fun k => U (ix3 b p k)) (fun k => D (ix1 k)) GW (hi j)) := by
  rw [← ref_glu, ← ref_glu, ← one_div]
  pointwise [val_main_v15, val_main_v14, val_main_v13, val_main_cst_0, val_main_v12, val_main_v11, val_main_cst,
    val_main_v10, val_main_v9, val_main_v8, val_main_v7]

theorem ref_att (j : Fin 1024) : val_main_v16 (F := Ideal) A WO (ix3 b p j)
    = ∑ k : Fin 512, A (ix3 b p k) * WO (ix2 k j) := by
  pointwise [val_main_v16]

theorem ref_gate_a (j : Fin 1024) :
    val_main_v22 (F := Ideal) B (ix3 b p j) = Ideal.logistic (B (ix3 b p (lo j))) := by
  rw [← one_div]
  pointwise [val_main_v22, val_main_v21, val_main_cst_2, val_main_v20, val_main_v19, val_main_cst_1, val_main_v18,
    val_main_v17, val_main_v0]

theorem ref_gate_b (j : Fin 1024) :
    val_main_v29 (F := Ideal) B (ix3 b p j) = Ideal.logistic (B (ix3 b p (hi j))) := by
  rw [← one_div]
  pointwise [val_main_v29, val_main_v28, val_main_cst_4, val_main_v27, val_main_v26, val_main_cst_3, val_main_v25,
    val_main_v24, val_main_v1]

theorem ref_mixed (j : Fin 1024) :
    val_main_v31 (F := Ideal) Y U A B D GW WO (ix3 b p j) = mixedOf Y U A B D GW WO b p j := by
  pointwise [val_main_v31, val_main_v30, val_main_v23]
  rw [ref_gate_a, ref_gate_b, ref_branch, ref_att]
  rfl

theorem ref_merged (j : Fin 1024) :
    val_main_v33 (F := Ideal) X Y U A B D GW WO WP (ix3 b p j) = mergedOf X Y U A B D GW WO WP b p j := by
  pointwise [val_main_v33, val_main_v32]
  simp only [ref_mixed]
  rfl

theorem ref_normedM (j : Fin 1024) :
    val_main_v46 (F := Ideal) X Y U A B D GW WO WP G (ix3 b p j) = normedOf X Y U A B D GW WO WP G b p j := by
  pointwise [val_main_v46, val_main_v45, val_main_v44, val_main_v43, val_main_v42, val_main_v41, val_main_v40,
    val_main_v39, val_main_v38, val_main_v37, val_main_v36, val_main_v35, val_main_v34, val_main_cst_5,
    val_main_cst_6, val_main_cst_7]
  simp only [ref_merged]
  rfl

theorem ref_query (j : Fin 2048) :
    val_main_v47 (F := Ideal) X Y U A B D GW WO WP G WQ (ix3 b p j) = queryOf X Y U A B D GW WO WP G WQ b p j := by
  pointwise [val_main_v47]
  simp only [ref_normedM]
  rfl

theorem ref_heads (i : Fin 32768) (h : Fin 8) (z : Fin 2) (d : Fin 128) :
    val_main_v48 (F := Ideal) X Y U A B D GW WO WP G WQ (ix4 i h z d)
      = queryOf X Y U A B D GW WO WP G WQ (⟨i.val / 4096, by omega⟩ : Fin 8) (⟨i.val % 4096, by omega⟩ : Fin 4096)
          ⟨128 * (2 * h.val + z.val) + d.val, by omega⟩ := by
  pointwise [val_main_v48]
  rw [ref_query]
  exact query_congr _ _ _ _ _ _ _ _ _ _ _ (by first | rfl | (simp only []; omega))
    (by first | rfl | (simp only []; omega)) (by first | rfl | (simp only []; omega))

theorem ref_score (i : Fin 32768) (h : Fin 8) (z : Fin 2) (n : Fin 128) :
    val_main_v49 (F := Ideal) X Y U A B D GW WO WP G WQ SK (ix4 h z n i)
      = scoreOf X Y U A B D GW WO WP G WQ SK (⟨i.val / 4096, by omega⟩ : Fin 8) (⟨i.val % 4096, by omega⟩ : Fin 4096) h z n := by
  pointwise [val_main_v49]
  simp only [ref_heads]
  rfl

theorem ref53_apply (i : Fin 32768) (j : Fin 1024) : val_main_v53 (F := Ideal) X Y U A B D GW WO WP (ix2 i j)
    = mergedOf X Y U A B D GW WO WP (⟨i.val / 4096, by omega⟩ : Fin 8) (⟨i.val % 4096, by omega⟩ : Fin 4096) j := by
  pointwise [val_main_v53]
  rw [ref_merged]

theorem ref55_apply (i : Fin 32768) (j : Fin 1024) : val_main_v55 (F := Ideal) X Y U A B D GW WO WP G (ix2 i j)
    = normedOf X Y U A B D GW WO WP G (⟨i.val / 4096, by omega⟩ : Fin 8) (⟨i.val % 4096, by omega⟩ : Fin 4096) j := by
  pointwise [val_main_v55, val_main_v54]
  rw [ref_normedM]

theorem ref52_apply (g : Fin 256) (e : Fin 2048) (l : Fin 128) :
    val_main_v52 (F := Ideal) X Y U A B D GW WO WP G WQ SK (ix3 g e l)
      = scoreOf X Y U A B D GW WO WP G WQ SK (⟨(128 * g.val + l.val) / 4096, by omega⟩ : Fin 8)
          (⟨(128 * g.val + l.val) % 4096, by omega⟩ : Fin 4096) (⟨e.val / 128 / 2, by omega⟩ : Fin 8)
          (⟨e.val / 128 % 2, by omega⟩ : Fin 2) (⟨e.val % 128, by omega⟩ : Fin 128) := by
  pointwise [val_main_v52, val_main_v51, val_main_v50]
  rw [ref_score]
  exact scoreOf_congr X Y U A B D GW WO WP G WQ SK (by first | rfl | (simp only []; omega))
    (by first | rfl | (simp only []; omega)) (by first | rfl | (simp only []; omega))
    (by first | rfl | (simp only []; omega)) (by first | rfl | (simp only []; omega))

end Cert.Merge
end
-- ==== Proof.MergeClaim.lean ====
module

public import proofs.«01_k».proof.Defs
public import proofs.«01_k».proof.Proof.MergeArray
public import proofs.«01_k».proof.Proof.MergeRef
public import proofs.«01_k».proof.Proof.Gen.Kernel3Ideal.Value
public import proofs.«01_k».proof.Proof.Gen.Reference3Ideal.Run
public import Idealize.ShloMosaic.Lib.Claim

/-! The claims about the merge: the reference's frame, and the three results. -/

@[expose] public section

noncomputable section

namespace Cert.Merge

open Idealize.ShloMosaic Idealize.SL.Sem Cert.Layer

theorem frame_reference : quiescent_Reference3Ideal (hReference3Ideal := Reference3Ideal.Gen.facts) := fun m g _ =>
  (θ_run Reference3Ideal.defs _ _).mono (fun r h => ⟨fun c => (h c).2.2.2, sem_eq_zero_of_no_sems (by decide) r.2⟩)
    (Reference3Ideal.Value.run m g)

variable (m : (ℓ : Loc Kernel3Ideal.nD Kernel3Ideal.τ Kernel3Ideal.sig) → Buf (Elt Ideal) ℓ) (c : Dev Kernel3Ideal.nD)

theorem result12 : Reference3Ideal.Read.val_main_v53 (F := Ideal) (argX m c) (argY m c) (argU m c) (argA m c) (argB m c)
    (argD m c) (argGW m c) (argWO m c) (argWP m c) = (Kernel3Ideal.Gen.dats m 0 c).arrAt 12 Kernel3Ideal.cfg0.N := by
  rw [array12_eq]
  funext i
  exact (congrArg _ (split2 i)).trans (ref53_apply _ _ _ _ _ _ _ _ _ (i 0) (i 1))

theorem result13 : Reference3Ideal.Read.val_main_v55 (F := Ideal) (argX m c) (argY m c) (argU m c) (argA m c) (argB m c)
    (argD m c) (argGW m c) (argWO m c) (argWP m c) (argG m c)
    = (Kernel3Ideal.Gen.dats m 0 c).arrAt 13 Kernel3Ideal.cfg0.N := by
  rw [array13_eq]
  funext i
  exact (congrArg _ (split2 i)).trans (ref55_apply _ _ _ _ _ _ _ _ _ _ (i 0) (i 1))

theorem result14 : Reference3Ideal.Read.val_main_v52 (F := Ideal) (argX m c) (argY m c) (argU m c) (argA m c) (argB m c)
    (argD m c) (argGW m c) (argWO m c) (argWP m c) (argG m c) (argWQ m c) (argSK m c)
    = (Kernel3Ideal.Gen.dats m 0 c).arrAt 14 Kernel3Ideal.cfg0.N := by
  rw [array14_eq]
  funext i
  exact (congrArg _ (split3 i)).trans (ref52_apply _ _ _ _ _ _ _ _ _ _ _ _ (i 0) (i 1) (i 2))

theorem value : algebraic_Kernel3Ideal_Reference3Ideal (hKernel3Ideal := Kernel3Ideal.Gen.facts)
    (hReference3Ideal := Reference3Ideal.Gen.facts) := by
  pair_intro
  · run_from (Kernel3Ideal.Value.run_blocks m g)
  · run_from (Reference3Ideal.Value.run m' g')
    · rw [Reference3Ideal.Read.val_main_v53_eq]
      exact result12 m c
    · obtain ⟨h0, h1, h2, h3, h4, h5, h6, h7, h8, h9, _⟩ := hagree c
      rw [Reference3Ideal.Read.val_main_v55_eq, h0, h1, h2, h3, h4, h5, h6, h7, h8, h9]
      exact result13 m c
    · obtain ⟨h0, h1, h2, h3, h4, h5, h6, h7, h8, h9, h10, h11⟩ := hagree c
      rw [Reference3Ideal.Read.val_main_v52_eq, h0, h1, h2, h3, h4, h5, h6, h7, h8, h9, h10, h11]
      exact result14 m c

end Cert.Merge
end
-- ==== Proof.SampleProjBlock.lean ====
module

public import proofs.«01_k».proof.Proof.ProjBlock
public import proofs.«01_k».proof.Proof.Gen.Kernel4Ideal.Frame

/-! The input projection of the sample batch: what its one block of 256 rows computes. -/

@[expose] public section

set_option maxRecDepth 16384

noncomputable section

namespace Cert.SampleProj

open Idealize.ShloMosaic Cert.Layer Cert.Kernel4Ideal Cert.Kernel4Ideal.Gen
open Cert.Proj (zeros proj)

variable (x0 : Vec Ideal S256x1024 .f32) (x1 : Vec Ideal S1x1024 .f32) (x2 : Vec Ideal S1024x4096 .bf16)
  (r : Fin 256)

theorem ld0 : View.ld x0 r0_0 = x0 := View.ld_unit_zero zeros _ x0
theorem ld1 : View.ld x1 r0_1 = x1 := View.ld_unit_zero zeros _ x1

theorem pay5_apply (k : Fin 1024) :
    k0_pay5 x0 x1 (ix2 r k) = normed (fun e => x0 (ix2 r e)) (fun e => x1 (ix2 0 e)) k := by
  pointwise [k0_pay5]
  rfl

/-- Column `j` of row `r` of the block's product. -/
abbrev blockAt (j : Fin 4096) : EReal := proj (fun e => x0 (ix2 r e)) (fun e => x1 (ix2 0 e)) x2 j

theorem pay10_apply (k : Fin 1024) :
    k0_pay10 x0 x1 x2 (ix2 r k) = normed (fun e => x0 (ix2 r e)) (fun e => x1 (ix2 0 e)) k := by
  unfold k0_pay10
  rw [ld0, ld1]
  exact pay5_apply x0 x1 r k

theorem out3_apply (j : Fin 512) :
    out0_3 x0 x1 x2 (ix2 r j) = blockAt x0 x1 x2 r ⟨0 + j.val, by omega⟩ := by
  unfold out0_3
  rw [View.canon_unit_zero zeros]
  pointwise [k0_pay6]
  simp only [ld0, ld1, pay5_apply, pay10_apply]
  rfl

theorem out4_apply (j : Fin 512) :
    out0_4 x0 x1 x2 (ix2 r j) = blockAt x0 x1 x2 r ⟨512 + j.val, by omega⟩ * Ideal.ofBits .f32 0x3E000000#32 := by
  unfold out0_4
  rw [View.canon_unit_zero zeros]
  pointwise [k0_pay7]
  simp only [ld0, ld1, pay5_apply, pay10_apply]
  rfl

theorem out5_apply (j : Fin 512) :
    out0_5 x0 x1 x2 (ix2 r j) = blockAt x0 x1 x2 r ⟨1024 + j.val, by omega⟩ := by
  unfold out0_5
  rw [View.canon_unit_zero zeros]
  pointwise [k0_pay9, k0_pay8]
  simp only [ld0, ld1, pay5_apply, pay10_apply]
  rfl

theorem out6_apply (j : Fin 512) :
    out0_6 x0 x1 x2 (ix2 r j) = blockAt x0 x1 x2 r ⟨1536 + j.val, by omega⟩ := by
  unfold out0_6
  rw [View.canon_unit_zero zeros]
  pointwise [k0_pay2, k0_pay1]
  simp only [ld0, ld1, pay5_apply, pay10_apply]
  rfl

theorem out7_apply (j : Fin 512) :
    out0_7 x0 x1 x2 (ix2 r j) = blockAt x0 x1 x2 r ⟨1024 + j.val, by omega⟩ := by
  unfold out0_7
  rw [View.canon_unit_zero zeros]
  pointwise [k0_pay8]
  simp only [ld0, ld1, pay5_apply, pay10_apply]
  rfl

theorem out8_apply (j : Fin 512) :
    out0_8 x0 x1 x2 (ix2 r j) = blockAt x0 x1 x2 r ⟨1536 + j.val, by omega⟩ := by
  unfold out0_8
  rw [View.canon_unit_zero zeros]
  pointwise [k0_pay1]
  simp only [ld0, ld1, pay5_apply, pay10_apply]
  rfl

theorem pay3_apply (j : Fin 1024) :
    k0_pay3 (k0_pay10 x0 x1 x2) (View.ld x2 r0_7) (ix2 r j) = blockAt x0 x1 x2 r ⟨2048 + j.val, by omega⟩ := by
  pointwise [k0_pay3]
  simp only [pay10_apply]
  rfl

theorem pay4_apply (j : Fin 1024) :
    k0_pay4 (k0_pay10 x0 x1 x2) (View.ld x2 r0_9) (ix2 r j) = blockAt x0 x1 x2 r ⟨3072 + j.val, by omega⟩ := by
  pointwise [k0_pay4]
  simp only [pay10_apply]
  rfl

theorem out9_apply (j : Fin 2048) :
    out0_9 x0 x1 x2 (ix2 r j) = blockAt x0 x1 x2 r ⟨2048 + j.val, by omega⟩ := by
  unfold out0_9
  refine View.canon_apply_of_pieces (Val := Elt Ideal) (e := .bf16) (fun y : S256x2048.Idx => blockAt x0 x1 x2 (y 0) ⟨2048 + (y 1).val, by
    have : (y 1).val < 2048 := (y 1).isLt
    omega⟩) _ ?_ (ix2 r j) (cover0_9 _ _ _)
  have split (y : S256x1024.Idx) : y = ix2 (y 0 : Fin 256) (y 1 : Fin 1024) := by
    funext a
    match a with
    | ⟨0, _⟩ => rfl
    | ⟨1, _⟩ => rfl
  intro pc hpc
  rcases List.mem_cons.mp hpc with rfl | hpc
  · intro y
    refine (congrArg _ (split y)).trans ((pay4_apply x0 x1 x2 (y 0) (y 1)).trans ?_)
    exact congrArg₂ (blockAt x0 x1 x2) (Fin.ext (show (y 0).val = 0 + 1 * (y 0).val by omega))
      (Fin.ext (show 3072 + (y 1).val = 2048 + (1024 + 1 * (y 1).val) by omega))
  · rcases List.mem_cons.mp hpc with rfl | hpc
    · intro y
      refine (congrArg _ (split y)).trans ((pay3_apply x0 x1 x2 (y 0) (y 1)).trans ?_)
      exact congrArg₂ (blockAt x0 x1 x2) (Fin.ext (show (y 0).val = 0 + 1 * (y 0).val by omega))
        (Fin.ext (show 2048 + (y 1).val = 2048 + (0 + 1 * (y 1).val) by omega))
    · nomatch hpc

end Cert.SampleProj
end
-- ==== Proof.SampleProjClaim.lean ====
module

public import proofs.«01_k».proof.Defs
public import proofs.«01_k».proof.Proof.SampleProjBlock
public import proofs.«01_k».proof.Proof.Gen.Kernel4Ideal.Value
public import proofs.«01_k».proof.Proof.Gen.Reference4Ideal.Read
public import proofs.«01_k».proof.Proof.Gen.Reference4Ideal.Run
public import Idealize.ShloMosaic.Lib.StableHlo.ReadAt
public import Idealize.ShloMosaic.Lib.Pipeline.ValueKit.Point
public import Idealize.ShloMosaic.Lib.Claim

/-! The input projection of the sample batch: what its seven arrays hold after the run, what the reference computes,
    and the claims. -/

@[expose] public section

set_option maxRecDepth 16384

noncomputable section

namespace Cert.SampleProj

open Idealize.ShloMosaic Idealize.SL.Sem Cert.Layer
open Cert.Proj (proj)

/-- The projection of row `i` of the flattened `x`, at column `j`. -/
def projAt (X : Kernel4Ideal.S8x32x1024.Idx → EReal) (G : Kernel4Ideal.S1024.Idx → EReal)
    (W : Kernel4Ideal.S1024x4096.Idx → EReal) (i : Fin 256) (j : Fin 4096) : EReal :=
  proj (fun e => X (ix3 (⟨i.val / 32, by omega⟩ : Fin 8) (⟨i.val % 32, by omega⟩ : Fin 32) e)) (fun e => G (ix1 e)) W j

/-- Column `j` of the group of `w` columns that starts at column `n`. -/
abbrev wide {w : ℕ} (n : ℕ) (hn : n + w ≤ 4096) (j : Fin w) : Fin 4096 := ⟨n + j.val, by omega⟩

theorem split2 {a b : ℕ} (i : (⟨2, ![a, b]⟩ : Shape).Idx) : i = ix2 (i 0 : Fin a) (i 1 : Fin b) := by
  funext x
  match x with
  | ⟨0, _⟩ => rfl
  | ⟨1, _⟩ => rfl

section Kernel

open Cert.Kernel4Ideal Cert.Kernel4Ideal.Gen

variable (m : (ℓ : Loc nD τ sig) → Buf (Elt Ideal) ℓ) (c : Dev nD)

/-- The three arguments, as arrays. -/
abbrev argX : S8x32x1024.Idx → EReal := m ((c.tc : Thread nD τ).loc main_arg0)
abbrev argG : S1024.Idx → EReal := m ((c.tc : Thread nD τ).loc main_arg1)
abbrev argW : S1024x4096.Idx → EReal := m ((c.tc : Thread nD τ).loc main_arg2)

theorem v0_apply (i : Fin 256) (k : Fin 1024) :
    V m c main_v0 (ix2 i k) = argX m c (ix3 (⟨i.val / 32, by omega⟩ : Fin 8) (⟨i.val % 32, by omega⟩ : Fin 32) k) := by
  unfold V
  after_reads_at

theorem v1_apply (k : Fin 1024) : V m c main_v1 (ix2 0 k) = argG m c (ix1 k) := by
  unfold V
  after_reads_at

theorem v2_apply (i : Fin 1024) (k : Fin 4096) : V m c main_v2 (ix2 i k) = argW m c (ix2 i k) := by
  unfold V
  after_reads_at

theorem index_at : ∀ t : Fin grid0.N,
    win0_0.index t = ![0, 0] ∧ win0_1.index t = ![0, 0] ∧ win0_2.index t = ![0, 0] ∧
    win0_3.index t = ![0, 0] ∧ win0_4.index t = ![0, 0] ∧ win0_5.index t = ![0, 0] ∧
    win0_6.index t = ![0, 0] ∧ win0_7.index t = ![0, 0] ∧ win0_8.index t = ![0, 0] ∧
    win0_9.index t = ![0, 0] := by
  decide +kernel

/-- The block of `x` is all of it, flattened. -/
theorem block0 (t : Fin grid0.N) (r : Fin 256) (k : Fin 1024) :
    iblk m c 0 t (ix2 r k) = V m c main_v0 (ix2 r k) := by
  have e := (index_at t).1
  blk_ext [iblk, e]

theorem block1 (t : Fin grid0.N) (k : Fin 1024) : iblk m c 1 t (ix2 0 k) = V m c main_v1 (ix2 0 k) := by
  have e := (index_at t).2.1
  blk_ext [iblk, e]

theorem block2 (t : Fin grid0.N) (i : Fin 1024) (k : Fin 4096) :
    iblk m c 2 t (ix2 i k) = V m c main_v2 (ix2 i k) := by
  have e := (index_at t).2.2.1
  blk_ext [iblk, e]

theorem blockAt_eq (t : Fin grid0.N) (r : Fin 256) (j : Fin 4096) :
    blockAt (iblk m c 0 t) (iblk m c 1 t) (iblk m c 2 t) r j = projAt (argX m c) (argG m c) (argW m c) r j := by
  have hX : (fun e => iblk m c 0 t (ix2 r e)) = fun e : Fin 1024 => argX m c
      (ix3 (⟨r.val / 32, by omega⟩ : Fin 8) (⟨r.val % 32, by omega⟩ : Fin 32) e) :=
    funext fun e => (block0 m c t r e).trans (v0_apply m c _ e)
  have hG : (fun e => iblk m c 1 t (ix2 0 e)) = fun e : Fin 1024 => argG m c (ix1 e) :=
    funext fun e => (block1 m c t e).trans (v1_apply m c e)
  unfold blockAt projAt
  rw [hX, hG]
  exact Finset.sum_congr rfl fun k _ => congrArg _ ((block2 m c t k j).trans (v2_apply m c k j))

/-- The columns that feed the recurrence. -/
theorem array3_eq : (dats m 0 c).arrAt 3 cfg0.N = fun i : S256x512.Idx =>
    projAt (argX m c) (argG m c) (argW m c) (i 0) (wide 0 (by decide) (i 1)) := by
  refine (dats m 0 c).arrAt_eq_of_covers 3 _ (by decide +kernel) fun t hf y => ?_
  have e := (index_at t).2.2.2.1
  have h0 : (win0_3.blk t).view.emb y 0 = y 0 := Fin.ext (by blk_simp [e])
  have h1 : (win0_3.blk t).view.emb y 1 = y 1 := Fin.ext (by blk_simp [e])
  blk_simp
  rw [after0_3]
  rw [h0, h1]
  exact (congrArg _ (split2 y)).trans ((out3_apply _ _ _ (y 0) (y 1)).trans (congrArg id (blockAt_eq m c t (y 0) _)))

/-- The queries, scaled. -/
theorem array4_eq : (dats m 0 c).arrAt 4 cfg0.N = fun i : S256x512.Idx =>
    projAt (argX m c) (argG m c) (argW m c) (i 0) (wide 512 (by decide) (i 1)) * Ideal.ofBits .f32 0x3E000000#32 := by
  refine (dats m 0 c).arrAt_eq_of_covers 4 _ (by decide +kernel) fun t hf y => ?_
  have e := (index_at t).2.2.2.2.1
  have h0 : (win0_4.blk t).view.emb y 0 = y 0 := Fin.ext (by blk_simp [e])
  have h1 : (win0_4.blk t).view.emb y 1 = y 1 := Fin.ext (by blk_simp [e])
  blk_simp
  rw [after0_4]
  rw [h0, h1]
  exact (congrArg _ (split2 y)).trans ((out4_apply _ _ _ (y 0) (y 1)).trans (congrArg (· * Ideal.ofBits .f32 0x3E000000#32) (blockAt_eq m c t (y 0) _)))

/-- The keys. -/
theorem array5_eq : (dats m 0 c).arrAt 5 cfg0.N = fun i : S256x512.Idx =>
    projAt (argX m c) (argG m c) (argW m c) (i 0) (wide 1024 (by decide) (i 1)) := by
  refine (dats m 0 c).arrAt_eq_of_covers 5 _ (by decide +kernel) fun t hf y => ?_
  have e := (index_at t).2.2.2.2.2.1
  have h0 : (win0_5.blk t).view.emb y 0 = y 0 := Fin.ext (by blk_simp [e])
  have h1 : (win0_5.blk t).view.emb y 1 = y 1 := Fin.ext (by blk_simp [e])
  blk_simp
  rw [after0_5]
  rw [h0, h1]
  exact (congrArg _ (split2 y)).trans ((out5_apply _ _ _ (y 0) (y 1)).trans (congrArg id (blockAt_eq m c t (y 0) _)))

/-- The values. -/
theorem array6_eq : (dats m 0 c).arrAt 6 cfg0.N = fun i : S256x512.Idx =>
    projAt (argX m c) (argG m c) (argW m c) (i 0) (wide 1536 (by decide) (i 1)) := by
  refine (dats m 0 c).arrAt_eq_of_covers 6 _ (by decide +kernel) fun t hf y => ?_
  have e := (index_at t).2.2.2.2.2.2.1
  have h0 : (win0_6.blk t).view.emb y 0 = y 0 := Fin.ext (by blk_simp [e])
  have h1 : (win0_6.blk t).view.emb y 1 = y 1 := Fin.ext (by blk_simp [e])
  blk_simp
  rw [after0_6]
  rw [h0, h1]
  exact (congrArg _ (split2 y)).trans ((out6_apply _ _ _ (y 0) (y 1)).trans (congrArg id (blockAt_eq m c t (y 0) _)))

/-- The new keys. -/
theorem array7_eq : (dats m 0 c).arrAt 7 cfg0.N = fun i : S256x512.Idx =>
    projAt (argX m c) (argG m c) (argW m c) (i 0) (wide 1024 (by decide) (i 1)) := by
  refine (dats m 0 c).arrAt_eq_of_covers 7 _ (by decide +kernel) fun t hf y => ?_
  have e := (index_at t).2.2.2.2.2.2.2.1
  have h0 : (win0_7.blk t).view.emb y 0 = y 0 := Fin.ext (by blk_simp [e])
  have h1 : (win0_7.blk t).view.emb y 1 = y 1 := Fin.ext (by blk_simp [e])
  blk_simp
  rw [after0_7]
  rw [h0, h1]
  exact (congrArg _ (split2 y)).trans ((out7_apply _ _ _ (y 0) (y 1)).trans (congrArg id (blockAt_eq m c t (y 0) _)))

/-- The new values. -/
theorem array8_eq : (dats m 0 c).arrAt 8 cfg0.N = fun i : S256x512.Idx =>
    projAt (argX m c) (argG m c) (argW m c) (i 0) (wide 1536 (by decide) (i 1)) := by
  refine (dats m 0 c).arrAt_eq_of_covers 8 _ (by decide +kernel) fun t hf y => ?_
  have e := (index_at t).2.2.2.2.2.2.2.2.1
  have h0 : (win0_8.blk t).view.emb y 0 = y 0 := Fin.ext (by blk_simp [e])
  have h1 : (win0_8.blk t).view.emb y 1 = y 1 := Fin.ext (by blk_simp [e])
  blk_simp
  rw [after0_8]
  rw [h0, h1]
  exact (congrArg _ (split2 y)).trans ((out8_apply _ _ _ (y 0) (y 1)).trans (congrArg id (blockAt_eq m c t (y 0) _)))

/-- The gates. -/
theorem array9_eq : (dats m 0 c).arrAt 9 cfg0.N = fun i : S256x2048.Idx =>
    projAt (argX m c) (argG m c) (argW m c) (i 0) (wide 2048 (by decide) (i 1)) := by
  refine (dats m 0 c).arrAt_eq_of_covers 9 _ (by decide +kernel) fun t hf y => ?_
  have e := (index_at t).2.2.2.2.2.2.2.2.2
  have h0 : (win0_9.blk t).view.emb y 0 = y 0 := Fin.ext (by blk_simp [e])
  have h1 : (win0_9.blk t).view.emb y 1 = y 1 := Fin.ext (by blk_simp [e])
  blk_simp
  rw [after0_9]
  rw [h0, h1]
  exact (congrArg _ (split2 y)).trans ((out9_apply _ _ _ (y 0) (y 1)).trans (congrArg id (blockAt_eq m c t (y 0) _)))

end Kernel

section Reference

open Cert.Reference4Ideal Cert.Reference4Ideal.Read

variable (X : S8x32x1024.Idx → EReal) (G : S1024.Idx → EReal) (W : S1024x4096.Idx → EReal)

theorem ref_normed (b : Fin 8) (p : Fin 32) (k : Fin 1024) :
    val_main_v12 (F := Ideal) X G (ix3 b p k) = normed (fun e => X (ix3 b p e)) (fun e => G (ix1 e)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem ref_proj (b : Fin 8) (p : Fin 32) (j : Fin 4096) :
    val_main_v13 (F := Ideal) X G W (ix3 b p j) = proj (fun e => X (ix3 b p e)) (fun e => G (ix1 e)) W j := by
  pointwise [val_main_v13]
  simp only [ref_normed]
  rfl

theorem row_eq {b b' : Fin 8} {p p' : Fin 32} {j j' : Fin 4096} (hb : b.val = b'.val) (hp : p.val = p'.val)
    (hj : j.val = j'.val) : proj (fun e => X (ix3 b p e)) (fun e => G (ix1 e)) W j
      = proj (fun e => X (ix3 b' p' e)) (fun e => G (ix1 e)) W j' := by
  rw [Fin.ext hb, Fin.ext hp, Fin.ext hj]

/-- The seven results: each a group of columns of the product, for every row of the flattened `x`. -/
theorem ref_apply (i : Fin 256) :
    (∀ j : Fin 512, val_main_v19 (F := Ideal) X G W (ix2 i j) = projAt X G W i (wide 0 (by decide) j)) ∧
    (∀ j : Fin 512, val_main_v23 (F := Ideal) X G W (ix2 i j)
      = projAt X G W i (wide 512 (by decide) j) * Ideal.ofBits .f32 0x3E000000#32) ∧
    (∀ j : Fin 512, val_main_v25 (F := Ideal) X G W (ix2 i j) = projAt X G W i (wide 1024 (by decide) j)) ∧
    (∀ j : Fin 512, val_main_v27 (F := Ideal) X G W (ix2 i j) = projAt X G W i (wide 1536 (by decide) j)) ∧
    (∀ j : Fin 512, val_main_v28 (F := Ideal) X G W (ix2 i j) = projAt X G W i (wide 1024 (by decide) j)) ∧
    (∀ j : Fin 512, val_main_v29 (F := Ideal) X G W (ix2 i j) = projAt X G W i (wide 1536 (by decide) j)) ∧
    ∀ j : Fin 2048, val_main_v31 (F := Ideal) X G W (ix2 i j) = projAt X G W i (wide 2048 (by decide) j) := by
  refine ⟨fun j => ?_, fun j => ?_, fun j => ?_, fun j => ?_, fun j => ?_, fun j => ?_, fun j => ?_⟩ <;>
  · pointwise [val_main_v19, val_main_v14, val_main_v23, val_main_v22, val_main_v21, val_main_v20, val_main_v15,
      val_main_cst_2, val_main_v25, val_main_v24, val_main_v16, val_main_v27, val_main_v26, val_main_v17, val_main_v28,
      val_main_v29, val_main_v31, val_main_v30, val_main_v18]
    rw [ref_proj]
    first
      | exact row_eq X G W (by first | rfl | (simp only []; omega)) (by first | rfl | (simp only []; omega))
          (by first | rfl | (simp only []; omega))
      | exact congrArg (· * Ideal.ofBits .f32 0x3E000000#32) (row_eq X G W (by first | rfl | (simp only []; omega))
          (by first | rfl | (simp only []; omega)) (by first | rfl | (simp only []; omega)))

end Reference

theorem frame_reference : quiescent_Reference4Ideal (hReference4Ideal := Reference4Ideal.Gen.facts) := fun m g _ =>
  (θ_run Reference4Ideal.defs _ _).mono (fun r h => ⟨fun c => (h c).2.2.2.2.2.2.2, sem_eq_zero_of_no_sems (by decide) r.2⟩)
    (Reference4Ideal.Value.run m g)

theorem value : algebraic_Kernel4Ideal_Reference4Ideal (hKernel4Ideal := Kernel4Ideal.Gen.facts)
    (hReference4Ideal := Reference4Ideal.Gen.facts) := by
  pair_intro
  · run_from (Kernel4Ideal.Value.run_blocks m g)
  · run_from (Reference4Ideal.Value.run m' g')
    · rw [Reference4Ideal.Read.val_main_v19_eq, array3_eq]
      funext i
      exact (congrArg _ (split2 i)).trans ((ref_apply _ _ _ (i 0)).1 (i 1))
    · rw [Reference4Ideal.Read.val_main_v23_eq, array4_eq]
      funext i
      exact (congrArg _ (split2 i)).trans ((ref_apply _ _ _ (i 0)).2.1 (i 1))
    · rw [Reference4Ideal.Read.val_main_v25_eq, array5_eq]
      funext i
      exact (congrArg _ (split2 i)).trans ((ref_apply _ _ _ (i 0)).2.2.1 (i 1))
    · rw [Reference4Ideal.Read.val_main_v27_eq, array6_eq]
      funext i
      exact (congrArg _ (split2 i)).trans ((ref_apply _ _ _ (i 0)).2.2.2.1 (i 1))
    · rw [Reference4Ideal.Read.val_main_v28_eq, array7_eq]
      funext i
      exact (congrArg _ (split2 i)).trans ((ref_apply _ _ _ (i 0)).2.2.2.2.1 (i 1))
    · rw [Reference4Ideal.Read.val_main_v29_eq, array8_eq]
      funext i
      exact (congrArg _ (split2 i)).trans ((ref_apply _ _ _ (i 0)).2.2.2.2.2.1 (i 1))
    · rw [Reference4Ideal.Read.val_main_v31_eq, array9_eq]
      funext i
      exact (congrArg _ (split2 i)).trans ((ref_apply _ _ _ (i 0)).2.2.2.2.2.2 (i 1))

end Cert.SampleProj
end
-- ==== Proof.SampleAttBlock.lean ====
module

public import proofs.«01_k».proof.Proof.AttBlock
public import proofs.«01_k».proof.Proof.Gen.Kernel5Ideal.Frame

/-! What one grid point of the sample batch's attention computes: each element of its output block is the average of the
    values of the sequence's 544 keys under the weights of their scores. -/

@[expose] public section

set_option maxRecDepth 16384

noncomputable section

namespace Cert.SampleAttn

open Idealize.ShloMosaic Cert.Kernel5Ideal Cert.Kernel5Ideal.Gen
open Cert.Attn (average weight average_of col zeros)

/-- The product of query row `r` and key row `kk` over head `h`'s columns. -/
def dotRow (q : FVec Ideal S32x512 .bf16) (k : FVec Ideal S544x512 .bf16) (h : Fin 8) (r : Fin 32) (kk : Fin 544) :
    EReal :=
  ∑ e : Fin 64, q (ix2 r (col h e)) * k (ix2 kk (col h e))

/-- The scores of four heads lie one above the other: those of head `g` for query row `r`. -/
def rows (s : FVec Ideal S128x544 .f32) (r : Fin 32) (g : Fin 4) : Fin 544 → EReal :=
  fun kk => s (ix2 (⟨32 * g.val + r.val, by omega⟩ : Fin 128) kk)

/-- One head's scores, from the columns at `o`. -/
def scores (o : ℕ) (hq : S32x512.Slices ![0, o] S32x64) (hk : S544x512.Slices ![0, o] S544x64)
    (q : FVec Ideal S32x512 .bf16) (k : FVec Ideal S544x512 .bf16) (b : Vec Ideal S1x32x544 .f32) : FVec Ideal S32x544 .f32 :=
  addf (matmul dot_S32x64_S544x64_S32x544_1_1_0_0_n_n none (extractStridedSlice S32x64 ![0, o] q hq)
      (extractStridedSlice S544x64 ![0, o] k hk) (constant S32x544 .f32 0x00000000#32))
    (shapeCast S32x544 b shapeCasts_S1x32x544_S32x544)

/-- One head's columns of the output, from the rows of scores at `o` and the columns of values at `n`. -/
def head (o n : ℕ) (hs : S128x544.Slices ![o, 0] S32x544) (ht : S128x1.Slices ![o, 0] S32x1)
    (hv : S544x512.Slices ![0, n] S544x64) (v : FVec Ideal S544x512 .bf16) (s : FVec Ideal S128x544 .f32) :
    FVec Ideal S32x64 .f32 :=
  divf (matmul dot_S32x544_S544x64_S32x64_1_0_0_1_n_n none (extractStridedSlice S32x544 ![o, 0] (k0_pay8 s) hs)
      (extractStridedSlice S544x64 ![0, n] v hv) (constant S32x64 .f32 0x00000000#32))
    (broadcastTo S32x64 (extractStridedSlice S32x1 ![o, 0] (k0_pay7 s) ht) broadcasts_S32x1_S32x64)

/-- Four heads' scores one above the other. -/
def stack (a b c d : FVec Ideal S32x544 .f32) : FVec Ideal S128x544 .f32 :=
  concatenate S128x544 0 [⟨S32x544, a⟩, ⟨S32x544, b⟩, ⟨S32x544, c⟩, ⟨S32x544, d⟩]
    concatenates_S32x544_S32x544_S32x544_S32x544_S128x544_d0

theorem scores_apply (h : Fin 8) {o : ℕ} (ho : o = 64 * h.val) (hq) (hk) (q : FVec Ideal S32x512 .bf16)
    (k : FVec Ideal S544x512 .bf16) (b : Vec Ideal S1x32x544 .f32) (r : Fin 32) (kk : Fin 544) :
    scores o hq hk q k b (ix2 r kk) = dotRow q k h r kk + b (ix3 0 r kk) := by
  subst ho
  pointwise [scores]
  rfl

theorem head_apply (g : Fin 4) (h : Fin 8) {o n : ℕ} (ho : o = 32 * g.val) (hn : n = 64 * h.val) (hs) (ht) (hv)
    (v : FVec Ideal S544x512 .bf16) (s : FVec Ideal S128x544 .f32) (r : Fin 32) (d : Fin 64) :
    head o n hs ht hv v s (ix2 r d) = average (rows s r g) (fun kk => v (ix2 kk (col h d))) := by
  subst ho hn
  pointwise [head, k0_pay8, k0_pay7, k0_pay6]
  rfl

theorem rows_stack (a b c d : FVec Ideal S32x544 .f32) (r : Fin 32) (g : Fin 4) (kk : Fin 544) :
    rows (stack a b c d) r g kk = (![a, b, c, d] g) (ix2 r kk) := by
  unfold rows stack
  match g with
  | 0 | 1 => pointwise
  | 2 =>
    pointwise
    simp (disch := omega) only [dif_neg, dif_pos]
    exact congrArg (fun x => c (ix2 x kk)) (Fin.ext (by simp only []; omega))
  | 3 =>
    pointwise
    simp (disch := omega) only [dif_neg]
    exact congrArg (fun x => d (ix2 x kk)) (Fin.ext (by simp only []; omega))

/-- The output's eight heads side by side. -/
def sides (o : Fin 8 → FVec Ideal S32x64 .f32) : FVec Ideal S32x512 .f32 :=
  concatenate S32x512 1 [⟨S32x64, o 0⟩, ⟨S32x64, o 1⟩, ⟨S32x64, o 2⟩, ⟨S32x64, o 3⟩, ⟨S32x64, o 4⟩, ⟨S32x64, o 5⟩,
    ⟨S32x64, o 6⟩, ⟨S32x64, o 7⟩] concatenates_S32x64_S32x64_S32x64_S32x64_S32x64_S32x64_S32x64_S32x64_S32x512_d1

theorem sides_apply (o : Fin 8 → FVec Ideal S32x64 .f32) (r : Fin 32) (h : Fin 8) (d : Fin 64) :
    sides o (ix2 r (col h d)) = o h (ix2 r d) := by
  unfold sides
  match h with
  | 0 | 1 => pointwise
  | 2 | 3 | 4 | 5 | 6 | 7 =>
    pointwise
    simp (disch := omega) only [dif_neg, dif_pos]
    exact congrArg (fun x => o _ (ix2 r x)) (Fin.ext (by simp only []; omega))

variable (x0 : Vec Ideal S1x32x512 .bf16) (x1 x2 : Vec Ideal S1x544x512 .f32) (x3 : Vec Ideal S8x32x544 .f32)

/-- The scores of the eight heads, in two stacks. -/
def first : FVec Ideal S128x544 .f32 := stack
  (scores 0 slices_S32x512_o0_0_S32x64 slices_S544x512_o0_0_S544x64 (k0_pay2 x0) (k0_pay3 x1) (View.ld x3 r0_2))
  (scores 64 slices_S32x512_o0_64_S32x64 slices_S544x512_o0_64_S544x64 (k0_pay2 x0) (k0_pay3 x1) (View.ld x3 r0_3))
  (scores 128 slices_S32x512_o0_128_S32x64 slices_S544x512_o0_128_S544x64 (k0_pay2 x0) (k0_pay3 x1) (View.ld x3 r0_4))
  (scores 192 slices_S32x512_o0_192_S32x64 slices_S544x512_o0_192_S544x64 (k0_pay2 x0) (k0_pay3 x1) (View.ld x3 r0_5))

@[inherit_doc first]
def second : FVec Ideal S128x544 .f32 := stack
  (scores 256 slices_S32x512_o0_256_S32x64 slices_S544x512_o0_256_S544x64 (k0_pay2 x0) (k0_pay3 x1) (View.ld x3 r0_6))
  (scores 320 slices_S32x512_o0_320_S32x64 slices_S544x512_o0_320_S544x64 (k0_pay2 x0) (k0_pay3 x1) (View.ld x3 r0_7))
  (scores 384 slices_S32x512_o0_384_S32x64 slices_S544x512_o0_384_S544x64 (k0_pay2 x0) (k0_pay3 x1) (View.ld x3 r0_8))
  (scores 448 slices_S32x512_o0_448_S32x64 slices_S544x512_o0_448_S544x64 (k0_pay2 x0) (k0_pay3 x1) (View.ld x3 r0_9))

/-- The eight heads' columns of the output. -/
def columns (h : Fin 8) : FVec Ideal S32x64 .f32 :=
  match h with
  | 0 => head 0 0 slices_S128x544_o0_0_S32x544 slices_S128x1_o0_0_S32x1 slices_S544x512_o0_0_S544x64 (k0_pay4 x2) (first x0 x1 x3)
  | 1 => head 32 64 slices_S128x544_o32_0_S32x544 slices_S128x1_o32_0_S32x1 slices_S544x512_o0_64_S544x64 (k0_pay4 x2) (first x0 x1 x3)
  | 2 => head 64 128 slices_S128x544_o64_0_S32x544 slices_S128x1_o64_0_S32x1 slices_S544x512_o0_128_S544x64 (k0_pay4 x2) (first x0 x1 x3)
  | 3 => head 96 192 slices_S128x544_o96_0_S32x544 slices_S128x1_o96_0_S32x1 slices_S544x512_o0_192_S544x64 (k0_pay4 x2) (first x0 x1 x3)
  | 4 => head 0 256 slices_S128x544_o0_0_S32x544 slices_S128x1_o0_0_S32x1 slices_S544x512_o0_256_S544x64 (k0_pay4 x2) (second x0 x1 x3)
  | 5 => head 32 320 slices_S128x544_o32_0_S32x544 slices_S128x1_o32_0_S32x1 slices_S544x512_o0_320_S544x64 (k0_pay4 x2) (second x0 x1 x3)
  | 6 => head 64 384 slices_S128x544_o64_0_S32x544 slices_S128x1_o64_0_S32x1 slices_S544x512_o0_384_S544x64 (k0_pay4 x2) (second x0 x1 x3)
  | 7 => head 96 448 slices_S128x544_o96_0_S32x544 slices_S128x1_o96_0_S32x1 slices_S544x512_o0_448_S544x64 (k0_pay4 x2) (second x0 x1 x3)

theorem out_eq : out0_4 x0 x1 x2 x3 = shapeCast S1x32x512 (truncf .bf16 (sides (columns x0 x1 x2 x3)) bitsLt_bf16_f32)
    shapeCasts_S32x512_S1x32x512 := by
  unfold_out out0_4
  rw [View.canon_unit_zero zeros]
  rw [show View.ld x0 r0_0 = x0 from View.ld_unit_zero zeros _ x0, show View.ld x1 r0_1 = x1 from View.ld_unit_zero zeros _ x1,
    show View.ld x2 r0_1 = x2 from View.ld_unit_zero zeros _ x2]
  rfl

/-- The score of key `kk` for query row `r` under head `h`: the product with the bias added. -/
def score (h : Fin 8) (r : Fin 32) (kk : Fin 544) : EReal :=
  dotRow (k0_pay2 x0) (k0_pay3 x1) h r kk + x3 (ix3 h r kk)

theorem first_apply (r : Fin 32) (g : Fin 4) (kk : Fin 544) :
    rows (first x0 x1 x3) r g kk = score x0 x1 x3 ⟨g.val, by omega⟩ r kk := by
  match g with
  | 0 | 1 | 2 | 3 =>
    exact (rows_stack _ _ _ _ r _ kk).trans ((scores_apply _ (by rfl) _ _ _ _ _ r kk).trans (congrArg (_ + ·) (by pointwise)))

theorem second_apply (r : Fin 32) (g : Fin 4) (kk : Fin 544) :
    rows (second x0 x1 x3) r g kk = score x0 x1 x3 ⟨4 + g.val, by omega⟩ r kk := by
  match g with
  | 0 | 1 | 2 | 3 =>
    exact (rows_stack _ _ _ _ r _ kk).trans ((scores_apply _ (by rfl) _ _ _ _ _ r kk).trans (congrArg (_ + ·) (by pointwise)))

theorem columns_apply (h : Fin 8) (r : Fin 32) (d : Fin 64) :
    columns x0 x1 x2 x3 h (ix2 r d) = average (score x0 x1 x3 h r) (fun kk => k0_pay4 x2 (ix2 kk (col h d))) := by
  match h with
  | 0 => exact (head_apply 0 0 rfl rfl _ _ _ _ _ r d).trans (congrArg (average · _) (funext (first_apply x0 x1 x3 r 0)))
  | 1 => exact (head_apply 1 1 rfl rfl _ _ _ _ _ r d).trans (congrArg (average · _) (funext (first_apply x0 x1 x3 r 1)))
  | 2 => exact (head_apply 2 2 rfl rfl _ _ _ _ _ r d).trans (congrArg (average · _) (funext (first_apply x0 x1 x3 r 2)))
  | 3 => exact (head_apply 3 3 rfl rfl _ _ _ _ _ r d).trans (congrArg (average · _) (funext (first_apply x0 x1 x3 r 3)))
  | 4 => exact (head_apply 0 4 rfl rfl _ _ _ _ _ r d).trans (congrArg (average · _) (funext (second_apply x0 x1 x3 r 0)))
  | 5 => exact (head_apply 1 5 rfl rfl _ _ _ _ _ r d).trans (congrArg (average · _) (funext (second_apply x0 x1 x3 r 1)))
  | 6 => exact (head_apply 2 6 rfl rfl _ _ _ _ _ r d).trans (congrArg (average · _) (funext (second_apply x0 x1 x3 r 2)))
  | 7 => exact (head_apply 3 7 rfl rfl _ _ _ _ _ r d).trans (congrArg (average · _) (funext (second_apply x0 x1 x3 r 3)))

/-- An element of the output block. -/
theorem out_apply (h : Fin 8) (r : Fin 32) (d : Fin 64) :
    out0_4 x0 x1 x2 x3 (ix3 0 r (col h d)) = average
      (fun kk => (∑ e : Fin 64, x0 (ix3 0 r (col h e)) * x1 (ix3 0 kk (col h e))) + x3 (ix3 h r kk))
      (fun kk => x2 (ix3 0 kk (col h d))) := by
  have hq : ∀ j, k0_pay2 x0 (ix2 r j) = x0 (ix3 0 r j) := fun j => by pointwise [k0_pay2]
  have hk : ∀ kk j, k0_pay3 x1 (ix2 kk j) = x1 (ix3 0 kk j) := fun kk j => by pointwise [k0_pay3]
  have hv : ∀ kk j, k0_pay4 x2 (ix2 kk j) = x2 (ix3 0 kk j) := fun kk j => by pointwise [k0_pay4]
  rw [out_eq]
  pointwise
  refine (sides_apply _ r h d).trans ((columns_apply x0 x1 x2 x3 h r d).trans ?_)
  unfold score dotRow
  simp only [hq, hk, hv]

end Cert.SampleAttn
end
-- ==== Proof.SampleAttArray.lean ====
module

public import proofs.«01_k».proof.Proof.SampleAttBlock
public import proofs.«01_k».proof.Proof.Gen.Kernel5Ideal.Value
public import proofs.«01_k».proof.Proof.Gen.Reference5Ideal.Run
public import proofs.«01_k».proof.Proof.Gen.Reference5Ideal.Read
public import Idealize.ShloMosaic.Lib.StableHlo.ReadAt
public import Idealize.ShloMosaic.Lib.Pipeline.ValueKit.Point

/-! What the sample batch's attention call receives and what its output array holds after the run. -/

@[expose] public section

set_option maxRecDepth 16384

noncomputable section

namespace Cert.SampleAttn

open Idealize.ShloMosaic Cert.Kernel5Ideal Cert.Kernel5Ideal.Gen
open Cert.Attn (average col)

/-- The kernel's table of biases: entry `j` of head `h` is the head's bias at the `j`-th index word. -/
theorem gather_table {α : Type} (x : S8x257.Idx → α) (w : IVec S576x1 32) (h : Fin 8) (j : Fin 576) :
    Host.gather gather_S8x257_S576x1_S8x576_0_1_n_n_1_1_81 x w (ix2 h j)
      = x (ix2 h ⟨min (w (ix2 j 0)).toInt.toNat 256, by omega⟩) := by
  unfold Host.gather
  congr 1
  funext a
  refine Fin.ext ?_
  show gather_S8x257_S576x1_S8x576_0_1_n_n_1_1_81.start (ix2 h j) w a
    + gather_S8x257_S576x1_S8x576_0_1_n_n_1_1_81.batchCoord (ix2 h j) a
    + gather_S8x257_S576x1_S8x576_0_1_n_n_1_1_81.offCoord (ix2 h j) a = _
  rw [GatherDims.batchCoord_eq_zero _ _ _ List.not_mem_nil]
  match a with
  | ⟨0, hlt⟩ =>
    rw [show GatherDims.start _ _ w ⟨0, hlt⟩ = 0 by
      unfold GatherDims.start; exact dif_neg (show (0 : Fin 2) ∉ ([1] : List (Fin 2)) by decide)]
    simp only [Nat.zero_add]
    rfl
  | ⟨1, _⟩ =>
    rw [GatherDims.offCoord_eq_zero _ _ _ (fun h => ((GatherDims.mem_sKept _ _).mp h).1 (List.mem_singleton.mpr rfl))]
    simp only [Nat.add_zero]
    unfold GatherDims.start
    refine (dif_pos (show (1 : Fin 2) ∈ ([1] : List (Fin 2)) by decide)).trans ?_
    congr 4
    funext b; refine Fin.ext ?_
    match b with
    | ⟨0, _⟩ => rfl
    | ⟨1, _⟩ => rfl

/-- The cache's 512 rows, then the 32 new ones. -/
def joined (cache : S8x512x8x64.Idx → EReal) (new : S8x32x8x64.Idx → EReal) (b : Fin 8) (kk : Fin 544) (h : Fin 8)
    (e : Fin 64) : EReal :=
  if hk : kk.val < 512 then cache (ix4 b ⟨kk.val, hk⟩ h e) else new (ix4 b ⟨kk.val - 512, by omega⟩ h e)

variable (m : (ℓ : Loc nD τ sig) → Buf (Elt Ideal) ℓ) (c : Dev nD)

/-- The six arguments, as arrays. -/
abbrev argQ : S8x32x512.Idx → EReal := m ((c.tc : Thread nD τ).loc main_arg0)
abbrev argKn : S8x32x8x64.Idx → EReal := m ((c.tc : Thread nD τ).loc main_arg1)
abbrev argVn : S8x32x8x64.Idx → EReal := m ((c.tc : Thread nD τ).loc main_arg2)
abbrev argKc : S8x512x8x64.Idx → EReal := m ((c.tc : Thread nD τ).loc main_arg3)
abbrev argVc : S8x512x8x64.Idx → EReal := m ((c.tc : Thread nD τ).loc main_arg4)
abbrev argB : S8x257.Idx → EReal := m ((c.tc : Thread nD τ).loc main_arg5)

theorem v2_apply (b : Fin 8) (p : Fin 32) (j : Fin 512) :
    V m c main_v2 (ix3 b p j) = argQ m c (ix3 b p j) * Ideal.ofBits .f32 0x3E000000#32 := by
  unfold V
  after_reads_at

/-- A row of eight heads side by side, read at a head and a component. -/
theorem side_eq {n : ℕ} (x : (⟨4, ![8, n, 8, 64]⟩ : Shape).Idx → EReal) (b : Fin 8) (k k' : Fin n) (h : Fin 8) (e : Fin 64)
    (hk : k.val = k'.val) : x (ix4 b k ⟨(64 * h.val + e.val) / 64, by omega⟩ ⟨(64 * h.val + e.val) % 64, by omega⟩)
      = x (ix4 b k' h e) := by
  rw [Fin.ext hk, show (⟨(64 * h.val + e.val) / 64, by omega⟩ : Fin 8) = h from Fin.ext (by simp only []; omega),
    show (⟨(64 * h.val + e.val) % 64, by omega⟩ : Fin 64) = e from Fin.ext (by simp only []; omega)]

theorem v5_apply (b : Fin 8) (kk : Fin 544) (h : Fin 8) (e : Fin 64) :
    V m c main_v5 (ix3 b kk (col h e)) = joined (argKc m c) (argKn m c) b kk h e := by
  unfold V joined
  after_reads_at
  split
  · exact side_eq (m (c, Proc.tc.devRef main_arg3)) b _ _ h e rfl
  · exact side_eq (m (c, Proc.tc.devRef main_arg1)) b _ _ h e rfl

theorem v8_apply (b : Fin 8) (kk : Fin 544) (h : Fin 8) (e : Fin 64) :
    V m c main_v8 (ix3 b kk (col h e)) = joined (argVc m c) (argVn m c) b kk h e := by
  unfold V joined
  after_reads_at
  split
  · exact side_eq (m (c, Proc.tc.devRef main_arg4)) b _ _ h e rfl
  · exact side_eq (m (c, Proc.tc.devRef main_arg2)) b _ _ h e rfl

/-- The word that picks a bias for the `j`-th entry of the table. -/
def tableWord (w : BitVec 32) : BitVec 32 :=
  IntOp.addi (IntOp.minsi 128#32 (IntOp.maxsi 4294967168#32
    (IntOp.addi (Scalar.select (IntOp.cmpi CmpIPredicate.slt w 544#32) w (IntOp.subi w 576#32)) 4294966784#32))) 128#32

/-- A word below zero read from the end of the 257 biases. -/
def wrapWord (w : BitVec 32) : BitVec 32 :=
  Scalar.select (IntOp.cmpi CmpIPredicate.slt w 0#32) (IntOp.addi w 257#32) w

theorem tableWord_eq : ∀ j : Fin 576, min (wrapWord (tableWord (BitVec.ofNat 32 j.val))).toInt.toNat 256
    = if j.val < 544 then min (j.val - 384) 256 else 0 := by
  decide +kernel

set_option maxHeartbeats 4000000 in
/-- The table of biases the call receives: the head's bias at the clipped distance. -/
theorem v32_apply (h : Fin 8) (r : Fin 32) (kk : Fin 544) :
    V m c main_v32 (ix3 h r kk) = argB m c (ix2 h ⟨min (kk.val - (384 + r.val)) 256, by omega⟩) := by
  have ht := tableWord_eq ⟨(r.val * 575 + kk.val) % 576, by omega⟩
  have hj : (if (r.val * 575 + kk.val) % 576 < 544 then min ((r.val * 575 + kk.val) % 576 - 384) 256 else 0)
      = min (kk.val - (384 + r.val)) 256 := by
    have h1 := r.isLt
    have h2 := kk.isLt
    rcases Nat.lt_or_ge kk.val r.val with hlt | hge
    · have : (r.val * 575 + kk.val) % 576 = 576 + kk.val - r.val := by omega
      rw [this]; split <;> omega
    · have : (r.val * 575 + kk.val) % 576 = kk.val - r.val := by omega
      rw [this]; split <;> omega
  simp only [] at ht
  rw [hj] at ht
  unfold V
  after_reads_at
  rw [gather_table]
  simp only [id]
  pointwise
  refine (show _ = (argB m c (ix2 h ⟨min (wrapWord (tableWord (BitVec.ofNat 32 ((r.val * 575 + kk.val) % 576)))).toInt.toNat 256,
      by omega⟩)) from rfl).trans ?_
  simp only [ht]

theorem index_at : ∀ t : Fin grid0.N,
    win0_0.index t = ![t.val, 0, 0] ∧ win0_1.index t = ![t.val, 0, 0] ∧ win0_2.index t = ![t.val, 0, 0] ∧
    win0_3.index t = ![0, 0, 0] ∧ win0_4.index t = ![t.val, 0, 0] := by
  decide +kernel

/-- The sequence of grid point `t`. -/
abbrev seqOf (t : Fin grid0.N) : Fin 8 := ⟨t.val, t.isLt⟩

theorem block0 (t : Fin grid0.N) (r : Fin 32) (j : Fin 512) :
    iblk m c 0 t (ix3 0 r j) = V m c main_v2 (ix3 (seqOf t) r j) := by
  have e := (index_at t).1
  blk_ext [iblk, e]

theorem block1 (t : Fin grid0.N) (kk : Fin 544) (j : Fin 512) :
    iblk m c 1 t (ix3 0 kk j) = V m c main_v5 (ix3 (seqOf t) kk j) := by
  have e := (index_at t).2.1
  blk_ext [iblk, e]

theorem block2 (t : Fin grid0.N) (kk : Fin 544) (j : Fin 512) :
    iblk m c 2 t (ix3 0 kk j) = V m c main_v8 (ix3 (seqOf t) kk j) := by
  have e := (index_at t).2.2.1
  blk_ext [iblk, e]

theorem block3 (t : Fin grid0.N) (h : Fin 8) (r : Fin 32) (kk : Fin 544) :
    iblk m c 3 t (ix3 h r kk) = V m c main_v32 (ix3 h r kk) := by
  have e := (index_at t).2.2.2.1
  blk_ext [iblk, e]

/-- The score of key `kk` for the query at position `p`: the product of the scaled query with the key, and the bias at
    their distance. -/
def kscore (Q : S8x32x512.Idx → EReal) (Kn : S8x32x8x64.Idx → EReal) (Kc : S8x512x8x64.Idx → EReal) (B : S8x257.Idx → EReal)
    (b : Fin 8) (p : Fin 32) (h : Fin 8) (kk : Fin 544) : EReal :=
  (∑ e : Fin 64, Q (ix3 b p (col h e)) * Ideal.ofBits .f32 0x3E000000#32 * joined Kc Kn b kk h e)
    + B (ix2 h ⟨min (kk.val - (384 + p.val)) 256, by omega⟩)

/-- The attention as the kernel computes it, at a position, a head and a component. -/
def kernelAt (Q : S8x32x512.Idx → EReal) (Kn Wn : S8x32x8x64.Idx → EReal) (Kc Wc : S8x512x8x64.Idx → EReal)
    (B : S8x257.Idx → EReal) (b : Fin 8) (p : Fin 32) (h : Fin 8) (d : Fin 64) : EReal :=
  average (kscore Q Kn Kc B b p h) (fun kk => joined Wc Wn b kk h d)

/-- The output block of grid point `t`. -/
theorem block_at (t : Fin grid0.N) (r : Fin 32) (h : Fin 8) (d : Fin 64) :
    out0_4 (iblk m c 0 t) (iblk m c 1 t) (iblk m c 2 t) (iblk m c 3 t) (ix3 0 r (col h d))
      = kernelAt (argQ m c) (argKn m c) (argVn m c) (argKc m c) (argVc m c) (argB m c) (seqOf t) r h d := by
  rw [out_apply]
  refine congrArg₂ average (funext fun kk => ?_) (funext fun kk => ?_)
  · refine congrArg₂ (· + ·) (Finset.sum_congr rfl fun e _ => congrArg₂ (· * ·) ?_ ?_) ?_
    · exact (block0 m c t r _).trans (v2_apply m c _ _ _)
    · exact (block1 m c t kk _).trans (v5_apply m c _ _ _ _)
    · exact (block3 m c t h r kk).trans (v32_apply m c _ _ _)
  · exact (block2 m c t kk _).trans (v8_apply m c _ _ _ _)

/-- The array after the run. -/
theorem array_eq : (dats m 0 c).arrAt 4 cfg0.N
    = fun i : S8x32x512.Idx => kernelAt (argQ m c) (argKn m c) (argVn m c) (argKc m c) (argVc m c) (argB m c) (i 0) (i 1)
        ⟨(i 2).val / 64, by have : (i 2).val < 512 := (i 2).isLt
                            omega⟩ ⟨(i 2).val % 64, by omega⟩ := by
  refine (dats m 0 c).arrAt_eq_of_covers 4 _ (by decide +kernel) fun t hf y => ?_
  have e := (index_at t).2.2.2.2
  have y0 : (y 0).val < 1 := (y 0).isLt
  have y1 : (y 1).val < 32 := (y 1).isLt
  have y2 : (y 2).val < 512 := (y 2).isLt
  have hy : y = ix3 (0 : Fin 1) (⟨(y 1).val, y1⟩ : Fin 32)
      (col ⟨(y 2).val / 64, by omega⟩ ⟨(y 2).val % 64, by omega⟩) := by
    funext a
    match a with
    | ⟨0, _⟩ => exact Fin.ext (show (y 0).val = 0 by omega)
    | ⟨1, _⟩ => rfl
    | ⟨2, _⟩ => exact Fin.ext (show (y 2).val = 64 * ((y 2).val / 64) + (y 2).val % 64 by omega)
  have h0 : (win0_4.blk t).view.emb y 0 = seqOf t := Fin.ext (by blk_simp [e])
  have h1 : (win0_4.blk t).view.emb y 1 = (⟨(y 1).val, y1⟩ : Fin 32) := Fin.ext (by blk_simp [e])
  have h2 : win0_4.index t 2 * 512 + (y 2).val = (y 2).val := by
    rw [e]; show 0 * 512 + (y 2).val = (y 2).val; omega
  blk_simp
  rw [after0_4]
  refine (congrArg _ hy).trans ((block_at m c t _ _ _).trans ?_)
  rw [h0, h1]
  simp only [h2]

end Cert.SampleAttn
end
-- ==== Proof.SampleAttRef.lean ====
module

public import proofs.«01_k».proof.Proof.AttSoft
public import proofs.«01_k».proof.Proof.AttRef
public import proofs.«01_k».proof.Proof.SampleAttArray

/-! The reference's attention over the sample's keys, at a position, a head and a component. -/

@[expose] public section

set_option maxRecDepth 16384

noncomputable section

namespace Cert.SampleAttn

open Idealize.ShloMosaic Cert.Reference5Ideal Cert.Reference5Ideal.Read
open Cert.Attn (distWord endWord col)

variable (Q : S8x32x512.Idx → EReal) (Kn Wn : S8x32x8x64.Idx → EReal) (Kc Wc : S8x512x8x64.Idx → EReal)
  (B : S8x257.Idx → EReal)

/-- The reference's bias of head `h` at query `q` and key `k`: the head's bias at that pair's index word. -/
theorem gather_bias {α : Type} (x : S8x257.Idx → α) (w : IVec S32x544x1 32) (h : Fin 8) (q : Fin 32) (k : Fin 544) :
    Host.gather gather_S8x257_S32x544x1_S8x32x544_0_1_n_n_1_2_81 x w (ix3 h q k)
      = x (ix2 h ⟨min (w (ix3 q k 0)).toInt.toNat 256, by omega⟩) := by
  unfold Host.gather
  congr 1
  funext a
  refine Fin.ext ?_
  show gather_S8x257_S32x544x1_S8x32x544_0_1_n_n_1_2_81.start (ix3 h q k) w a
    + gather_S8x257_S32x544x1_S8x32x544_0_1_n_n_1_2_81.batchCoord (ix3 h q k) a
    + gather_S8x257_S32x544x1_S8x32x544_0_1_n_n_1_2_81.offCoord (ix3 h q k) a = _
  rw [GatherDims.batchCoord_eq_zero _ _ _ List.not_mem_nil]
  match a with
  | ⟨0, hlt⟩ =>
    rw [show GatherDims.start _ _ w ⟨0, hlt⟩ = 0 by
      unfold GatherDims.start; exact dif_neg (show (0 : Fin 2) ∉ ([1] : List (Fin 2)) by decide)]
    simp only [Nat.zero_add]
    rfl
  | ⟨1, _⟩ =>
    rw [GatherDims.offCoord_eq_zero _ _ _ (fun h => ((GatherDims.mem_sKept _ _).mp h).1 (List.mem_singleton.mpr rfl))]
    simp only [Nat.add_zero]
    unfold GatherDims.start
    refine (dif_pos (show (1 : Fin 2) ∈ ([1] : List (Fin 2)) by decide)).trans ?_
    congr 4
    funext b; refine Fin.ext ?_
    match b with
    | ⟨0, _⟩ => rfl
    | ⟨1, _⟩ => rfl
    | ⟨2, _⟩ => rfl

theorem ref_joined (b : Fin 8) (kk : Fin 544) (h : Fin 8) (e : Fin 64) :
    val_main_v1 (F := Ideal) Kn Kc (ix4 b kk h e) = joined Kc Kn b kk h e := by
  pointwise [val_main_v1]
  rfl

theorem ref_values (b : Fin 8) (kk : Fin 544) (h : Fin 8) (e : Fin 64) :
    val_main_v2 (F := Ideal) Wn Wc (ix4 b kk h e) = joined Wc Wn b kk h e :=
  (show val_main_v2 (F := Ideal) Wn Wc (ix4 b kk h e) = val_main_v1 (F := Ideal) Wn Wc (ix4 b kk h e) from rfl).trans
    (ref_joined Wn Wc b kk h e)

theorem distWord_eq : ∀ j : Fin 575,
    min (endWord (distWord (IntOp.subi (BitVec.ofNat 32 j.val) 543#32))).toInt.toNat 256 = min (j.val - 415) 256 := by
  decide +kernel

theorem dist_sub (q : Fin 32) (k : Fin 544) :
    IntOp.subi (IntOp.subi (BitVec.ofNat 32 k.val) 512#32) (BitVec.ofNat 32 q.val)
      = IntOp.subi (BitVec.ofNat 32 (k.val + 31 - q.val)) 543#32 := by
  have hq := q.isLt
  have hk := k.isLt
  show BitVec.ofNat 32 k.val - 512#32 - BitVec.ofNat 32 q.val = BitVec.ofNat 32 (k.val + 31 - q.val) - 543#32
  bv_omega

theorem ref_dist (q : Fin 32) (k : Fin 544) : val_main_v11 (F := Ideal) (ix2 q k)
    = IntOp.subi (IntOp.subi (BitVec.ofNat 32 k.val) 512#32) (BitVec.ofNat 32 q.val) := by
  rw [val_main_v11_apply, val_main_v9_apply, val_main_v10_apply, val_main_v6_apply, val_main_v8_apply,
    val_main_v5_apply]
  rfl

theorem ref_distWord (q : Fin 32) (k : Fin 544) :
    val_main_v14 (F := Ideal) (ix2 q k) = distWord (val_main_v11 (F := Ideal) (ix2 q k)) := by
  rw [val_main_v14_apply, val_main_v12_apply, val_main_call0_v2_apply]
  rfl

theorem ref_endWord (q : Fin 32) (k : Fin 544) :
    val_main_v20 (F := Ideal) (ix3 q k 0) = endWord (val_main_v14 (F := Ideal) (ix2 q k)) := by
  rw [val_main_v20_apply, val_main_v19_apply, val_main_v16_apply, val_main_v18_apply]
  rfl

theorem ref_bias (h : Fin 8) (q : Fin 32) (k : Fin 544) :
    val_main_v21 (F := Ideal) B (ix3 h q k) = B (ix2 h ⟨min (k.val - (384 + q.val)) 256, by omega⟩) := by
  unfold val_main_v21
  rw [gather_bias]
  have hq := q.isLt
  have hk := k.isLt
  have hw := distWord_eq ⟨k.val + 31 - q.val, by omega⟩
  have hv := (ref_endWord q k).trans (congrArg (fun w => endWord (distWord w)) ((ref_dist q k).trans (dist_sub q k)) |>
    (congrArg endWord (ref_distWord q k)).trans)
  exact congrArg (fun j => B (ix2 h j)) (Fin.ext ((congrArg (fun w : BitVec 32 => min w.toInt.toNat 256) hv).trans
    (hw.trans (show min (k.val + 31 - q.val - 415) 256 = min (k.val - (384 + q.val)) 256 by omega))))

/-- The reference's score of key `k` for the query at position `p` under head `h`. -/
def rscore (b : Fin 8) (h : Fin 8) (p : Fin 32) (k : Fin 544) : EReal :=
  (∑ e : Fin 64, Q (ix3 b p (col h e)) * joined Kc Kn b k h e) * Ideal.ofBits .f32 0x3E000000#32
    + B (ix2 h ⟨min (k.val - (384 + p.val)) 256, by omega⟩)

theorem ref_query (b : Fin 8) (p : Fin 32) (h : Fin 8) (e : Fin 64) :
    val_main_v0 (F := Ideal) Q (ix4 b p h e) = Q (ix3 b p (col h e)) := by
  rw [val_main_v0_apply]
  have hb := b.isLt
  have hp := p.isLt
  have hh := h.isLt
  have he := e.isLt
  refine congrArg Q (funext fun a => ?_)
  match a with
  | ⟨0, _⟩ => exact Fin.ext (show (((b.val * 32 + p.val) * 8 + h.val) * 64 + e.val) / 16384 = b.val by omega)
  | ⟨1, _⟩ => exact Fin.ext (show (((b.val * 32 + p.val) * 8 + h.val) * 64 + e.val) / 512 % 32 = p.val by omega)
  | ⟨2, _⟩ => exact Fin.ext (show (((b.val * 32 + p.val) * 8 + h.val) * 64 + e.val) % 512 = 64 * h.val + e.val by omega)

theorem ref_score (b : Fin 8) (h : Fin 8) (p : Fin 32) (k : Fin 544) :
    val_main_v27 (F := Ideal) Q Kn Kc B (ix4 b h p k) = rscore Q Kn Kc B b h p k := by
  have hb : val_main_v26 (F := Ideal) B (ix4 b h p k) = B (ix2 h ⟨min (k.val - (384 + p.val)) 256, by omega⟩) := by
    refine Eq.trans ?_ (ref_bias B h p k)
    rw [val_main_v26_apply, val_main_v25_apply]
    refine congrArg (val_main_v21 (F := Ideal) B) (funext fun a => ?_)
    match a with
    | ⟨0, _⟩ => rfl
    | ⟨1, _⟩ => rfl
    | ⟨2, _⟩ => rfl
  have hd : val_main_v22 (F := Ideal) Q Kn Kc (ix4 b h p k)
      = ∑ e : Fin 64, Q (ix3 b p (col h e)) * joined Kc Kn b k h e := by
    rw [val_main_v22_apply]
    refine Finset.sum_congr rfl fun e _ => congrArg₂ (· * ·) ?_ ?_
    · refine Eq.trans (congrArg (val_main_v0 (F := Ideal) Q) (funext fun a => ?_)) (ref_query Q b p h e)
      match a with
      | ⟨0, _⟩ => rfl
      | ⟨1, _⟩ => rfl
      | ⟨2, _⟩ => rfl
      | ⟨3, _⟩ => rfl
    · refine Eq.trans (congrArg (val_main_v1 (F := Ideal) Kn Kc) (funext fun a => ?_)) (ref_joined Kn Kc b k h e)
      match a with
      | ⟨0, _⟩ => rfl
      | ⟨1, _⟩ => rfl
      | ⟨2, _⟩ => rfl
      | ⟨3, _⟩ => rfl
  have hs : val_main_v27 (F := Ideal) Q Kn Kc B (ix4 b h p k)
      = val_main_v22 (F := Ideal) Q Kn Kc (ix4 b h p k) * Ideal.ofBits .f32 0x3E000000#32
        + val_main_v26 (F := Ideal) B (ix4 b h p k) := rfl
  rw [hs, hd, hb]
  rfl

/-- The largest score of a row, from minus infinity. -/
def rmax (b : Fin 8) (h : Fin 8) (p : Fin 32) : EReal :=
  max (Ideal.ofBits .f32 0xFF800000#32)
    (Finset.univ.fold max (Ideal.ofBits .f32 0xFF800000#32) (rscore Q Kn Kc B b h p))

theorem lift_key (hR : S8x8x32x544.Reduces [3] S8x8x32) (b : Fin 8) (h : Fin 8) (p : Fin 32) (k : Fin 544) :
    hR.lift (ix3 b h p) k = ix4 b h p k := by
  funext a
  match a with
  | ⟨0, _⟩ => rfl
  | ⟨1, _⟩ => rfl
  | ⟨2, _⟩ => rfl
  | ⟨3, _⟩ => rfl

theorem ref_max (b : Fin 8) (h : Fin 8) (p : Fin 32) :
    val_main_v30 (F := Ideal) Q Kn Kc B (ix3 b h p) = rmax Q Kn Kc B b h p := by
  have hR : S8x8x32x544.Reduces [3] S8x8x32 := by decide
  have h28 : val_main_v28 (F := Ideal) Q Kn Kc B (ix3 b h p)
      = Finset.univ.fold max (Ideal.ofBits .f32 0xFF800000#32) (rscore Q Kn Kc B b h p) := by
    unfold val_main_v28
    refine (Host.reduce_eq_fold_single (FloatOps.maximumf (F := Ideal) (φ := .f32)) (val_main_v27 (F := Ideal) Q Kn Kc B) _ _ hR _ _).trans ?_
    refine congrArg (Finset.univ.fold max (Ideal.ofBits .f32 0xFF800000#32)) (funext fun k => ?_)
    exact (congrArg (val_main_v27 (F := Ideal) Q Kn Kc B) (lift_key hR b h p k)).trans (ref_score Q Kn Kc B b h p k)
  rw [val_main_v30_apply, h28]
  rfl

theorem ref_weight (b : Fin 8) (h : Fin 8) (p : Fin 32) (k : Fin 544) :
    val_main_v34 (F := Ideal) Q Kn Kc B (ix4 b h p k)
      = Ideal.exp (rscore Q Kn Kc B b h p k - rmax Q Kn Kc B b h p) := by
  have h32 : val_main_v32 (F := Ideal) Q Kn Kc B (ix4 b h p k) = rmax Q Kn Kc B b h p := by
    refine Eq.trans ?_ (ref_max Q Kn Kc B b h p)
    rw [val_main_v32_apply, val_main_v31_apply]
    refine congrArg (val_main_v30 (F := Ideal) Q Kn Kc B) (funext fun a => ?_)
    match a with
    | ⟨0, _⟩ => rfl
    | ⟨1, _⟩ => rfl
    | ⟨2, _⟩ => rfl
  rw [val_main_v34_apply, val_main_v33_apply, ref_score, h32]
  rfl

theorem ref_share (b : Fin 8) (h : Fin 8) (p : Fin 32) (k : Fin 544) :
    val_main_v38 (F := Ideal) Q Kn Kc B (ix4 b h p k)
      = Ideal.div (Ideal.exp (rscore Q Kn Kc B b h p k - rmax Q Kn Kc B b h p))
        (0 + ∑ k', Ideal.exp (rscore Q Kn Kc B b h p k' - rmax Q Kn Kc B b h p)) := by
  have h35 : val_main_v35 (F := Ideal) Q Kn Kc B (ix3 b h p)
      = 0 + ∑ k', Ideal.exp (rscore Q Kn Kc B b h p k' - rmax Q Kn Kc B b h p) := by
    rw [val_main_v35_apply]
    refine congrArg₂ (· + ·) Ideal.ofBits_zero_f32 (Finset.sum_congr rfl fun k' _ => ?_)
    refine Eq.trans (congrArg (val_main_v34 (F := Ideal) Q Kn Kc B) (funext fun a => ?_)) (ref_weight Q Kn Kc B b h p k')
    match a with
    | ⟨0, _⟩ => rfl
    | ⟨1, _⟩ => rfl
    | ⟨2, _⟩ => rfl
    | ⟨3, _⟩ => rfl
  have h37 : val_main_v37 (F := Ideal) Q Kn Kc B (ix4 b h p k) = val_main_v35 (F := Ideal) Q Kn Kc B (ix3 b h p) := by
    rw [val_main_v37_apply, val_main_v36_apply]
    refine congrArg (val_main_v35 (F := Ideal) Q Kn Kc B) (funext fun a => ?_)
    match a with
    | ⟨0, _⟩ => rfl
    | ⟨1, _⟩ => rfl
    | ⟨2, _⟩ => rfl
  rw [val_main_v38_apply, ref_weight, h37, h35]
  rfl

/-- The reference's weighted average of the values. -/
def refAt (b : Fin 8) (h : Fin 8) (p : Fin 32) (d : Fin 64) : EReal :=
  ∑ k : Fin 544, joined Wc Wn b k h d * Ideal.div (Ideal.exp (rscore Q Kn Kc B b h p k - rmax Q Kn Kc B b h p))
    (0 + ∑ k', Ideal.exp (rscore Q Kn Kc B b h p k' - rmax Q Kn Kc B b h p))

theorem ref_out (b : Fin 8) (h : Fin 8) (p : Fin 32) (d : Fin 64) :
    val_main_v39 (F := Ideal) Q Kn Wn Kc Wc B (ix4 b h d p) = refAt Q Kn Wn Kc Wc B b h p d := by
  rw [val_main_v39_apply]
  refine Finset.sum_congr rfl fun k _ => ?_
  have h1 : lidx_main_v39 (ix4 b h d p) k = ix4 b k h d := by
    funext a
    match a with
    | ⟨0, _⟩ => rfl
    | ⟨1, _⟩ => rfl
    | ⟨2, _⟩ => rfl
    | ⟨3, _⟩ => rfl
  have h2 : ridx_main_v39 (ix4 b h d p) k = ix4 b h p k := by
    funext a
    match a with
    | ⟨0, _⟩ => rfl
    | ⟨1, _⟩ => rfl
    | ⟨2, _⟩ => rfl
    | ⟨3, _⟩ => rfl
  rw [h1, h2, ref_values Wn Wc b k h d, ref_share Q Kn Kc B b h p k]

theorem ref_at (b : Fin 8) (p : Fin 32) (j : Fin 512) : val_main_v42 (F := Ideal) Q Kn Wn Kc Wc B (ix3 b p j) =
    refAt Q Kn Wn Kc Wc B b ⟨j.val / 64, by omega⟩ p ⟨j.val % 64, by omega⟩ := by
  refine Eq.trans ?_ (ref_out Q Kn Wn Kc Wc B b ⟨j.val / 64, by omega⟩ p ⟨j.val % 64, by omega⟩)
  have h42 : val_main_v42 (F := Ideal) Q Kn Wn Kc Wc B (ix3 b p j)
      = val_main_v41 (F := Ideal) Q Kn Wn Kc Wc B (ix3 b p j) := rfl
  rw [h42, val_main_v41_apply, val_main_v40_apply]
  have hb := b.isLt
  have hp := p.isLt
  have hj := j.isLt
  refine congrArg (val_main_v39 (F := Ideal) Q Kn Wn Kc Wc B) (funext fun a => ?_)
  match a with
  | ⟨0, _⟩ => exact Fin.ext (show ((b.val * 32 + p.val) * 512 + j.val) / 16384 = b.val by omega)
  | ⟨1, _⟩ => exact Fin.ext (show ((b.val * 32 + p.val) * 512 + j.val) / 64 % 8 = j.val / 64 by omega)
  | ⟨2, _⟩ => exact Fin.ext (show ((b.val * 32 + p.val) * 512 + j.val) % 64 = j.val % 64 by omega)
  | ⟨3, _⟩ => exact Fin.ext (show ((b.val * 32 + p.val) * 512 + j.val) / 512 % 32 = p.val by omega)

end Cert.SampleAttn
end
-- ==== Proof.SampleAttClaim.lean ====
module

public import proofs.«01_k».proof.Proof.AttClaim
public import proofs.«01_k».proof.Proof.SampleAttRef
public import Idealize.ShloMosaic.Lib.Claim

/-! The claims about the sample batch's attention: the kernel's average and the reference's agree when queries, keys and
    biases are real numbers, what the precondition says, the reference's frames and the value. -/

@[expose] public section

noncomputable section

namespace Cert.SampleAttn

open Idealize.ShloMosaic Idealize.SL.Sem Cert.Kernel5Ideal
open Cert.Attn (Finite col eighth_word sum_mul_coe coe_sum bot_word top_word average_window real_of_bits)

variable (Q : S8x32x512.Idx → EReal) (Kn Wn : S8x32x8x64.Idx → EReal) (Kc Wc : S8x512x8x64.Idx → EReal)
  (B : S8x257.Idx → EReal)

/-- Scaling the query before the product or the product after it gives one score. -/
theorem score_eq (b : Fin 8) (p : Fin 32) (h : Fin 8) (k : Fin 544) :
    kscore Q Kn Kc B b p h k = rscore Q Kn Kc B b h p k := by
  unfold kscore rscore
  refine congrArg (· + _) ?_
  rw [eighth_word, sum_mul_coe _ _ _ (by norm_num)]
  refine Finset.sum_congr rfl fun e _ => ?_
  rw [mul_assoc, mul_comm ((1 / 8 : ℝ) : EReal), ← mul_assoc]

theorem joined_real (hKn : Finite Kn) (hKc : Finite Kc) (b : Fin 8) (k : Fin 544) (h : Fin 8) (e : Fin 64) :
    ∃ r : ℝ, joined Kc Kn b k h e = r := by
  unfold joined
  split
  · exact hKc _
  · exact hKn _

theorem score_real (hQ : Finite Q) (hKn : Finite Kn) (hKc : Finite Kc) (hB : Finite B) (b : Fin 8) (h : Fin 8) (p : Fin 32)
    (k : Fin 544) : ∃ r : ℝ, rscore Q Kn Kc B b h p k = r := by
  choose q' hq using fun e : Fin 64 => hQ (ix3 b p (col h e))
  choose k' hk using joined_real Kn Kc hKn hKc b k h
  obtain ⟨c, hc⟩ := hB (ix2 h ⟨min (k.val - (384 + p.val)) 256, by omega⟩)
  refine ⟨(∑ e, q' e * k' e) * (1 / 8) + c, ?_⟩
  unfold rscore
  rw [eighth_word, hc, EReal.coe_add, EReal.coe_mul, ← coe_sum]
  refine congrArg (fun x => x * _ + _) (Finset.sum_congr rfl fun e _ => ?_)
  rw [hq, hk, EReal.coe_mul]

theorem attention_eq (hQ : Finite Q) (hKn : Finite Kn) (hKc : Finite Kc) (hB : Finite B) (b : Fin 8) (p : Fin 32)
    (h : Fin 8) (d : Fin 64) : kernelAt Q Kn Wn Kc Wc B b p h d = refAt Q Kn Wn Kc Wc B b h p d := by
  have hreal := score_real Q Kn Kc B hQ hKn hKc hB b h p
  have h0 : rscore Q Kn Kc B b h p 0 ≠ ⊥ := by
    obtain ⟨r, hr⟩ := hreal 0
    rw [hr]
    exact EReal.coe_ne_bot r
  unfold kernelAt refAt rmax
  rw [bot_word]
  exact average_window id Function.injective_id _ _ _ (fun k => joined Wc Wn b k h d) (score_eq Q Kn Kc B b p h)
    (fun kk hk => absurd rfl (hk kk)) (fun _ _ => rfl) (fun k => Or.inr (hreal k)) 0 h0

theorem pre_facts : Pre_finite_sample.Facts := ⟨by decide, by decide, by decide, by decide⟩

theorem finite_of_pre (m : (ℓ : Loc nD τ sig) → Buf (Elt Ideal) ℓ)
    (h : Pre_Kernel5Ideal_finite_sample (hPre_finite_sample := pre_facts) m) (c : Dev nD) :
    Finite (argQ m c) ∧ Finite (argKn m c) ∧ Finite (argKc m c) ∧ Finite (argB m c) := by
  refine ⟨fun i => ?_, fun i => ?_, fun i => ?_, fun i => ?_⟩
  · refine real_of_bits _ (Eq.trans ?_ (congrFun (h c).1 i))
    rw [← bot_word, ← top_word]
    rfl
  · refine real_of_bits _ (Eq.trans ?_ (congrFun (h c).2.1 i))
    rw [← bot_word, ← top_word]
    rfl
  · refine real_of_bits _ (Eq.trans ?_ (congrFun (h c).2.2.1 i))
    rw [← bot_word, ← top_word]
    rfl
  · refine real_of_bits _ (Eq.trans ?_ (congrFun (h c).2.2.2 i))
    rw [← bot_word, ← top_word]
    rfl

theorem results_eq (m : (ℓ : Loc nD τ sig) → Buf (Elt Ideal) ℓ)
    (h : Pre_Kernel5Ideal_finite_sample (hPre_finite_sample := pre_facts) m) (c : Dev nD) :
    Reference5Ideal.Read.val_main_v42 (F := Ideal) (argQ m c) (argKn m c) (argVn m c) (argKc m c) (argVc m c) (argB m c)
      = (Gen.dats m 0 c).arrAt 4 cfg0.N := by
  rw [array_eq]
  obtain ⟨hQ, hKn, hKc, hB⟩ := finite_of_pre m h c
  funext i
  have e : i = ix3 (i 0 : Fin 8) (i 1 : Fin 32) (i 2 : Fin 512) := by
    funext a
    match a with
    | ⟨0, _⟩ => rfl
    | ⟨1, _⟩ => rfl
    | ⟨2, _⟩ => rfl
  refine (congrArg _ e).trans ((ref_at (argQ m c) (argKn m c) (argVn m c) (argKc m c) (argVc m c) (argB m c)
    (i 0) (i 1) (i 2)).trans ?_)
  exact (attention_eq _ _ _ _ _ _ hQ hKn hKc hB _ _ _ _).symm

theorem frame_reference : quiescent_Reference5Ideal (hReference5Ideal := Reference5Ideal.Gen.facts) := fun m g _ =>
  (θ_run Reference5Ideal.defs _ _).mono (fun r h => ⟨fun c => (h c).2, sem_eq_zero_of_no_sems (by decide) r.2⟩)
    (Reference5Ideal.Value.run m g)

theorem frame_reference_pre : quiescent_Reference5Ideal_pre_finite_sample (hReference5Ideal := Reference5Ideal.Gen.facts)
    (hPre_finite_sample := pre_facts) := fun m g _ => frame_reference m g trivial

theorem value : algebraic_Kernel5Ideal_Reference5Ideal_pre_finite_sample (hKernel5Ideal := Gen.facts)
    (hReference5Ideal := Reference5Ideal.Gen.facts) (hPre_finite_sample := pre_facts) := by
  pair_intro
  · run_from (Kernel5Ideal.Value.run_blocks m g)
  · run_from (Reference5Ideal.Value.run m' g')
    rw [Reference5Ideal.Read.val_main_v42_eq, (hagree c).1, (hagree c).2.1, (hagree c).2.2.1, (hagree c).2.2.2.1,
      (hagree c).2.2.2.2.1, (hagree c).2.2.2.2.2]
    exact results_eq m hpre c

end Cert.SampleAttn
end
-- ==== Proof.SampleMergeBlock.lean ====
module

public import proofs.«01_k».proof.Proof.MergeScores
public import proofs.«01_k».proof.Proof.Gen.Kernel6Ideal.Frame

/-! The merge of the sample batch: what its one block of 256 rows computes. The products with the sub-keys are 32
    pieces, one for each half-head and each group of 128 rows. -/

@[expose] public section

set_option maxRecDepth 16384

noncomputable section

namespace Cert.SampleMerge

open Idealize.ShloMosaic Cert.Layer Cert.Kernel6Ideal Cert.Kernel6Ideal.Gen
open Cert.Merge (zeros glu lo hi mixed merged query score split1 laid fit)

variable (x0 : Vec Ideal S256x1024 .f32) (x1 x2 : Vec Ideal S256x512 .f32) (x3 : Vec Ideal S256x512 .bf16)
  (x4 : Vec Ideal S256x2048 .bf16) (x5 : Vec Ideal S1x512 .f32) (x6 : Vec Ideal S512x2048 .bf16)
  (x7 : Vec Ideal S512x1024 .bf16) (x8 : Vec Ideal S1024x1024 .bf16) (x9 : Vec Ideal S1x1024 .f32)
  (x10 : Vec Ideal S1024x2048 .bf16) (x11 : Vec Ideal S16x128x128 .bf16) (r : Fin 256) (n : Fin 128)

theorem ldA (x : Vec Ideal S256x512 .f32) : View.ld x r0_0 = x := View.ld_unit_zero zeros _ x
theorem ldA' (x : Vec Ideal S256x512 .bf16) : View.ld x r0_0 = x := View.ld_unit_zero zeros _ x
theorem ldB (x : Vec Ideal S1x512 .f32) : View.ld x r0_1 = x := View.ld_unit_zero zeros _ x
theorem ldC (x : Vec Ideal S512x2048 .bf16) : View.ld x r0_2 = x := View.ld_unit_zero zeros _ x
theorem ldD (x : Vec Ideal S512x1024 .bf16) : View.ld x r0_3 = x := View.ld_unit_zero zeros _ x
theorem ldE (x : Vec Ideal S256x2048 .bf16) : View.ld x r0_4 = x := View.ld_unit_zero zeros _ x
theorem ldF (x : Vec Ideal S256x1024 .f32) : View.ld x r0_5 = x := View.ld_unit_zero zeros _ x
theorem ldG (x : Vec Ideal S1024x1024 .bf16) : View.ld x r0_6 = x := View.ld_unit_zero zeros _ x
theorem ldH (x : Vec Ideal S1x1024 .f32) : View.ld x r0_7 = x := View.ld_unit_zero zeros _ x
theorem ldI (x : Vec Ideal S1024x2048 .bf16) : View.ld x r0_8 = x := View.ld_unit_zero zeros _ x

/-- The block's rows of the gated sum, of the merged rows, of the normalised rows and of the queries. -/
abbrev mixedB : Fin 1024 → EReal :=
  mixed (fun k => x1 (ix2 r k)) (fun k => x2 (ix2 r k)) (fun k => x5 (ix2 0 k)) (fun k => x3 (ix2 r k))
    (fun k => x4 (ix2 r k)) x6 x7
abbrev mergedB : Fin 1024 → EReal := merged (fun k => x0 (ix2 r k)) (mixedB x1 x2 x3 x4 x5 x6 x7 r) x8
abbrev normedB : Fin 1024 → EReal := normed (mergedB x0 x1 x2 x3 x4 x5 x6 x7 x8 r) (fun k => x9 (ix2 0 k))
abbrev queryB : Fin 2048 → EReal := query (normedB x0 x1 x2 x3 x4 x5 x6 x7 x8 x9 r) x10

theorem pay57_apply (j : Fin 1024) : k0_pay57 x0 x1 x2 x3 x4 x5 x6 x7 x8 x9 x10 x11 (ix2 r j) = x0 (ix2 r j) := by
  unfold k0_pay57
  rw [ldF]
  pointwise [k0_pay1]

theorem pay58_apply (j : Fin 1024) : k0_pay58 x0 x1 x2 x3 x4 x5 x6 x7 x8 x9 x10 x11 (ix2 r j)
    = ∑ k : Fin 1024, mixedB x1 x2 x3 x4 x5 x6 x7 r k * x8 (ix2 k j) := by
  unfold k0_pay58
  rw [ldA, ldA, ldA', ldB, ldC, ldD, ldE, ldG]
  pointwise [k0_pay2]
  rfl

theorem pay3_apply (j : Fin 1024) :
    k0_pay3 (k0_pay57 x0 x1 x2 x3 x4 x5 x6 x7 x8 x9 x10 x11) (k0_pay58 x0 x1 x2 x3 x4 x5 x6 x7 x8 x9 x10 x11) (ix2 r j)
      = mergedB x0 x1 x2 x3 x4 x5 x6 x7 x8 r j := by
  pointwise [k0_pay3]
  rw [pay57_apply, pay58_apply]
  rfl

theorem pay4_apply (j : Fin 1024) :
    k0_pay4 (k0_pay57 x0 x1 x2 x3 x4 x5 x6 x7 x8 x9 x10 x11) (k0_pay58 x0 x1 x2 x3 x4 x5 x6 x7 x8 x9 x10 x11)
      (View.ld x9 r0_7) (ix2 r j) = normedB x0 x1 x2 x3 x4 x5 x6 x7 x8 x9 r j := by
  rw [ldH]
  pointwise [k0_pay4]
  simp only [pay3_apply]
  rfl

theorem pay59_apply (j : Fin 2048) :
    k0_pay59 x0 x1 x2 x3 x4 x5 x6 x7 x8 x9 x10 x11 (ix2 r j) = queryB x0 x1 x2 x3 x4 x5 x6 x7 x8 x9 x10 r j := by
  unfold k0_pay59
  rw [ldI]
  pointwise [k0_pay5]
  simp only [pay4_apply]
  rfl

theorem out12_apply (j : Fin 1024) :
    out0_12 x0 x1 x2 x3 x4 x5 x6 x7 x8 x9 x10 x11 (ix2 r j) = mergedB x0 x1 x2 x3 x4 x5 x6 x7 x8 r j := by
  unfold out0_12
  rw [View.canon_unit_zero zeros]
  exact pay3_apply x0 x1 x2 x3 x4 x5 x6 x7 x8 x9 x10 x11 r j

theorem out13_apply (j : Fin 1024) :
    out0_13 x0 x1 x2 x3 x4 x5 x6 x7 x8 x9 x10 x11 (ix2 r j) = normedB x0 x1 x2 x3 x4 x5 x6 x7 x8 x9 r j := by
  unfold out0_13
  rw [View.canon_unit_zero zeros]
  exact pay4_apply x0 x1 x2 x3 x4 x5 x6 x7 x8 x9 x10 x11 r j

/-- The block's product of sub-key `n` of half-head `hz` with row `r`. -/
abbrev scoreB (r : Fin 256) (hz : Fin 16) (n : Fin 128) : EReal :=
  score x11 (queryB x0 x1 x2 x3 x4 x5 x6 x7 x8 x9 x10 r) hz n

/-- What the block of products holds at an index. -/
abbrev scoreAt (y : S2x2048x128.Idx) : EReal := laid rfl (scoreB x0 x1 x2 x3 x4 x5 x6 x7 x8 x9 x10 x11) y

/-- A slab of sub-keys times the 128 columns of the queries that start at `o`. -/
abbrev dot (S : Vec Ideal S1x128x128 .bf16) (Q : FVec Ideal S256x2048 .bf16) (o : ℕ)
    (hq : S256x2048.Slices ![0, o] S256x128) : FVec Ideal S128x256 .f32 :=
  matmul dot_S128x128_S256x128_S128x256_1_1_0_0_n_n none
    (shapeCast S128x128 S shapeCasts_S1x128x128_S128x128 : FVec Ideal S128x128 .bf16)
    (extractStridedSlice S256x128 ![0, o] Q hq : FVec Ideal S256x128 .bf16)
    (constant S128x256 .f32 0x00000000#32)

theorem dot_apply (S : Vec Ideal S1x128x128 .bf16) (Q : FVec Ideal S256x2048 .bf16) {o : ℕ} (ho : o + 128 ≤ 2048) (hq)
    (r : Fin 256) : dot S Q o hq (ix2 n r)
      = ∑ d : Fin 128, S (ix3 0 n d) * Q (ix2 r (⟨o + d.val, by omega⟩ : Fin 2048)) := by
  pointwise

/-- The piece that half-head `hz` writes for row group `lt`: its dot product's columns from `os` on, put at
    row `ow` of the block's plane `lt`. -/
theorem piece {hz lt oq os ow : ℕ} (hh : hz < 16) (hl : lt < 2) (hoq : oq = 128 * hz) (hos : os = 128 * lt)
    (how : ow = 128 * hz) (hi : ∀ a, (![hz, 0, 0] : Fin 3 → ℕ) a + S1x128x128.size a ≤ S16x128x128.size a)
    (hq : S256x2048.Slices ![0, oq] S256x128) (hs : S128x256.Slices ![0, os] S128x128)
    (hr : ∀ a, (![lt, ow, 0] : Fin 3 → ℕ) a + S1x128x128.size a ≤ S2x2048x128.size a) (y : S1x128x128.Idx) :
    (shapeCast S1x128x128 (extractStridedSlice S128x128 ![0, os]
        (dot (View.ld x11 (Rect.unit (s := S16x128x128) ![hz, 0, 0] S1x128x128.size hi))
          (k0_pay59 x0 x1 x2 x3 x4 x5 x6 x7 x8 x9 x10 x11) oq hq) hs : FVec Ideal S128x128 .f32)
      shapeCasts_S128x128_S1x128x128 : FVec Ideal S1x128x128 .f32) y
      = scoreAt x0 x1 x2 x3 x4 x5 x6 x7 x8 x9 x10 x11
          ((Rect.unit (s := S2x2048x128) ![lt, ow, 0] S1x128x128.size hr).idx y) := by
  subst hoq hos how
  refine Eq.trans ?_ (fit rfl (scoreB x0 x1 x2 x3 x4 x5 x6 x7 x8 x9 x10 x11) y lt ⟨hz, hh⟩ hl _ rfl rfl rfl)
  rw [split1 y]
  generalize hD : dot _ _ _ hq = D
  pointwise
  subst hD
  refine (dot_apply _ _ _ (by omega) _ _).trans (Finset.sum_congr rfl fun d _ => ?_)
  refine congrArg₂ (· * ·) (congrArg x11 ?_) (pay59_apply x0 x1 x2 x3 x4 x5 x6 x7 x8 x9 x10 x11 _ _)
  funext a
  match a with
  | ⟨0, _⟩ => rfl
  | ⟨1, _⟩ => exact Fin.ext (show 0 + 1 * (y 1).val = (y 1).val by omega)
  | ⟨2, _⟩ => exact Fin.ext (show 0 + 1 * d.val = d.val by omega)

set_option maxHeartbeats 1000000 in
theorem out14_apply (y : S2x2048x128.Idx) :
    out0_14 x0 x1 x2 x3 x4 x5 x6 x7 x8 x9 x10 x11 y = scoreAt x0 x1 x2 x3 x4 x5 x6 x7 x8 x9 x10 x11 y := by
  unfold out0_14
  refine View.canon_apply_of_pieces (Val := Elt Ideal) (e := .f32) (scoreAt x0 x1 x2 x3 x4 x5 x6 x7 x8 x9 x10 x11) _ ?_ y
    (cover0_14 _ _ _ _ _ _ _ _ _ _ _ _ _ _ _ _ _ _ _ _ _ _ _ _ _ _ _ _ _ _ _ _ _)
  repeat
    refine List.forall_mem_cons.2 ⟨fun y => ?_, ?_⟩
    · exact piece x0 x1 x2 x3 x4 x5 x6 x7 x8 x9 x10 x11 (by decide) (by decide) (by rfl) (by rfl) (by rfl)
        (by decide) (by decide) (by decide) (by decide) y
  intro pc hpc
  nomatch hpc

end Cert.SampleMerge
end
-- ==== Proof.SampleMergeArray.lean ====
module

public import proofs.«01_k».proof.Proof.SampleMergeBlock
public import proofs.«01_k».proof.Proof.MergeRow
public import proofs.«01_k».proof.Proof.Gen.Kernel6Ideal.Value
public import Idealize.ShloMosaic.Lib.StableHlo.ReadAt
public import Idealize.ShloMosaic.Lib.Pipeline.ValueKit.Point

/-! What the three arrays of the sample batch's merge hold after the run. -/

@[expose] public section

set_option maxRecDepth 16384

noncomputable section

namespace Cert.SampleMerge

open Idealize.ShloMosaic Cert.Layer Cert.Kernel6Ideal Cert.Kernel6Ideal.Gen
open Cert.Merge (split2 ext2 mergedOf normedOf queryOf scoreOf mixedOf scoreOf_congr score_stacked laid)

variable (m : (ℓ : Loc nD τ sig) → Buf (Elt Ideal) ℓ) (c : Dev nD)

/-- The twelve arguments, as arrays. -/
abbrev argX : S8x32x1024.Idx → EReal := m ((c.tc : Thread nD τ).loc main_arg0)
abbrev argY : S8x32x512.Idx → EReal := m ((c.tc : Thread nD τ).loc main_arg1)
abbrev argU : S8x32x512.Idx → EReal := m ((c.tc : Thread nD τ).loc main_arg2)
abbrev argA : S8x32x512.Idx → EReal := m ((c.tc : Thread nD τ).loc main_arg3)
abbrev argB : S8x32x2048.Idx → EReal := m ((c.tc : Thread nD τ).loc main_arg4)
abbrev argD : S512.Idx → EReal := m ((c.tc : Thread nD τ).loc main_arg5)
abbrev argGW : S512x2048.Idx → EReal := m ((c.tc : Thread nD τ).loc main_arg6)
abbrev argWO : S512x1024.Idx → EReal := m ((c.tc : Thread nD τ).loc main_arg7)
abbrev argWP : S1024x1024.Idx → EReal := m ((c.tc : Thread nD τ).loc main_arg8)
abbrev argG : S1024.Idx → EReal := m ((c.tc : Thread nD τ).loc main_arg9)
abbrev argWQ : S1024x2048.Idx → EReal := m ((c.tc : Thread nD τ).loc main_arg10)
abbrev argSK : S8x2x128x128.Idx → EReal := m ((c.tc : Thread nD τ).loc main_arg11)

/-- The sequence and the place in it of row `i` of the flattened arrays. -/
abbrev seqOf (i : Fin 256) : Fin 8 := ⟨i.val / 32, by omega⟩
abbrev posOf (i : Fin 256) : Fin 32 := ⟨i.val % 32, by omega⟩

theorem v0_apply (i : Fin 256) (k : Fin 1024) :
    V m c main_v0 (ix2 i k) = argX m c (ix3 (seqOf i) (posOf i) k) := by
  unfold V
  after_reads_at

theorem v1_apply (i : Fin 256) (k : Fin 512) :
    V m c main_v1 (ix2 i k) = argY m c (ix3 (seqOf i) (posOf i) k) := by
  unfold V
  after_reads_at

theorem v2_apply (i : Fin 256) (k : Fin 512) :
    V m c main_v2 (ix2 i k) = argU m c (ix3 (seqOf i) (posOf i) k) := by
  unfold V
  after_reads_at

theorem v4_apply (i : Fin 256) (k : Fin 512) :
    V m c main_v4 (ix2 i k) = argA m c (ix3 (seqOf i) (posOf i) k) := by
  unfold V
  after_reads_at

theorem v6_apply (i : Fin 256) (k : Fin 2048) :
    V m c main_v6 (ix2 i k) = argB m c (ix3 (seqOf i) (posOf i) k) := by
  unfold V
  after_reads_at

theorem v7_apply (k : Fin 512) :
    V m c main_v7 (ix2 0 k) = argD m c (ix1 k) := by
  unfold V
  after_reads_at

theorem v11_apply (k : Fin 1024) :
    V m c main_v11 (ix2 0 k) = argG m c (ix1 k) := by
  unfold V
  after_reads_at

theorem v8_apply (i : Fin 512) (k : Fin 2048) :
    V m c main_v8 (ix2 i k) = argGW m c (ix2 i k) := by
  unfold V
  after_reads_at

theorem v9_apply (i : Fin 512) (k : Fin 1024) :
    V m c main_v9 (ix2 i k) = argWO m c (ix2 i k) := by
  unfold V
  after_reads_at

theorem v10_apply (i : Fin 1024) (k : Fin 1024) :
    V m c main_v10 (ix2 i k) = argWP m c (ix2 i k) := by
  unfold V
  after_reads_at

theorem v12_apply (i : Fin 1024) (k : Fin 2048) :
    V m c main_v12 (ix2 i k) = argWQ m c (ix2 i k) := by
  unfold V
  after_reads_at

theorem v14_apply (hz : Fin 16) (n d : Fin 128) :
    V m c main_v14 (ix3 hz n d) = argSK m c (ix4 (⟨hz.val / 2, by omega⟩ : Fin 8) (⟨hz.val % 2, by omega⟩ : Fin 2) n d) := by
  unfold V
  after_reads_at

/-- The grid has one step, whose blocks are the whole arrays. -/
theorem index_at : ∀ t : Fin grid0.N,
    win0_0.index t = ![0, 0] ∧ win0_1.index t = ![0, 0] ∧ win0_2.index t = ![0, 0] ∧ win0_3.index t = ![0, 0] ∧
    win0_4.index t = ![0, 0] ∧ win0_5.index t = ![0, 0] ∧ win0_6.index t = ![0, 0] ∧ win0_7.index t = ![0, 0] ∧
    win0_8.index t = ![0, 0] ∧ win0_9.index t = ![0, 0] ∧ win0_10.index t = ![0, 0] ∧ win0_11.index t = ![0, 0, 0] ∧
    win0_12.index t = ![0, 0] ∧ win0_13.index t = ![0, 0] ∧ win0_14.index t = ![0, 0, 0] := by
  decide +kernel

theorem block0 (t : Fin grid0.N) (r : Fin 256) :
    (fun k => iblk m c 0 t (ix2 r k)) = fun k : Fin 1024 => argX m c (ix3 (seqOf r) (posOf r) k) := by
  funext k
  refine Eq.trans ?_ (v0_apply m c r k)
  have e := (index_at t).1
  blk_ext [iblk, e]

theorem block1 (t : Fin grid0.N) (r : Fin 256) :
    (fun k => iblk m c 1 t (ix2 r k)) = fun k : Fin 512 => argY m c (ix3 (seqOf r) (posOf r) k) := by
  funext k
  refine Eq.trans ?_ (v1_apply m c r k)
  have e := (index_at t).2.1
  blk_ext [iblk, e]

theorem block2 (t : Fin grid0.N) (r : Fin 256) :
    (fun k => iblk m c 2 t (ix2 r k)) = fun k : Fin 512 => argU m c (ix3 (seqOf r) (posOf r) k) := by
  funext k
  refine Eq.trans ?_ (v2_apply m c r k)
  have e := (index_at t).2.2.1
  blk_ext [iblk, e]

theorem block3 (t : Fin grid0.N) (r : Fin 256) :
    (fun k => iblk m c 3 t (ix2 r k)) = fun k : Fin 512 => argA m c (ix3 (seqOf r) (posOf r) k) := by
  funext k
  refine Eq.trans ?_ (v4_apply m c r k)
  have e := (index_at t).2.2.2.1
  blk_ext [iblk, e]

theorem block4 (t : Fin grid0.N) (r : Fin 256) :
    (fun k => iblk m c 4 t (ix2 r k)) = fun k : Fin 2048 => argB m c (ix3 (seqOf r) (posOf r) k) := by
  funext k
  refine Eq.trans ?_ (v6_apply m c r k)
  have e := (index_at t).2.2.2.2.1
  blk_ext [iblk, e]

theorem block5 (t : Fin grid0.N) : (fun k => iblk m c 5 t (ix2 0 k)) = fun k : Fin 512 => argD m c (ix1 k) := by
  funext k
  refine Eq.trans ?_ (v7_apply m c k)
  have e := (index_at t).2.2.2.2.2.1
  blk_ext [iblk, e]

theorem block9 (t : Fin grid0.N) : (fun k => iblk m c 9 t (ix2 0 k)) = fun k : Fin 1024 => argG m c (ix1 k) := by
  funext k
  refine Eq.trans ?_ (v11_apply m c k)
  have e := (index_at t).2.2.2.2.2.2.2.2.2.1
  blk_ext [iblk, e]

theorem block6 (t : Fin grid0.N) : iblk m c 6 t = argGW m c := ext2 fun (i : Fin 512) (k : Fin 2048) => by
  refine Eq.trans ?_ (v8_apply m c i k)
  have e := (index_at t).2.2.2.2.2.2.1
  blk_ext [iblk, e]

theorem block7 (t : Fin grid0.N) : iblk m c 7 t = argWO m c := ext2 fun (i : Fin 512) (k : Fin 1024) => by
  refine Eq.trans ?_ (v9_apply m c i k)
  have e := (index_at t).2.2.2.2.2.2.2.1
  blk_ext [iblk, e]

theorem block8 (t : Fin grid0.N) : iblk m c 8 t = argWP m c := ext2 fun (i : Fin 1024) (k : Fin 1024) => by
  refine Eq.trans ?_ (v10_apply m c i k)
  have e := (index_at t).2.2.2.2.2.2.2.2.1
  blk_ext [iblk, e]

theorem block10 (t : Fin grid0.N) : iblk m c 10 t = argWQ m c := ext2 fun (i : Fin 1024) (k : Fin 2048) => by
  refine Eq.trans ?_ (v12_apply m c i k)
  have e := (index_at t).2.2.2.2.2.2.2.2.2.2.1
  blk_ext [iblk, e]

theorem block11 (t : Fin grid0.N) (hz : Fin 16) (n d : Fin 128) : iblk m c 11 t (ix3 hz n d)
    = argSK m c (ix4 (⟨hz.val / 2, by omega⟩ : Fin 8) (⟨hz.val % 2, by omega⟩ : Fin 2) n d) := by
  refine Eq.trans ?_ (v14_apply m c hz n d)
  have e := (index_at t).2.2.2.2.2.2.2.2.2.2.2.1
  blk_ext [iblk, e]

/-- The merged row, the normalised row and the queries of row `i` of the flattened arrays. -/
abbrev mergedAt (i : Fin 256) : Fin 1024 → EReal :=
  mergedOf (argX m c) (argY m c) (argU m c) (argA m c) (argB m c) (argD m c) (argGW m c) (argWO m c) (argWP m c) (seqOf i) (posOf i)
abbrev normedAt (i : Fin 256) : Fin 1024 → EReal :=
  normedOf (argX m c) (argY m c) (argU m c) (argA m c) (argB m c) (argD m c) (argGW m c) (argWO m c) (argWP m c)
    (argG m c) (seqOf i) (posOf i)
abbrev queryAt (i : Fin 256) : Fin 2048 → EReal :=
  queryOf (argX m c) (argY m c) (argU m c) (argA m c) (argB m c) (argD m c) (argGW m c) (argWO m c) (argWP m c)
    (argG m c) (argWQ m c) (seqOf i) (posOf i)
abbrev scoreRow (i : Fin 256) (h : Fin 8) (z : Fin 2) (n : Fin 128) : EReal :=
  scoreOf (argX m c) (argY m c) (argU m c) (argA m c) (argB m c) (argD m c) (argGW m c) (argWO m c) (argWP m c)
    (argG m c) (argWQ m c) (argSK m c) (seqOf i) (posOf i) h z n

theorem merged_eq (t : Fin grid0.N) (r : Fin 256) :
    mergedB (iblk m c 0 t) (iblk m c 1 t) (iblk m c 2 t) (iblk m c 3 t) (iblk m c 4 t) (iblk m c 5 t) (iblk m c 6 t) (iblk m c 7 t) (iblk m c 8 t) r
      = mergedAt m c r := by
  unfold mergedB mixedB mergedAt mergedOf mixedOf
  rw [block0, block1, block2, block3, block4, block5, block6, block7, block8]

theorem normed_eq (t : Fin grid0.N) (r : Fin 256) :
    normedB (iblk m c 0 t) (iblk m c 1 t) (iblk m c 2 t) (iblk m c 3 t) (iblk m c 4 t) (iblk m c 5 t) (iblk m c 6 t) (iblk m c 7 t) (iblk m c 8 t) (iblk m c 9 t) r
      = normedAt m c r := by
  unfold normedB normedAt normedOf
  rw [merged_eq, block9]

theorem query_eq (t : Fin grid0.N) (r : Fin 256) :
    queryB (iblk m c 0 t) (iblk m c 1 t) (iblk m c 2 t) (iblk m c 3 t) (iblk m c 4 t) (iblk m c 5 t) (iblk m c 6 t) (iblk m c 7 t) (iblk m c 8 t) (iblk m c 9 t) (iblk m c 10 t) r
      = queryAt m c r := by
  unfold queryB queryAt queryOf
  rw [normed_eq, block10]

/-- The rows after the merge. -/
theorem array12_eq : (dats m 0 c).arrAt 12 cfg0.N = fun i : S256x1024.Idx => mergedAt m c (i 0) (i 1) := by
  refine (dats m 0 c).arrAt_eq_of_covers 12 _ (by decide +kernel) fun t hf y => ?_
  have e := (index_at t).2.2.2.2.2.2.2.2.2.2.2.2.1
  have h0 : (win0_12.blk t).view.emb y 0 = y 0 := Fin.ext (by blk_simp [e])
  have h1 : (win0_12.blk t).view.emb y 1 = y 1 := Fin.ext (by blk_simp [e])
  blk_simp
  rw [after0_12]
  rw [h0, h1]
  exact (congrArg _ (split2 y)).trans ((out12_apply _ _ _ _ _ _ _ _ _ _ _ _ (y 0) (y 1)).trans
    (congrFun (merged_eq m c t (y 0)) (y 1)))

/-- The normalised rows. -/
theorem array13_eq : (dats m 0 c).arrAt 13 cfg0.N = fun i : S256x1024.Idx => normedAt m c (i 0) (i 1) := by
  refine (dats m 0 c).arrAt_eq_of_covers 13 _ (by decide +kernel) fun t hf y => ?_
  have e := (index_at t).2.2.2.2.2.2.2.2.2.2.2.2.2.1
  have h0 : (win0_13.blk t).view.emb y 0 = y 0 := Fin.ext (by blk_simp [e])
  have h1 : (win0_13.blk t).view.emb y 1 = y 1 := Fin.ext (by blk_simp [e])
  blk_simp
  rw [after0_13]
  rw [h0, h1]
  exact (congrArg _ (split2 y)).trans ((out13_apply _ _ _ _ _ _ _ _ _ _ _ _ (y 0) (y 1)).trans
    (congrFun (normed_eq m c t (y 0)) (y 1)))

/-- The token and the half-head of an index of the products. -/
abbrev stRow (i : S2x2048x128.Idx) : Fin 256 := ⟨128 * (i 0).val + (i 2).val, by
  have h0 : (i 0).val < 2 := (i 0).isLt
  have h2 : (i 2).val < 128 := (i 2).isLt
  omega⟩
abbrev stHead (i : S2x2048x128.Idx) : Fin 8 := ⟨(i 1).val / 128 / 2, by
  have h1 : (i 1).val < 2048 := (i 1).isLt
  omega⟩
abbrev stHalf (i : S2x2048x128.Idx) : Fin 2 := ⟨(i 1).val / 128 % 2, by omega⟩
abbrev stKey (i : S2x2048x128.Idx) : Fin 128 := ⟨(i 1).val % 128, by omega⟩

/-- The products with the sub-keys. -/
theorem array14_eq : (dats m 0 c).arrAt 14 cfg0.N
    = fun i : S2x2048x128.Idx => scoreRow m c (stRow i) (stHead i) (stHalf i) (stKey i) := by
  refine (dats m 0 c).arrAt_eq_of_covers 14 _ (by decide +kernel) fun t hf y => ?_
  have e := (index_at t).2.2.2.2.2.2.2.2.2.2.2.2.2.2
  have v0 : (win0_14.blk t).view.emb y 0 = y 0 := Fin.ext (by blk_simp [e])
  have v1 : (win0_14.blk t).view.emb y 1 = y 1 := Fin.ext (by blk_simp [e])
  have v2 : (win0_14.blk t).view.emb y 2 = y 2 := Fin.ext (by blk_simp [e])
  blk_simp
  rw [after0_14, out14_apply]
  unfold scoreAt laid scoreB
  rw [query_eq]
  refine (score_stacked _ _ _ _ _ _ _ _ _ _ _ _ _ _ _ (block11 m c t) _ _).trans
    (scoreOf_congr _ _ _ _ _ _ _ _ _ _ _ _ ?_ ?_ ?_ ?_ ?_)
  · show (128 * (y 0).val + (y 2).val) / 32 = (128 * ((win0_14.blk t).view.emb y 0).val + ((win0_14.blk t).view.emb y 2).val) / 32
    rw [v0, v2]
  · show (128 * (y 0).val + (y 2).val) % 32 = (128 * ((win0_14.blk t).view.emb y 0).val + ((win0_14.blk t).view.emb y 2).val) % 32
    rw [v0, v2]
  · show (y 1).val / 128 / 2 = ((win0_14.blk t).view.emb y 1).val / 128 / 2
    rw [v1]
  · show (y 1).val / 128 % 2 = ((win0_14.blk t).view.emb y 1).val / 128 % 2
    rw [v1]
  · show (y 1).val % 128 = ((win0_14.blk t).view.emb y 1).val % 128
    rw [v1]

end Cert.SampleMerge
end
-- ==== Proof.SampleMergeRef.lean ====
module

public import proofs.«01_k».proof.Proof.MergeRef
public import proofs.«01_k».proof.Proof.Gen.Reference6Ideal.Read
public import Idealize.ShloMosaic.Lib.Pointwise
public import Idealize.ShloMosaic.Lib.IdealHost

/-! What the reference's merge of the sample batch computes at an index of each of its results. -/

@[expose] public section

set_option maxRecDepth 16384

noncomputable section

namespace Cert.SampleMerge

open Idealize.ShloMosaic Cert.Layer Cert.Reference6Ideal Cert.Reference6Ideal.Read
open Cert.Merge (glu lo hi mixedOf mergedOf normedOf queryOf scoreOf query_congr scoreOf_congr one_div)

variable (X : S8x32x1024.Idx → EReal) (Y U A : S8x32x512.Idx → EReal) (B : S8x32x2048.Idx → EReal)
  (D : S512.Idx → EReal) (GW : S512x2048.Idx → EReal) (WO : S512x1024.Idx → EReal) (WP : S1024x1024.Idx → EReal)
  (G : S1024.Idx → EReal) (WQ : S1024x2048.Idx → EReal) (SK : S8x2x128x128.Idx → EReal) (b : Fin 8) (p : Fin 32)

theorem ref_glu (j : Fin 2048) : val_main_v6 (F := Ideal) Y U D GW (ix3 b p j)
    = glu (fun k => Y (ix3 b p k)) (fun k => U (ix3 b p k)) (fun k => D (ix1 k)) GW j := by
  pointwise [val_main_v6, val_main_v5, val_main_v4, val_main_v3, val_main_v2]
  rfl

/-- The output of the gated linear unit. -/
theorem ref_branch (j : Fin 1024) : val_main_v15 (F := Ideal) Y U D GW (ix3 b p j)
    = glu (fun k => Y (ix3 b p k)) (fun k => U (ix3 b p k)) (fun k => D (ix1 k)) GW (lo j)
      * Ideal.logistic (glu (fun k => Y (ix3 b p k)) (fun k => U (ix3 b p k)) (fun k => D (ix1 k)) GW (hi j)) := by
  rw [← ref_glu, ← ref_glu, ← one_div]
  pointwise [val_main_v15, val_main_v14, val_main_v13, val_main_cst_0, val_main_v12, val_main_v11, val_main_cst,
    val_main_v10, val_main_v9, val_main_v8, val_main_v7]

theorem ref_att (j : Fin 1024) : val_main_v16 (F := Ideal) A WO (ix3 b p j)
    = ∑ k : Fin 512, A (ix3 b p k) * WO (ix2 k j) := by
  pointwise [val_main_v16]

theorem ref_gate_a (j : Fin 1024) :
    val_main_v22 (F := Ideal) B (ix3 b p j) = Ideal.logistic (B (ix3 b p (lo j))) := by
  rw [← one_div]
  pointwise [val_main_v22, val_main_v21, val_main_cst_2, val_main_v20, val_main_v19, val_main_cst_1, val_main_v18,
    val_main_v17, val_main_v0]

theorem ref_gate_b (j : Fin 1024) :
    val_main_v29 (F := Ideal) B (ix3 b p j) = Ideal.logistic (B (ix3 b p (hi j))) := by
  rw [← one_div]
  pointwise [val_main_v29, val_main_v28, val_main_cst_4, val_main_v27, val_main_v26, val_main_cst_3, val_main_v25,
    val_main_v24, val_main_v1]

theorem ref_mixed (j : Fin 1024) :
    val_main_v31 (F := Ideal) Y U A B D GW WO (ix3 b p j) = mixedOf Y U A B D GW WO b p j := by
  pointwise [val_main_v31, val_main_v30, val_main_v23]
  rw [ref_gate_a, ref_gate_b, ref_branch, ref_att]
  rfl

theorem ref_merged (j : Fin 1024) :
    val_main_v33 (F := Ideal) X Y U A B D GW WO WP (ix3 b p j) = mergedOf X Y U A B D GW WO WP b p j := by
  pointwise [val_main_v33, val_main_v32]
  simp only [ref_mixed]
  rfl

theorem ref_normedM (j : Fin 1024) :
    val_main_v46 (F := Ideal) X Y U A B D GW WO WP G (ix3 b p j) = normedOf X Y U A B D GW WO WP G b p j := by
  pointwise [val_main_v46, val_main_v45, val_main_v44, val_main_v43, val_main_v42, val_main_v41, val_main_v40,
    val_main_v39, val_main_v38, val_main_v37, val_main_v36, val_main_v35, val_main_v34, val_main_cst_5,
    val_main_cst_6, val_main_cst_7]
  simp only [ref_merged]
  rfl

theorem ref_query (j : Fin 2048) :
    val_main_v47 (F := Ideal) X Y U A B D GW WO WP G WQ (ix3 b p j) = queryOf X Y U A B D GW WO WP G WQ b p j := by
  pointwise [val_main_v47]
  simp only [ref_normedM]
  rfl

theorem ref_heads (i : Fin 256) (h : Fin 8) (z : Fin 2) (d : Fin 128) :
    val_main_v48 (F := Ideal) X Y U A B D GW WO WP G WQ (ix4 i h z d)
      = queryOf X Y U A B D GW WO WP G WQ (⟨i.val / 32, by omega⟩ : Fin 8) (⟨i.val % 32, by omega⟩ : Fin 32)
          ⟨128 * (2 * h.val + z.val) + d.val, by omega⟩ := by
  pointwise [val_main_v48]
  rw [ref_query]
  exact query_congr _ _ _ _ _ _ _ _ _ _ _ (by first | rfl | (simp only []; omega))
    (by first | rfl | (simp only []; omega)) (by first | rfl | (simp only []; omega))

theorem ref_score (i : Fin 256) (h : Fin 8) (z : Fin 2) (n : Fin 128) :
    val_main_v49 (F := Ideal) X Y U A B D GW WO WP G WQ SK (ix4 h z n i)
      = scoreOf X Y U A B D GW WO WP G WQ SK (⟨i.val / 32, by omega⟩ : Fin 8) (⟨i.val % 32, by omega⟩ : Fin 32) h z n := by
  pointwise [val_main_v49]
  simp only [ref_heads]
  rfl

theorem ref53_apply (i : Fin 256) (j : Fin 1024) : val_main_v53 (F := Ideal) X Y U A B D GW WO WP (ix2 i j)
    = mergedOf X Y U A B D GW WO WP (⟨i.val / 32, by omega⟩ : Fin 8) (⟨i.val % 32, by omega⟩ : Fin 32) j := by
  pointwise [val_main_v53]
  rw [ref_merged]

theorem ref55_apply (i : Fin 256) (j : Fin 1024) : val_main_v55 (F := Ideal) X Y U A B D GW WO WP G (ix2 i j)
    = normedOf X Y U A B D GW WO WP G (⟨i.val / 32, by omega⟩ : Fin 8) (⟨i.val % 32, by omega⟩ : Fin 32) j := by
  pointwise [val_main_v55, val_main_v54]
  rw [ref_normedM]

theorem ref52_apply (g : Fin 2) (e : Fin 2048) (l : Fin 128) :
    val_main_v52 (F := Ideal) X Y U A B D GW WO WP G WQ SK (ix3 g e l)
      = scoreOf X Y U A B D GW WO WP G WQ SK (⟨(128 * g.val + l.val) / 32, by omega⟩ : Fin 8)
          (⟨(128 * g.val + l.val) % 32, by omega⟩ : Fin 32) (⟨e.val / 128 / 2, by omega⟩ : Fin 8)
          (⟨e.val / 128 % 2, by omega⟩ : Fin 2) (⟨e.val % 128, by omega⟩ : Fin 128) := by
  pointwise [val_main_v52, val_main_v51, val_main_v50]
  rw [ref_score]
  exact scoreOf_congr X Y U A B D GW WO WP G WQ SK (by first | rfl | (simp only []; omega))
    (by first | rfl | (simp only []; omega)) (by first | rfl | (simp only []; omega))
    (by first | rfl | (simp only []; omega)) (by first | rfl | (simp only []; omega))

end Cert.SampleMerge
end
-- ==== Proof.SampleMergeClaim.lean ====
module

public import proofs.«01_k».proof.Defs
public import proofs.«01_k».proof.Proof.SampleMergeArray
public import proofs.«01_k».proof.Proof.SampleMergeRef
public import proofs.«01_k».proof.Proof.Gen.Kernel6Ideal.Value
public import proofs.«01_k».proof.Proof.Gen.Reference6Ideal.Run
public import Idealize.ShloMosaic.Lib.Claim

/-! The claims about the merge of the sample batch: the reference's frame, and the three results. -/

@[expose] public section

noncomputable section

namespace Cert.SampleMerge

open Idealize.ShloMosaic Idealize.SL.Sem Cert.Layer
open Cert.Merge (split2 split3)

theorem frame_reference : quiescent_Reference6Ideal (hReference6Ideal := Reference6Ideal.Gen.facts) := fun m g _ =>
  (θ_run Reference6Ideal.defs _ _).mono (fun r h => ⟨fun c => (h c).2.2.2, sem_eq_zero_of_no_sems (by decide) r.2⟩)
    (Reference6Ideal.Value.run m g)

variable (m : (ℓ : Loc Kernel6Ideal.nD Kernel6Ideal.τ Kernel6Ideal.sig) → Buf (Elt Ideal) ℓ) (c : Dev Kernel6Ideal.nD)

theorem result12 : Reference6Ideal.Read.val_main_v53 (F := Ideal) (argX m c) (argY m c) (argU m c) (argA m c) (argB m c)
    (argD m c) (argGW m c) (argWO m c) (argWP m c) = (Kernel6Ideal.Gen.dats m 0 c).arrAt 12 Kernel6Ideal.cfg0.N := by
  rw [array12_eq]
  funext i
  exact (congrArg _ (split2 i)).trans (ref53_apply _ _ _ _ _ _ _ _ _ (i 0) (i 1))

theorem result13 : Reference6Ideal.Read.val_main_v55 (F := Ideal) (argX m c) (argY m c) (argU m c) (argA m c) (argB m c)
    (argD m c) (argGW m c) (argWO m c) (argWP m c) (argG m c)
    = (Kernel6Ideal.Gen.dats m 0 c).arrAt 13 Kernel6Ideal.cfg0.N := by
  rw [array13_eq]
  funext i
  exact (congrArg _ (split2 i)).trans (ref55_apply _ _ _ _ _ _ _ _ _ _ (i 0) (i 1))

theorem result14 : Reference6Ideal.Read.val_main_v52 (F := Ideal) (argX m c) (argY m c) (argU m c) (argA m c) (argB m c)
    (argD m c) (argGW m c) (argWO m c) (argWP m c) (argG m c) (argWQ m c) (argSK m c)
    = (Kernel6Ideal.Gen.dats m 0 c).arrAt 14 Kernel6Ideal.cfg0.N := by
  rw [array14_eq]
  funext i
  exact (congrArg _ (split3 i)).trans (ref52_apply _ _ _ _ _ _ _ _ _ _ _ _ (i 0) (i 1) (i 2))

theorem value : algebraic_Kernel6Ideal_Reference6Ideal (hKernel6Ideal := Kernel6Ideal.Gen.facts)
    (hReference6Ideal := Reference6Ideal.Gen.facts) := by
  pair_intro
  · run_from (Kernel6Ideal.Value.run_blocks m g)
  · run_from (Reference6Ideal.Value.run m' g')
    · rw [Reference6Ideal.Read.val_main_v53_eq]
      exact result12 m c
    · obtain ⟨h0, h1, h2, h3, h4, h5, h6, h7, h8, h9, _⟩ := hagree c
      rw [Reference6Ideal.Read.val_main_v55_eq, h0, h1, h2, h3, h4, h5, h6, h7, h8, h9]
      exact result13 m c
    · obtain ⟨h0, h1, h2, h3, h4, h5, h6, h7, h8, h9, h10, h11⟩ := hagree c
      rw [Reference6Ideal.Read.val_main_v52_eq, h0, h1, h2, h3, h4, h5, h6, h7, h8, h9, h10, h11]
      exact result14 m c

end Cert.SampleMerge
end
-- ==== Proof.RecBlock.lean ====
module

public import proofs.«01_k».proof.Proof.MergeBlock
public import proofs.«01_k».proof.Proof.Gen.Kernel7Ideal.Frame
public import Idealize.ShloMosaic.Lib.Pipeline.Value
public import Idealize.ShloMosaic.Lib.Pointwise

/-! The recurrence over the sample batch's 32 tokens: what one grid point, a group of channels, computes. -/

@[expose] public section

set_option maxRecDepth 16384

noncomputable section

namespace Cert.Rec

open Idealize.ShloMosaic Cert.Kernel7Ideal Cert.Kernel7Ideal.Gen
open Cert.Merge (zeros split2 ext2)

theorem zeros3 : (![0, 0, 0] : Fin 3 → ℕ) = fun _ => 0 := by
  funext a; fin_cases a <;> rfl

/-- An index of a block of one plane. -/
theorem plane {a b : ℕ} (y : (⟨3, ![1, a, b]⟩ : Shape).Idx) : y = ix3 (0 : Fin 1) (y 1 : Fin a) (y 2 : Fin b) := by
  funext x
  match x with
  | ⟨0, _⟩ => exact Fin.ext (show (y 0).val = 0 by have : (y 0).val < 1 := (y 0).isLt; omega)
  | ⟨1, _⟩ => rfl
  | ⟨2, _⟩ => rfl

/-- The one trip of the loop reads and writes the rows from 0 on. -/
theorem off1 : k0_off1 = ![0, 0] := by decide +kernel
theorem off2 : k0_off2 = ![0, 128] := by decide +kernel
theorem off3 : k0_off3 = ![0, 0] := by decide +kernel

theorem shift {o k a b : ℕ} (h : o = k) (hb : b = k + a) : b = o + 1 * a := by omega

/-- Column `p` of the second half of 256 columns. -/
abbrev hi (p : Fin 128) : Fin 256 := ⟨128 + p.val, by omega⟩
abbrev lo (p : Fin 128) : Fin 256 := ⟨p.val, by omega⟩

variable (x0 : Vec Ideal S1x8x512 .f32) (x1 : Vec Ideal S1x512x512 .f32) (x2 : Vec Ideal S1x512x256 .f32)
  (x3 : Vec Ideal S1x256x512 .f32) (x4 x5 : Vec Ideal S1x1x128 .f32) (x6 : Vec Ideal S1x8x256 .f32)

/-- The state after the tokens, its real and imaginary parts, and the output. -/
def stateRe (r : Fin 8) (p : Fin 128) : EReal :=
  x6 (ix3 0 r (lo p)) * x4 (ix3 0 0 p) - x6 (ix3 0 r (hi p)) * x5 (ix3 0 0 p)
    + ∑ k : Fin 512, x0 (ix3 0 r k) * x2 (ix3 0 k (lo p))
@[inherit_doc stateRe]
def stateIm (r : Fin 8) (p : Fin 128) : EReal :=
  x6 (ix3 0 r (lo p)) * x5 (ix3 0 0 p) + x6 (ix3 0 r (hi p)) * x4 (ix3 0 0 p)
    + ∑ k : Fin 512, x0 (ix3 0 r k) * x2 (ix3 0 k (hi p))
@[inherit_doc stateRe]
def output (r : Fin 8) (j : Fin 512) : EReal :=
  (∑ k : Fin 512, x0 (ix3 0 r k) * x1 (ix3 0 k j)) + ∑ q : Fin 256, x6 (ix3 0 r q) * x3 (ix3 0 q j)

theorem pay3_apply (r : Fin 8) (p : Fin 128) :
    k0_pay3 x0 x2 (ix2 r p) = ∑ k : Fin 512, x0 (ix3 0 r k) * x2 (ix3 0 k (lo p)) := by
  pointwise [k0_pay3, k0_pay2, k0_pay1]

theorem pay4_apply (r : Fin 8) (p : Fin 128) :
    k0_pay4 x0 x2 (ix2 r p) = ∑ k : Fin 512, x0 (ix3 0 r k) * x2 (ix3 0 k (hi p)) := by
  pointwise [k0_pay4, k0_pay2, k0_pay1]

variable (c : Dev nD) (i : grid0.Coords)
  (arg1 : Memref sig .tc .vmem S1x8x512 .f32) (harg1 : arg1.IsWhole)
  (arg2 : Memref sig .tc .vmem S1x512x512 .f32) (harg2 : arg2.IsWhole)
  (arg3 : Memref sig .tc .vmem S1x512x256 .f32) (harg3 : arg3.IsWhole)
  (arg4 : Memref sig .tc .vmem S1x256x512 .f32) (harg4 : arg4.IsWhole)
  (arg5 : Memref sig .tc .vmem S1x1x128 .f32) (harg5 : arg5.IsWhole)
  (arg6 : Memref sig .tc .vmem S1x1x128 .f32) (harg6 : arg6.IsWhole)
  (arg7 : Memref sig .tc .vmem S1x8x256 .f32) (harg7 : arg7.IsWhole)
  (arg8 : Memref sig .tc .vmem S1x8x512 .f32) (harg8 : arg8.IsWhole)
  (arg9 : Memref sig .tc .vmem S1x8x256 .f32) (harg9 : arg9.IsWhole)
  (arg10 arg11 : Memref sig .tc .vmem S8x128 .f32) (harg10 : arg10.IsWhole) (harg11 : arg11.IsWhole)
  (arg12 : Memref sig .tc .vmem S8x256 .f32) (harg12 : arg12.IsWhole)

/-- What a load of a whole memref reads, and what one of the halves of the states' columns does. -/
theorem whole {s : Shape} {a : Memref sig .tc .vmem s .f32} (ha : a.IsWhole) {o : Fin s.rank → ℕ}
    (hz : o = fun _ => 0) (inb : ∀ k, o k + s.size k ≤ s.size k) (x : Vec Ideal s .f32) :
    View.readAt (Elt Ideal) a.view (Rect.unit o s.size inb).toLoadRect (ha.unread x) = x := by
  rw [View.readAt_eq_ld, ha.read_unread, View.ld_unit_zero hz]

theorem stateAt {o : ℕ} (ho : o ≤ 128) (inb : ∀ k, (![0, 0, o] : Fin 3 → ℕ) k + S1x8x128.size k ≤ S1x8x256.size k)
    (r : Fin 8) (p : Fin 128) :
    View.readAt (Elt Ideal) arg7.view (Rect.unit (s := S1x8x256) ![0, 0, o] S1x8x128.size inb).toLoadRect
      (harg7.unread x6) (ix3 0 r p) = x6 (ix3 0 r (⟨o + p.val, by omega⟩ : Fin 256)) := by
  rw [View.readAt_eq_ld, harg7.read_unread]
  refine congrArg x6 (funext fun k => ?_)
  match k with
  | ⟨0, _⟩ => rfl
  | ⟨1, _⟩ => exact Fin.ext (show 0 + 1 * r.val = r.val by omega)
  | ⟨2, _⟩ => exact Fin.ext (show o + 1 * p.val = o + p.val by omega)

theorem row3 (r : Fin 8) (p : Fin 128) :
    (Rect.unit (s := S8x128) k0_off3 S8x128.size k0_off3_inb).toLoadRect.idx (ix2 r p) = ix2 r p := by
  funext k
  match k with
  | ⟨0, _⟩ => exact Fin.ext (show k0_off3 0 + 1 * r.val = r.val by rw [off3]; show 0 + 1 * r.val = r.val; omega)
  | ⟨1, _⟩ => exact Fin.ext (show k0_off3 1 + 1 * p.val = p.val by rw [off3]; show 0 + 1 * p.val = p.val; omega)

/-- What the two scratches of the products with the tokens hold at the rows that the step reads. -/
theorem v37_apply (r : Fin 8) (p : Fin 128) :
    kernelRun0_A.sl.v37 c arg1 harg1 arg3 harg3 arg10 x0 x2 (ix2 r p)
      = ∑ k : Fin 512, x0 (ix3 0 r k) * x2 (ix3 0 k (lo p)) := by
  unfold kernelRun0_A.sl.v37 kernelRun0_A.sl.HS0_1
  rw [View.readCov_eq_canon', View.canon_unit_zero zeros, whole harg1 zeros3, whole harg3 zeros3]
  exact (congrArg _ (row3 r p)).trans (pay3_apply x0 x2 r p)

theorem v45_apply (r : Fin 8) (p : Fin 128) :
    kernelRun0_A.sl.v45 c arg1 harg1 arg3 harg3 arg11 x0 x2 (ix2 r p)
      = ∑ k : Fin 512, x0 (ix3 0 r k) * x2 (ix3 0 k (hi p)) := by
  unfold kernelRun0_A.sl.v45 kernelRun0_A.sl.HS1_1
  rw [View.readCov_eq_canon', View.canon_unit_zero zeros, whole harg1 zeros3, whole harg3 zeros3]
  exact (congrArg _ (row3 r p)).trans (pay4_apply x0 x2 r p)

/-- The two halves of a row of the state, as the step takes them. -/
theorem r3_apply (r : Fin 8) (p : Fin 128) : kernelRun0_A.sl.r_3 c arg7 harg7 x6 (ix2 r p) = x6 (ix3 0 r (lo p)) := by
  unfold kernelRun0_A.sl.r_3
  pointwise [k0_pay7]
  exact (stateAt x6 arg7 harg7 (by omega) _ r p).trans (congrArg (fun q => x6 (ix3 0 r q)) (Fin.ext (Nat.zero_add _)))

theorem r4_apply (r : Fin 8) (p : Fin 128) : kernelRun0_A.sl.r_4 c arg7 harg7 x6 (ix2 r p) = x6 (ix3 0 r (hi p)) := by
  unfold kernelRun0_A.sl.r_4
  pointwise [k0_pay8]
  exact stateAt x6 arg7 harg7 (by omega) _ r p

theorem r1_apply (p : Fin 128) : kernelRun0_A.sl.r_1 c arg5 harg5 x4 (ix2 0 p) = x4 (ix3 0 0 p) := by
  unfold kernelRun0_A.sl.r_1
  rw [whole harg5 zeros3]
  pointwise [k0_pay5]

theorem r2_apply (p : Fin 128) : kernelRun0_A.sl.r_2 c arg6 harg6 x5 (ix2 0 p) = x5 (ix3 0 0 p) := by
  unfold kernelRun0_A.sl.r_2
  rw [whole harg6 zeros3]
  pointwise [k0_pay6]

/-- The scratch of the states that the chunks start from holds the state before the tokens: its two halves are
    written in two pieces. -/
theorem v56_apply (r : Fin 8) (q : Fin 256) : kernelRun0_A.sl.v56 c arg7 harg7 arg12 x6 (ix2 r q) = x6 (ix3 0 r q) := by
  have cover := View.cover_of_tiledL (kernelRun0_A.sl.HS2_2 c arg7 harg7 x6) S8x128.size (by sl_kernel_rfl) (ix2 r q)
  unfold kernelRun0_A.sl.v56
  rw [View.readCov_eq_canon']
  have e : (Rect.unit (s := S8x256) ![0, 0] S8x256.size inb_S8x256_S8x256_0_0).toLoadRect.idx (ix2 r q) = ix2 r q := by
    funext k
    match k with
    | ⟨0, _⟩ => exact Fin.ext (show 0 + 1 * r.val = r.val by omega)
    | ⟨1, _⟩ => exact Fin.ext (show 0 + 1 * q.val = q.val by omega)
  refine (congrArg _ e).trans ?_
  refine (View.canon_apply_of_pieces (Val := Elt Ideal) (e := .f32)
    (fun y : S8x256.Idx => x6 (ix3 0 (y 0 : Fin 8) (y 1 : Fin 256))) _ ?_ (ix2 r q) cover).trans rfl
  · unfold kernelRun0_A.sl.HS2_2
    refine List.forall_mem_cons.2 ⟨fun y => ?_, List.forall_mem_cons.2 ⟨fun y => ?_, fun pc hpc => nomatch hpc⟩⟩
    · refine (congrArg _ (split2 y)).trans ?_
      pointwise [k0_pay10]
      refine (r4_apply x6 c arg7 harg7 (y 0) (y 1)).trans (congrArg x6 (funext fun k => ?_))
      match k with
      | ⟨0, _⟩ => rfl
      | ⟨1, _⟩ => exact Fin.ext (shift (congrFun off2 0) (Nat.zero_add _).symm)
      | ⟨2, _⟩ => exact Fin.ext (shift (congrFun off2 1) rfl)
    · refine (congrArg _ (split2 y)).trans ?_
      pointwise [k0_pay9]
      refine (r3_apply x6 c arg7 harg7 (y 0) (y 1)).trans (congrArg x6 (funext fun k => ?_))
      match k with
      | ⟨0, _⟩ => rfl
      | ⟨1, _⟩ => exact Fin.ext (shift (congrFun off1 0) (Nat.zero_add _).symm)
      | ⟨2, _⟩ => exact Fin.ext (shift (congrFun off1 1) (Nat.zero_add _).symm)

theorem pay11_apply (r : Fin 8) (p : Fin 128) :
    k0_pay11 (kernelRun0_A.sl.r_1 c arg5 harg5 x4) (kernelRun0_A.sl.r_2 c arg6 harg6 x5) (kernelRun0_A.sl.r_3 c arg7 harg7 x6)
      (kernelRun0_A.sl.r_4 c arg7 harg7 x6) (kernelRun0_A.sl.v37 c arg1 harg1 arg3 harg3 arg10 x0 x2) (ix3 0 r p)
      = stateRe x0 x2 x4 x5 x6 r p := by
  pointwise [k0_pay11]
  rw [r1_apply, r2_apply, r3_apply, r4_apply, v37_apply]
  rfl

theorem pay12_apply (r : Fin 8) (p : Fin 128) :
    k0_pay12 (kernelRun0_A.sl.r_1 c arg5 harg5 x4) (kernelRun0_A.sl.r_2 c arg6 harg6 x5) (kernelRun0_A.sl.r_3 c arg7 harg7 x6)
      (kernelRun0_A.sl.r_4 c arg7 harg7 x6) (kernelRun0_A.sl.v45 c arg1 harg1 arg3 harg3 arg11 x0 x2) (ix3 0 r p)
      = stateIm x0 x2 x4 x5 x6 r p := by
  pointwise [k0_pay12]
  rw [r1_apply, r2_apply, r3_apply, r4_apply, v45_apply]
  rfl

/-- A row of the state: its real part in the first 128 columns, its imaginary part in the others. -/
def state (r : Fin 8) (q : Fin 256) : EReal :=
  if h : q.val < 128 then stateRe x0 x2 x4 x5 x6 r ⟨q.val, h⟩ else stateIm x0 x2 x4 x5 x6 r ⟨q.val - 128, by omega⟩

theorem state_lo (r r' : Fin 8) (p : Fin 128) (q : Fin 256) (hr : r' = r) (hq : q.val = p.val) :
    state x0 x2 x4 x5 x6 r' q = stateRe x0 x2 x4 x5 x6 r p := by
  subst hr
  unfold state
  rw [dif_pos (by omega)]
  exact congrArg _ (Fin.ext hq)

theorem state_hi (r r' : Fin 8) (p : Fin 128) (q : Fin 256) (hr : r' = r) (hq : q.val = 128 + p.val) :
    state x0 x2 x4 x5 x6 r' q = stateIm x0 x2 x4 x5 x6 r p := by
  subst hr
  unfold state
  rw [dif_neg (by omega)]
  exact congrArg _ (Fin.ext (show q.val - 128 = p.val by omega))

theorem out8_apply (y : S1x8x256.Idx) :
    out0_A_8 c i arg1 harg1 arg2 harg2 arg3 harg3 arg4 harg4 arg5 harg5 arg6 harg6 arg7 harg7 arg8 harg8 arg9 harg9
      arg10 harg10 arg11 harg11 arg12 harg12 x0 x1 x2 x3 x4 x5 x6 y = state x0 x2 x4 x5 x6 (y 1) (y 2) := by
  have cover := cover0_A_8 c i arg1 harg1 arg2 harg2 arg3 harg3 arg4 harg4 arg5 harg5 arg6 harg6 arg7 harg7 arg8 harg8 arg9 harg9
      arg10 harg10 arg11 harg11 arg12 harg12 x0 x1 x2 x3 x4 x5 x6 y
  unfold out0_A_8
  rw [View.read_writes_junk_eq_canon]
  refine View.canon_apply_of_pieces (Val := Elt Ideal) (e := .f32)
    (fun y : S1x8x256.Idx => state x0 x2 x4 x5 x6 (y 1) (y 2)) _ ?_ y cover
  unfold kernelRun0_A
  dsimp only
  refine List.forall_mem_cons.2 ⟨fun y => ?_, List.forall_mem_cons.2 ⟨fun y => ?_, fun pc hpc => nomatch hpc⟩⟩
  · refine Eq.trans ?_ (state_hi x0 x2 x4 x5 x6 (y 1) _ (y 2) _ (Fin.ext (show 0 + 1 * (y 1).val = (y 1).val by omega))
      (show 128 + 1 * (y 2).val = 128 + (y 2).val by omega)).symm
    refine (congrArg _ (plane y)).trans ?_
    exact pay12_apply x0 x2 x4 x5 x6 c arg1 harg1 arg3 harg3 arg5 harg5 arg6 harg6 arg7 harg7 arg11 (y 1) (y 2)
  · refine Eq.trans ?_ (state_lo x0 x2 x4 x5 x6 (y 1) _ (y 2) _ (Fin.ext (show 0 + 1 * (y 1).val = (y 1).val by omega))
      (show 0 + 1 * (y 2).val = (y 2).val by omega)).symm
    refine (congrArg _ (plane y)).trans ?_
    exact pay11_apply x0 x2 x4 x5 x6 c arg1 harg1 arg3 harg3 arg5 harg5 arg6 harg6 arg7 harg7 arg10 (y 1) (y 2)

theorem out7_apply (r : Fin 8) (j : Fin 512) :
    out0_A_7 c i arg1 harg1 arg2 harg2 arg3 harg3 arg4 harg4 arg5 harg5 arg6 harg6 arg7 harg7 arg8 harg8 arg9 harg9
      arg10 harg10 arg11 harg11 arg12 harg12 x0 x1 x2 x3 x4 x5 x6 (ix3 0 r j)
      = output x0 x1 x3 x6 r j := by
  unfold out0_A_7
  rw [View.read_writes_junk_eq_canon]
  unfold kernelRun0_A
  dsimp only
  refine (congrFun (View.canon_unit_zero zeros3 _ _) _).trans ?_
  unfold kernelRun0_A.sl.r_5 kernelRun0_A.sl.r
  rw [whole harg1 zeros3, whole harg2 zeros3, whole harg4 zeros3]
  pointwise [k0_pay13, k0_pay1]
  simp only [v56_apply]
  rfl

end Cert.Rec
end
-- ==== Proof.RecArray.lean ====
module

public import proofs.«01_k».proof.Proof.RecBlock
public import proofs.«01_k».proof.Proof.Gen.Kernel7Ideal.Value
public import Idealize.ShloMosaic.Lib.StableHlo.ReadAt
public import Idealize.ShloMosaic.Lib.Pipeline.ValueKit.Point

/-! What the two arrays of the recurrence hold after the run. -/

@[expose] public section

set_option maxRecDepth 16384

noncomputable section

namespace Cert.Rec

open Idealize.ShloMosaic Cert.Kernel7Ideal Cert.Kernel7Ideal.Gen
open Cert.Merge (split3)

variable (m : (ℓ : Loc nD τ sig) → Buf (Elt Ideal) ℓ) (c : Dev nD)

/-- The ten arguments, as arrays. -/
abbrev argU : S8x32x512.Idx → EReal := m ((c.tc : Thread nD τ).loc main_arg0)
abbrev argHR : S8x32x64.Idx → EReal := m ((c.tc : Thread nD τ).loc main_arg1)
abbrev argHI : S8x32x64.Idx → EReal := m ((c.tc : Thread nD τ).loc main_arg2)
abbrev argK : S32x512x512.Idx → EReal := m ((c.tc : Thread nD τ).loc main_arg3)
abbrev argBR : S32x512x64.Idx → EReal := m ((c.tc : Thread nD τ).loc main_arg4)
abbrev argBI : S32x512x64.Idx → EReal := m ((c.tc : Thread nD τ).loc main_arg5)
abbrev argMR : S32x64x512.Idx → EReal := m ((c.tc : Thread nD τ).loc main_arg6)
abbrev argMI : S32x64x512.Idx → EReal := m ((c.tc : Thread nD τ).loc main_arg7)
abbrev argAR : S32x64.Idx → EReal := m ((c.tc : Thread nD τ).loc main_arg8)
abbrev argAI : S32x64.Idx → EReal := m ((c.tc : Thread nD τ).loc main_arg9)

/-- 64 values in the first half of 128 lanes, the others zero. -/
def pad (A : Fin 64 → EReal) (p : Fin 128) : EReal := if h : p.val < 64 then A ⟨p.val, h⟩ else 0

/-- Two rows of 64 values, each in 128 lanes of its own. -/
def lanes (A B : Fin 64 → EReal) (q : Fin 256) : EReal :=
  if h : q.val < 128 then pad A ⟨q.val, h⟩ else pad B ⟨q.val - 128, by omega⟩

/-- Input `k` of group `g`: channel `k % 16` of token `k / 16`. -/
abbrev token (k : Fin 512) : Fin 32 := ⟨k.val / 16, by omega⟩
abbrev channel (g : Fin 32) (k : Fin 512) : Fin 512 := ⟨16 * g.val + k.val % 16, by omega⟩

theorem v19_apply (g : Fin 32) (r : Fin 8) (k : Fin 512) :
    V m c main_v19 (ix3 g r k) = argU m c (ix3 r (token k) (channel g k)) := by
  unfold V
  after_reads_at
  exact congrArg (fun x => argU m c (ix3 r (token k) x)) (Fin.ext (show g.val * 16 + k.val % 16 = 16 * g.val + k.val % 16 by omega))

/-- Two rows of 64 values side by side, a row of zeros after each. -/
theorem four (A B : Fin 64 → EReal) (q : Fin 256) :
    (if h : q.val < 64 then A ⟨q.val, h⟩ else if q.val - 64 < 64 then 0
      else if h : q.val - 64 - 64 < 64 then B ⟨q.val - 64 - 64, h⟩ else 0) = lanes A B q := by
  unfold lanes pad
  by_cases h : q.val < 64
  · rw [dif_pos h, dif_pos (by omega), dif_pos h]
  rw [dif_neg h]
  by_cases h1 : q.val < 128
  · rw [if_pos (by omega), dif_pos h1, dif_neg h]
  rw [if_neg (by omega), dif_neg h1]
  by_cases h2 : q.val < 192
  · rw [dif_pos (by omega), dif_pos (by show q.val - 128 < 64; omega)]
    exact congrArg B (Fin.ext (show q.val - 64 - 64 = q.val - 128 by omega))
  · rw [dif_neg (by omega), dif_neg (by show ¬ q.val - 128 < 64; omega)]

theorem v22_apply (g : Fin 32) (r : Fin 8) (q : Fin 256) :
    V m c main_v22 (ix3 g r q) = lanes (fun p => argHR m c (ix3 r g p)) (fun p => argHI m c (ix3 r g p)) q := by
  rw [← four]
  unfold V
  after_reads_at
  by_cases h : q.val < 64
  · rw [dif_pos h, dif_pos h]
    after_reads_at
  rw [dif_neg h, dif_neg h]
  by_cases h1 : q.val - 64 < 64
  · rw [dif_pos h1, if_pos h1]
    after_reads_at
  rw [dif_neg h1, if_neg h1]
  by_cases h2 : q.val - 64 - 64 < 64
  · rw [dif_pos h2, dif_pos h2]
    after_reads_at
  · rw [dif_neg h2, dif_neg h2]
    after_reads_at

theorem v4_apply (g : Fin 32) (k : Fin 512) (q : Fin 256) :
    V m c main_v4 (ix3 g k q) = lanes (fun p => argBR m c (ix3 g k p)) (fun p => argBI m c (ix3 g k p)) q := by
  unfold V lanes pad
  after_reads_at
  split <;> split <;> after_reads_at

theorem v10_apply (g : Fin 32) (q : Fin 256) (j : Fin 512) :
    V m c main_v10 (ix3 g q j) = lanes (fun p => argMR m c (ix3 g p j)) (fun p => -argMI m c (ix3 g p j)) q := by
  unfold V lanes pad
  after_reads_at
  split <;> split <;> after_reads_at

theorem v13_apply (g : Fin 32) (p : Fin 128) : V m c main_v13 (ix3 g 0 p) = pad (fun p => argAR m c (ix2 g p)) p := by
  unfold V pad
  after_reads_at
  split <;> after_reads_at

theorem v16_apply (g : Fin 32) (p : Fin 128) : V m c main_v16 (ix3 g 0 p) = pad (fun p => argAI m c (ix2 g p)) p := by
  unfold V pad
  after_reads_at
  split <;> after_reads_at

/-- In a sum over the lanes, the zero lanes drop out. -/
theorem pad_sum (A C : Fin 64 → EReal) : (∑ p : Fin 128, pad A p * pad C p) = ∑ p : Fin 64, A p * C p := by
  refine (Fin.sum_univ_add (a := 64) (b := 64) fun p => pad A p * pad C p).trans ?_
  have zero : (∑ p : Fin 64, pad A (Fin.natAdd 64 p) * pad C (Fin.natAdd 64 p)) = 0 :=
    Finset.sum_eq_zero fun p _ => by
      unfold pad
      rw [dif_neg (by show ¬ 64 + p.val < 64; omega), zero_mul]
  rw [zero, add_zero]
  refine Finset.sum_congr rfl fun p _ => ?_
  unfold pad
  rw [dif_pos (show (Fin.castAdd 64 p).val < 64 from p.isLt), dif_pos (show (Fin.castAdd 64 p).val < 64 from p.isLt)]
  rfl

theorem lanes_sum (A B C D : Fin 64 → EReal) :
    (∑ q : Fin 256, lanes A B q * lanes C D q) = (∑ p : Fin 64, A p * C p) + ∑ p : Fin 64, B p * D p := by
  have left (A B : Fin 64 → EReal) (p : Fin 128) : lanes A B (Fin.castAdd 128 p) = pad A p := by
    unfold lanes
    rw [dif_pos (show (Fin.castAdd 128 p).val < 128 from p.isLt)]
    rfl
  have right (A B : Fin 64 → EReal) (p : Fin 128) : lanes A B (Fin.natAdd 128 p) = pad B p := by
    unfold lanes
    rw [dif_neg (show ¬ (Fin.natAdd 128 p).val < 128 by show ¬ 128 + p.val < 128; omega)]
    exact congrArg (pad B) (Fin.ext (show 128 + p.val - 128 = p.val by omega))
  refine (Fin.sum_univ_add (a := 128) (b := 128) fun q => lanes A B q * lanes C D q).trans ?_
  simp only [left, right, pad_sum]

theorem index_at : ∀ t : Fin grid0.N,
    win0_0.index t = ![t.val, 0, 0] ∧ win0_1.index t = ![t.val, 0, 0] ∧ win0_2.index t = ![t.val, 0, 0] ∧
    win0_3.index t = ![t.val, 0, 0] ∧ win0_4.index t = ![t.val, 0, 0] ∧ win0_5.index t = ![t.val, 0, 0] ∧
    win0_6.index t = ![t.val, 0, 0] ∧ win0_7.index t = ![t.val, 0, 0] ∧ win0_8.index t = ![t.val, 0, 0] := by
  decide +kernel

/-- The group of grid point `t`. -/
abbrev groupOf (t : Fin grid0.N) : Fin 32 := ⟨t.val, t.isLt⟩

theorem block0 (t : Fin grid0.N) (r : Fin 8) (k : Fin 512) :
    iblk m c 0 t (ix3 0 r k) = V m c main_v19 (ix3 (groupOf t) r k) := by
  have e := (index_at t).1
  blk_ext [iblk, e]

theorem block1 (t : Fin grid0.N) (k j : Fin 512) :
    iblk m c 1 t (ix3 0 k j) = argK m c (ix3 (groupOf t) k j) := by
  have e := (index_at t).2.1
  refine Eq.trans ?_ (congrFun (V_main_arg3 m c) _)
  blk_ext [iblk, e]

theorem block2 (t : Fin grid0.N) (k : Fin 512) (q : Fin 256) :
    iblk m c 2 t (ix3 0 k q) = V m c main_v4 (ix3 (groupOf t) k q) := by
  have e := (index_at t).2.2.1
  blk_ext [iblk, e]

theorem block3 (t : Fin grid0.N) (q : Fin 256) (j : Fin 512) :
    iblk m c 3 t (ix3 0 q j) = V m c main_v10 (ix3 (groupOf t) q j) := by
  have e := (index_at t).2.2.2.1
  blk_ext [iblk, e]

theorem block4 (t : Fin grid0.N) (p : Fin 128) :
    iblk m c 4 t (ix3 0 0 p) = V m c main_v13 (ix3 (groupOf t) 0 p) := by
  have e := (index_at t).2.2.2.2.1
  blk_ext [iblk, e]

theorem block5 (t : Fin grid0.N) (p : Fin 128) :
    iblk m c 5 t (ix3 0 0 p) = V m c main_v16 (ix3 (groupOf t) 0 p) := by
  have e := (index_at t).2.2.2.2.2.1
  blk_ext [iblk, e]

theorem block6 (t : Fin grid0.N) (r : Fin 8) (q : Fin 256) :
    iblk m c 6 t (ix3 0 r q) = V m c main_v22 (ix3 (groupOf t) r q) := by
  have e := (index_at t).2.2.2.2.2.2.1
  blk_ext [iblk, e]

/-! The state after the chunk and its output, of the arguments. -/

section Spec

variable (U : S8x32x512.Idx → EReal) (HR HI : S8x32x64.Idx → EReal) (K : S32x512x512.Idx → EReal)
    (BR BI : S32x512x64.Idx → EReal) (MR MI : S32x64x512.Idx → EReal) (AR AI : S32x64.Idx → EReal)

def lastRe (g : Fin 32) (r : Fin 8) (p : Fin 64) : EReal :=
  HR (ix3 r g p) * AR (ix2 g p) - HI (ix3 r g p) * AI (ix2 g p)
    + ∑ k : Fin 512, U (ix3 r (token k) (channel g k)) * BR (ix3 g k p)

def lastIm (g : Fin 32) (r : Fin 8) (p : Fin 64) : EReal :=
  HR (ix3 r g p) * AI (ix2 g p) + HI (ix3 r g p) * AR (ix2 g p)
    + ∑ k : Fin 512, U (ix3 r (token k) (channel g k)) * BI (ix3 g k p)

def outputAt (g : Fin 32) (r : Fin 8) (j : Fin 512) : EReal :=
  (∑ k : Fin 512, U (ix3 r (token k) (channel g k)) * K (ix3 g k j))
    + ((∑ p : Fin 64, HR (ix3 r g p) * MR (ix3 g p j)) + ∑ p : Fin 64, HI (ix3 r g p) * -MI (ix3 g p j))

end Spec

theorem lanes_lo (A B : Fin 64 → EReal) (p : Fin 128) : lanes A B (lo p) = pad A p := dif_pos p.isLt

theorem lanes_hi (A B : Fin 64 → EReal) (p : Fin 128) : lanes A B (hi p) = pad B p := by
  unfold lanes
  rw [dif_neg (show ¬ 128 + p.val < 128 by omega)]
  exact congrArg (pad B) (Fin.ext (show 128 + p.val - 128 = p.val by omega))

theorem output_at (t : Fin grid0.N) (r : Fin 8) (j : Fin 512) :
    output (iblk m c 0 t) (iblk m c 1 t) (iblk m c 3 t) (iblk m c 6 t) r j
      = outputAt (argU m c) (argHR m c) (argHI m c) (argK m c) (argMR m c) (argMI m c) (groupOf t) r j := by
  refine congrArg₂ (· + ·) (Finset.sum_congr rfl fun k _ => congrArg₂ (· * ·) ?_ (block1 m c t k j)) ?_
  · exact (block0 m c t r k).trans (v19_apply m c _ r k)
  · refine Eq.trans (Finset.sum_congr rfl fun q _ => congrArg₂ (· * ·) ?_ ?_) (lanes_sum _ _ _ _)
    · exact (block6 m c t r q).trans (v22_apply m c _ r q)
    · exact (block3 m c t q j).trans (v10_apply m c _ q j)

theorem pad_zero (A : Fin 64 → EReal) (p : Fin 128) (h : ¬ p.val < 64) : pad A p = 0 := dif_neg h

theorem pad_of_lt (A : Fin 64 → EReal) (p : Fin 128) (h : p.val < 64) : pad A p = A ⟨p.val, h⟩ := dif_pos h

theorem u_at (t : Fin grid0.N) (r : Fin 8) (k : Fin 512) :
    iblk m c 0 t (ix3 0 r k) = argU m c (ix3 r (token k) (channel (groupOf t) k)) :=
  (block0 m c t r k).trans (v19_apply m c _ r k)

theorem h_lo (t : Fin grid0.N) (r : Fin 8) (p : Fin 128) :
    iblk m c 6 t (ix3 0 r (lo p)) = pad (fun p => argHR m c (ix3 r (groupOf t) p)) p :=
  (block6 m c t r _).trans ((v22_apply m c _ r _).trans (lanes_lo _ _ p))

theorem h_hi (t : Fin grid0.N) (r : Fin 8) (p : Fin 128) :
    iblk m c 6 t (ix3 0 r (hi p)) = pad (fun p => argHI m c (ix3 r (groupOf t) p)) p :=
  (block6 m c t r _).trans ((v22_apply m c _ r _).trans (lanes_hi _ _ p))

theorem b_lo (t : Fin grid0.N) (k : Fin 512) (p : Fin 128) :
    iblk m c 2 t (ix3 0 k (lo p)) = pad (fun p => argBR m c (ix3 (groupOf t) k p)) p :=
  (block2 m c t k _).trans ((v4_apply m c _ k _).trans (lanes_lo _ _ p))

theorem b_hi (t : Fin grid0.N) (k : Fin 512) (p : Fin 128) :
    iblk m c 2 t (ix3 0 k (hi p)) = pad (fun p => argBI m c (ix3 (groupOf t) k p)) p :=
  (block2 m c t k _).trans ((v4_apply m c _ k _).trans (lanes_hi _ _ p))

theorem a_re (t : Fin grid0.N) (p : Fin 128) :
    iblk m c 4 t (ix3 0 0 p) = pad (fun p => argAR m c (ix2 (groupOf t) p)) p :=
  (block4 m c t p).trans (v13_apply m c _ p)

theorem a_im (t : Fin grid0.N) (p : Fin 128) :
    iblk m c 5 t (ix3 0 0 p) = pad (fun p => argAI m c (ix2 (groupOf t) p)) p :=
  (block5 m c t p).trans (v16_apply m c _ p)

theorem stateRe_at (t : Fin grid0.N) (r : Fin 8) (p : Fin 128) :
    stateRe (iblk m c 0 t) (iblk m c 2 t) (iblk m c 4 t) (iblk m c 5 t) (iblk m c 6 t) r p
      = pad (lastRe (argU m c) (argHR m c) (argHI m c) (argBR m c) (argAR m c) (argAI m c) (groupOf t) r) p := by
  refine Eq.trans (congrArg₂ (· + ·) (congrArg₂ (· - ·) (congrArg₂ (· * ·) (h_lo m c t r p) (a_re m c t p))
    (congrArg₂ (· * ·) (h_hi m c t r p) (a_im m c t p)))
    (Finset.sum_congr rfl fun k _ => congrArg₂ (· * ·) (u_at m c t r k) (b_lo m c t k p))) ?_
  by_cases h : p.val < 64
  · simp only [pad_of_lt _ _ h]
    rfl
  · simp only [pad_zero _ _ h, mul_zero, Finset.sum_const_zero, sub_zero, add_zero]

theorem stateIm_at (t : Fin grid0.N) (r : Fin 8) (p : Fin 128) :
    stateIm (iblk m c 0 t) (iblk m c 2 t) (iblk m c 4 t) (iblk m c 5 t) (iblk m c 6 t) r p
      = pad (lastIm (argU m c) (argHR m c) (argHI m c) (argBI m c) (argAR m c) (argAI m c) (groupOf t) r) p := by
  refine Eq.trans (congrArg₂ (· + ·) (congrArg₂ (· + ·) (congrArg₂ (· * ·) (h_lo m c t r p) (a_im m c t p))
    (congrArg₂ (· * ·) (h_hi m c t r p) (a_re m c t p)))
    (Finset.sum_congr rfl fun k _ => congrArg₂ (· * ·) (u_at m c t r k) (b_hi m c t k p))) ?_
  by_cases h : p.val < 64
  · simp only [pad_of_lt _ _ h]
    rfl
  · simp only [pad_zero _ _ h, mul_zero, Finset.sum_const_zero, add_zero]

theorem state_at (t : Fin grid0.N) (r : Fin 8) (q : Fin 256) :
    state (iblk m c 0 t) (iblk m c 2 t) (iblk m c 4 t) (iblk m c 5 t) (iblk m c 6 t) r q
      = lanes (lastRe (argU m c) (argHR m c) (argHI m c) (argBR m c) (argAR m c) (argAI m c) (groupOf t) r)
          (lastIm (argU m c) (argHR m c) (argHI m c) (argBI m c) (argAR m c) (argAI m c) (groupOf t) r) q := by
  unfold state lanes
  split
  · exact stateRe_at m c t r _
  · exact stateIm_at m c t r _

/-- What the body leaves in the two output blocks of grid point `t`. -/
theorem outs7 (t : Fin cfg0.N) (r : Fin 8) (j : Fin 512) : (outsAt0 m c t).1 (ix3 0 r j)
    = outputAt (argU m c) (argHR m c) (argHI m c) (argK m c) (argMR m c) (argMI m c) (groupOf t) r j := by
  unfold outsAt0
  dsimp only
  rw [out7_apply]
  exact output_at m c t r j

theorem outs8 (t : Fin cfg0.N) (y : S1x8x256.Idx) : (outsAt0 m c t).2 y
    = lanes (lastRe (argU m c) (argHR m c) (argHI m c) (argBR m c) (argAR m c) (argAI m c) (groupOf t) (y 1))
        (lastIm (argU m c) (argHR m c) (argHI m c) (argBI m c) (argAR m c) (argAI m c) (groupOf t) (y 1)) (y 2) := by
  unfold outsAt0
  dsimp only
  rw [out8_apply]
  exact state_at m c t (y 1) (y 2)

/-- The output array after the run. -/
theorem array7_eq : (dats m 0 c).arrAt 7 cfg0.N
    = fun i : S32x8x512.Idx =>
        outputAt (argU m c) (argHR m c) (argHI m c) (argK m c) (argMR m c) (argMI m c) (i 0) (i 1) (i 2) := by
  refine (dats m 0 c).arrAt_eq_of_covers 7 _ (by decide +kernel) fun t hf y => ?_
  have e := (index_at t).2.2.2.2.2.2.2.1
  have y0 : (y 0).val < 1 := (y 0).isLt
  have h0 : (win0_7.blk t).view.emb y 0 = groupOf t := Fin.ext (by blk_simp [e])
  have h1 : (win0_7.blk t).view.emb y 1 = y 1 := Fin.ext (by blk_simp [e])
  have h2 : (win0_7.blk t).view.emb y 2 = y 2 := Fin.ext (by blk_simp [e])
  simp only [h0, h1, h2]
  blk_simp
  rw [after0_7]
  exact (congrArg _ (plane y)).trans (outs7 m c t (y 1) (y 2))

/-- The array of the states after the run. -/
theorem array8_eq : (dats m 0 c).arrAt 8 cfg0.N
    = fun i : S32x8x256.Idx =>
        lanes (lastRe (argU m c) (argHR m c) (argHI m c) (argBR m c) (argAR m c) (argAI m c) (i 0) (i 1))
          (lastIm (argU m c) (argHR m c) (argHI m c) (argBI m c) (argAR m c) (argAI m c) (i 0) (i 1)) (i 2) := by
  refine (dats m 0 c).arrAt_eq_of_covers 8 _ (by decide +kernel) fun t hf y => ?_
  have e := (index_at t).2.2.2.2.2.2.2.2
  have y0 : (y 0).val < 1 := (y 0).isLt
  have h0 : (win0_8.blk t).view.emb y 0 = groupOf t := Fin.ext (by blk_simp [e])
  have h1 : (win0_8.blk t).view.emb y 1 = y 1 := Fin.ext (by blk_simp [e])
  have h2 : (win0_8.blk t).view.emb y 2 = y 2 := Fin.ext (by blk_simp [e])
  simp only [h0, h1, h2]
  blk_simp
  rw [after0_8]
  exact outs8 m c t y

end Cert.Rec
end
-- ==== Proof.RecRef.lean ====
module

public import proofs.«01_k».proof.Proof.RecArray
public import proofs.«01_k».proof.Proof.Gen.Reference7Ideal.Read
public import Idealize.ShloMosaic.Lib.Pointwise
public import Idealize.ShloMosaic.Lib.IdealHost

/-! What the reference's recurrence computes at an index of each of its results. -/

@[expose] public section

set_option maxRecDepth 16384

noncomputable section

namespace Cert.Rec

open Idealize.ShloMosaic Cert.Reference7Ideal Cert.Reference7Ideal.Read

variable (U : S8x32x512.Idx → EReal) (HR HI : S8x32x64.Idx → EReal) (K : S32x512x512.Idx → EReal)
    (BR BI : S32x512x64.Idx → EReal) (MR MI : S32x64x512.Idx → EReal) (AR AI : S32x64.Idx → EReal)
    (g : Fin 32) (r : Fin 8)

theorem ref_u (k : Fin 512) : val_main_v2 (F := Ideal) U (ix3 g r k) = U (ix3 r (token k) (channel g k)) := by
  pointwise [val_main_v2, val_main_v1, val_main_v0]
  exact congrArg (fun x => U (ix3 r (token k) x)) (Fin.ext (show g.val * 16 + k.val % 16 = 16 * g.val + k.val % 16 by omega))

theorem ref_re (p : Fin 64) :
    val_main_v13 (F := Ideal) U HR HI BR AR AI (ix3 g r p) = lastRe U HR HI BR AR AI g r p := by
  pointwise [val_main_v13, val_main_v12, val_main_v11, val_main_v10, val_main_v9, val_main_v8, val_main_v7, val_main_v6,
    val_main_v5, val_main_v4, val_main_v3]
  simp only [ref_u]
  rfl

theorem ref_im (p : Fin 64) :
    val_main_v20 (F := Ideal) U HR HI BI AR AI (ix3 g r p) = lastIm U HR HI BI AR AI g r p := by
  pointwise [val_main_v20, val_main_v19, val_main_v18, val_main_v17, val_main_v16, val_main_v15, val_main_v14, val_main_v6,
    val_main_v5, val_main_v4, val_main_v3]
  simp only [ref_u]
  rfl

theorem ref26_apply (j : Fin 512) :
    val_main_v26 (F := Ideal) U HR HI K MR MI (ix3 g r j) = outputAt U HR HI K MR MI g r j := by
  pointwise [val_main_v26, val_main_v25, val_main_v24, val_main_v23, val_main_v22, val_main_v21, val_main_v4, val_main_v3]
  simp only [ref_u]
  rfl

theorem ref_zero (p : Fin 64) : val_main_v27 (F := Ideal) (ix3 g r p) = 0 := by
  pointwise [val_main_v27, val_main_cst]

theorem ref28_apply (q : Fin 256) :
    val_main_v28 (F := Ideal) U HR HI BR BI AR AI (ix3 g r q)
      = lanes (lastRe U HR HI BR AR AI g r) (lastIm U HR HI BI AR AI g r) q := by
  rw [← four]
  pointwise [val_main_v28]
  simp only [ref_re, ref_im, ref_zero]
  rfl

end Cert.Rec
end
-- ==== Proof.RecClaim.lean ====
module

public import proofs.«01_k».proof.Defs
public import proofs.«01_k».proof.Proof.RecArray
public import proofs.«01_k».proof.Proof.RecRef
public import proofs.«01_k».proof.Proof.Gen.Kernel7Ideal.Value
public import proofs.«01_k».proof.Proof.Gen.Reference7Ideal.Run
public import Idealize.ShloMosaic.Lib.Claim

/-! The claims about the recurrence of the sample batch: the reference's frame, and the two results. -/

@[expose] public section

noncomputable section

namespace Cert.Rec

open Idealize.ShloMosaic Idealize.SL.Sem
open Cert.Merge (split3)

theorem frame_reference : quiescent_Reference7Ideal (hReference7Ideal := Reference7Ideal.Gen.facts) := fun m g _ =>
  (θ_run Reference7Ideal.defs _ _).mono (fun r h => ⟨fun c => (h c).2.2, sem_eq_zero_of_no_sems (by decide) r.2⟩)
    (Reference7Ideal.Value.run m g)

variable (m : (ℓ : Loc Kernel7Ideal.nD Kernel7Ideal.τ Kernel7Ideal.sig) → Buf (Elt Ideal) ℓ) (c : Dev Kernel7Ideal.nD)

theorem result7 : Reference7Ideal.Read.val_main_v26 (F := Ideal) (argU m c) (argHR m c) (argHI m c) (argK m c) (argMR m c)
    (argMI m c) = (Kernel7Ideal.Gen.dats m 0 c).arrAt 7 Kernel7Ideal.cfg0.N := by
  rw [array7_eq]
  funext i
  exact (congrArg _ (split3 i)).trans (ref26_apply _ _ _ _ _ _ (i 0) (i 1) (i 2))

theorem result8 : Reference7Ideal.Read.val_main_v28 (F := Ideal) (argU m c) (argHR m c) (argHI m c) (argBR m c) (argBI m c)
    (argAR m c) (argAI m c) = (Kernel7Ideal.Gen.dats m 0 c).arrAt 8 Kernel7Ideal.cfg0.N := by
  rw [array8_eq]
  funext i
  exact (congrArg _ (split3 i)).trans (ref28_apply _ _ _ _ _ _ _ (i 0) (i 1) (i 2))

theorem value : algebraic_Kernel7Ideal_Reference7Ideal (hKernel7Ideal := Kernel7Ideal.Gen.facts)
    (hReference7Ideal := Reference7Ideal.Gen.facts) := by
  pair_intro
  · run_from (Kernel7Ideal.Value.run_blocks m g)
  · run_from (Reference7Ideal.Value.run m' g')
    · rw [Reference7Ideal.Read.val_main_v26_eq]
      exact result7 m c
    · obtain ⟨_, _, _, _, h4, h5, _, _, h8, h9⟩ := hagree c
      rw [Reference7Ideal.Read.val_main_v28_eq, h4, h5, h8, h9]
      exact result8 m c

end Cert.Rec
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.AttClaim
public import proofs.«01_k».proof.Proof.ProjClaim
public import proofs.«01_k».proof.Proof.MergeClaim
public import proofs.«01_k».proof.Proof.SampleProjClaim
public import proofs.«01_k».proof.Proof.SampleAttClaim
public import proofs.«01_k».proof.Proof.SampleMergeClaim
public import proofs.«01_k».proof.Proof.RecClaim

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Attn.pre_facts, Cert.SampleAttn.pre_facts,
  fun m ρ _ => Cert.Kernel.Gen.frame m ρ,
  fun m ρ _ => Cert.KernelIdeal.Gen.frame m ρ,
  fun m ρ _ => Cert.KernelIdeal.Gen.frame m ρ,
  Cert.Attn.frame_reference,
  Cert.Attn.frame_reference_pre,
  fun m ρ _ => Cert.Kernel2.Gen.frame m ρ,
  fun m ρ _ => Cert.Kernel2Ideal.Gen.frame m ρ,
  Cert.Proj.frame_reference,
  fun m ρ _ => Cert.Kernel3.Gen.frame m ρ,
  fun m ρ _ => Cert.Kernel3Ideal.Gen.frame m ρ,
  Cert.Merge.frame_reference,
  fun m ρ _ => Cert.Kernel4.Gen.frame m ρ,
  fun m ρ _ => Cert.Kernel4Ideal.Gen.frame m ρ,
  Cert.SampleProj.frame_reference,
  fun m ρ _ => Cert.Kernel5.Gen.frame m ρ,
  fun m ρ _ => Cert.Kernel5Ideal.Gen.frame m ρ,
  fun m ρ _ => Cert.Kernel5Ideal.Gen.frame m ρ,
  Cert.SampleAttn.frame_reference,
  Cert.SampleAttn.frame_reference_pre,
  fun m ρ _ => Cert.Kernel6.Gen.frame m ρ,
  fun m ρ _ => Cert.Kernel6Ideal.Gen.frame m ρ,
  Cert.SampleMerge.frame_reference,
  fun m ρ _ => Cert.Kernel7.Gen.frame m ρ,
  fun m ρ _ => Cert.Kernel7Ideal.Gen.frame m ρ,
  Cert.Rec.frame_reference,
  trivial,
  Cert.Attn.value,
  trivial,
  Cert.Proj.value,
  trivial,
  Cert.Merge.value,
  trivial,
  Cert.SampleProj.value,
  trivial,
  Cert.SampleAttn.value,
  trivial,
  Cert.SampleMerge.value,
  trivial,
  Cert.Rec.value⟩

end Cert.Proof

end
